-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnTwo (m : (ℓ : Loc Cert.FfnTwo.nD Cert.FfnTwo.τ Cert.FfnTwo.sig) → Buf (Elt Bits) ℓ) : Prop :=
  True

def Pre_FfnTwoIdeal (m : (ℓ : Loc Cert.FfnTwoIdeal.nD Cert.FfnTwoIdeal.τ Cert.FfnTwoIdeal.sig) → Buf (Elt Ideal) ℓ) : Prop :=
  True

def Pre_FfnTwoRefIdeal (m : (ℓ : Loc Cert.FfnTwoRefIdeal.nD Cert.FfnTwoRefIdeal.τ Cert.FfnTwoRefIdeal.sig) → Buf (Elt Ideal) ℓ) : Prop :=
  True

def Pre_NormMm (m : (ℓ : Loc Cert.NormMm.nD Cert.NormMm.τ Cert.NormMm.sig) → Buf (Elt Bits) ℓ) : Prop :=
  True

def Pre_NormMmIdeal (m : (ℓ : Loc Cert.NormMmIdeal.nD Cert.NormMmIdeal.τ Cert.NormMmIdeal.sig) → Buf (Elt Ideal) ℓ) : Prop :=
  True

def Pre_NormMmRefIdeal (m : (ℓ : Loc Cert.NormMmRefIdeal.nD Cert.NormMmRefIdeal.τ Cert.NormMmRefIdeal.sig) → Buf (Elt Ideal) ℓ) : Prop :=
  True

def Pre_NormMmTwo (m : (ℓ : Loc Cert.NormMmTwo.nD Cert.NormMmTwo.τ Cert.NormMmTwo.sig) → Buf (Elt Bits) ℓ) : Prop :=
  True

def Pre_NormMmTwoIdeal (m : (ℓ : Loc Cert.NormMmTwoIdeal.nD Cert.NormMmTwoIdeal.τ Cert.NormMmTwoIdeal.sig) → Buf (Elt Ideal) ℓ) : Prop :=
  True

def Pre_NormMmTwoRefIdeal (m : (ℓ : Loc Cert.NormMmTwoRefIdeal.nD Cert.NormMmTwoRefIdeal.τ Cert.NormMmTwoRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnTwo [hFfnTwo : Cert.FfnTwo.Facts] : Prop :=
  ∀ (m : (ℓ : Loc Cert.FfnTwo.nD Cert.FfnTwo.τ Cert.FfnTwo.sig) → Buf (Elt Bits) ℓ) (g : Dev Cert.FfnTwo.nD → PrngReg), Pre_FfnTwo m →
    θ_run (Cert.FfnTwo.defs (F := Bits)) (onTc (τ := Cert.FfnTwo.τ) (Cert.FfnTwo.main (F := Bits))) ⟨m, fun _ => 0, g⟩ (fun r => (∀ c : Dev Cert.FfnTwo.nD,
      r.2.mem ((c.tc : Thread Cert.FfnTwo.nD Cert.FfnTwo.τ).loc Cert.FfnTwo.main_arg0) = m ((c.tc : Thread Cert.FfnTwo.nD Cert.FfnTwo.τ).loc Cert.FfnTwo.main_arg0)
      ∧ r.2.mem ((c.tc : Thread Cert.FfnTwo.nD Cert.FfnTwo.τ).loc Cert.FfnTwo.main_arg1) = m ((c.tc : Thread Cert.FfnTwo.nD Cert.FfnTwo.τ).loc Cert.FfnTwo.main_arg1)
      ∧ r.2.mem ((c.tc : Thread Cert.FfnTwo.nD Cert.FfnTwo.τ).loc Cert.FfnTwo.main_arg2) = m ((c.tc : Thread Cert.FfnTwo.nD Cert.FfnTwo.τ).loc Cert.FfnTwo.main_arg2)
      ∧ r.2.mem ((c.tc : Thread Cert.FfnTwo.nD Cert.FfnTwo.τ).loc Cert.FfnTwo.main_arg3) = m ((c.tc : Thread Cert.FfnTwo.nD Cert.FfnTwo.τ).loc Cert.FfnTwo.main_arg3)
      ∧ r.2.mem ((c.tc : Thread Cert.FfnTwo.nD Cert.FfnTwo.τ).loc Cert.FfnTwo.main_arg4) = m ((c.tc : Thread Cert.FfnTwo.nD Cert.FfnTwo.τ).loc Cert.FfnTwo.main_arg4)
      ∧ r.2.mem ((c.tc : Thread Cert.FfnTwo.nD Cert.FfnTwo.τ).loc Cert.FfnTwo.main_arg5) = m ((c.tc : Thread Cert.FfnTwo.nD Cert.FfnTwo.τ).loc Cert.FfnTwo.main_arg5)
      ∧ r.2.mem ((c.tc : Thread Cert.FfnTwo.nD Cert.FfnTwo.τ).loc Cert.FfnTwo.main_arg6) = m ((c.tc : Thread Cert.FfnTwo.nD Cert.FfnTwo.τ).loc Cert.FfnTwo.main_arg6)
      ∧ r.2.mem ((c.tc : Thread Cert.FfnTwo.nD Cert.FfnTwo.τ).loc Cert.FfnTwo.main_arg7) = m ((c.tc : Thread Cert.FfnTwo.nD Cert.FfnTwo.τ).loc Cert.FfnTwo.main_arg7)
      ∧ r.2.mem ((c.tc : Thread Cert.FfnTwo.nD Cert.FfnTwo.τ).loc Cert.FfnTwo.main_arg8) = m ((c.tc : Thread Cert.FfnTwo.nD Cert.FfnTwo.τ).loc Cert.FfnTwo.main_arg8))
      ∧ r.2.sem = fun _ => 0)

def quiescent_FfnTwoIdeal [hFfnTwoIdeal : Cert.FfnTwoIdeal.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg), Pre_FfnTwoIdeal m →
    θ_run (Cert.FfnTwoIdeal.defs (F := Ideal)) (onTc (τ := Cert.FfnTwoIdeal.τ) (Cert.FfnTwoIdeal.main (F := Ideal))) ⟨m, fun _ => 0, g⟩ (fun r => (∀ c : Dev Cert.FfnTwoIdeal.nD,
      r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
      ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
      ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
      ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3)
      ∧ r.2.mem ((c.tc : Thread Cert.FfnTwoIdeal.nD Cert.FfnTwoIdeal.τ).loc Cert.FfnTwoIdeal.main_arg4) = m ((c.tc : Thread Cert.FfnTwoIdeal.nD Cert.FfnTwoIdeal.τ).loc Cert.FfnTwoIdeal.main_arg4)
      ∧ r.2.mem ((c.tc : Thread Cert.FfnTwoIdeal.nD Cert.FfnTwoIdeal.τ).loc Cert.FfnTwoIdeal.main_arg5) = m ((c.tc : Thread Cert.FfnTwoIdeal.nD Cert.FfnTwoIdeal.τ).loc Cert.FfnTwoIdeal.main_arg5)
      ∧ r.2.mem ((c.tc : Thread Cert.FfnTwoIdeal.nD Cert.FfnTwoIdeal.τ).loc Cert.FfnTwoIdeal.main_arg6) = m ((c.tc : Thread Cert.FfnTwoIdeal.nD Cert.FfnTwoIdeal.τ).loc Cert.FfnTwoIdeal.main_arg6)
      ∧ r.2.mem ((c.tc : Thread Cert.FfnTwoIdeal.nD Cert.FfnTwoIdeal.τ).loc Cert.FfnTwoIdeal.main_arg7) = m ((c.tc : Thread Cert.FfnTwoIdeal.nD Cert.FfnTwoIdeal.τ).loc Cert.FfnTwoIdeal.main_arg7)
      ∧ r.2.mem ((c.tc : Thread Cert.FfnTwoIdeal.nD Cert.FfnTwoIdeal.τ).loc Cert.FfnTwoIdeal.main_arg8) = m ((c.tc : Thread Cert.FfnTwoIdeal.nD Cert.FfnTwoIdeal.τ).loc Cert.FfnTwoIdeal.main_arg8))
      ∧ r.2.sem = fun _ => 0)

def quiescent_FfnTwoRefIdeal [hFfnTwoRefIdeal : Cert.FfnTwoRefIdeal.Facts] : Prop :=
  ∀ (m : (ℓ : Loc Cert.FfnTwoRefIdeal.nD Cert.FfnTwoRefIdeal.τ Cert.FfnTwoRefIdeal.sig) → Buf (Elt Ideal) ℓ) (g : Dev Cert.FfnTwoRefIdeal.nD → PrngReg), Pre_FfnTwoRefIdeal m →
    θ_run (Cert.FfnTwoRefIdeal.defs (F := Ideal)) (onTc (τ := Cert.FfnTwoRefIdeal.τ) (Cert.FfnTwoRefIdeal.main (F := Ideal))) ⟨m, fun _ => 0, g⟩ (fun r => (∀ c : Dev Cert.FfnTwoRefIdeal.nD,
      r.2.mem ((c.tc : Thread Cert.FfnTwoRefIdeal.nD Cert.FfnTwoRefIdeal.τ).loc Cert.FfnTwoRefIdeal.main_arg0) = m ((c.tc : Thread Cert.FfnTwoRefIdeal.nD Cert.FfnTwoRefIdeal.τ).loc Cert.FfnTwoRefIdeal.main_arg0)
      ∧ r.2.mem ((c.tc : Thread Cert.FfnTwoRefIdeal.nD Cert.FfnTwoRefIdeal.τ).loc Cert.FfnTwoRefIdeal.main_arg1) = m ((c.tc : Thread Cert.FfnTwoRefIdeal.nD Cert.FfnTwoRefIdeal.τ).loc Cert.FfnTwoRefIdeal.main_arg1)
      ∧ r.2.mem ((c.tc : Thread Cert.FfnTwoRefIdeal.nD Cert.FfnTwoRefIdeal.τ).loc Cert.FfnTwoRefIdeal.main_arg2) = m ((c.tc : Thread Cert.FfnTwoRefIdeal.nD Cert.FfnTwoRefIdeal.τ).loc Cert.FfnTwoRefIdeal.main_arg2)
      ∧ r.2.mem ((c.tc : Thread Cert.FfnTwoRefIdeal.nD Cert.FfnTwoRefIdeal.τ).loc Cert.FfnTwoRefIdeal.main_arg3) = m ((c.tc : Thread Cert.FfnTwoRefIdeal.nD Cert.FfnTwoRefIdeal.τ).loc Cert.FfnTwoRefIdeal.main_arg3)
      ∧ r.2.mem ((c.tc : Thread Cert.FfnTwoRefIdeal.nD Cert.FfnTwoRefIdeal.τ).loc Cert.FfnTwoRefIdeal.main_arg4) = m ((c.tc : Thread Cert.FfnTwoRefIdeal.nD Cert.FfnTwoRefIdeal.τ).loc Cert.FfnTwoRefIdeal.main_arg4)
      ∧ r.2.mem ((c.tc : Thread Cert.FfnTwoRefIdeal.nD Cert.FfnTwoRefIdeal.τ).loc Cert.FfnTwoRefIdeal.main_arg5) = m ((c.tc : Thread Cert.FfnTwoRefIdeal.nD Cert.FfnTwoRefIdeal.τ).loc Cert.FfnTwoRefIdeal.main_arg5)
      ∧ r.2.mem ((c.tc : Thread Cert.FfnTwoRefIdeal.nD Cert.FfnTwoRefIdeal.τ).loc Cert.FfnTwoRefIdeal.main_arg6) = m ((c.tc : Thread Cert.FfnTwoRefIdeal.nD Cert.FfnTwoRefIdeal.τ).loc Cert.FfnTwoRefIdeal.main_arg6)
      ∧ r.2.mem ((c.tc : Thread Cert.FfnTwoRefIdeal.nD Cert.FfnTwoRefIdeal.τ).loc Cert.FfnTwoRefIdeal.main_arg7) = m ((c.tc : Thread Cert.FfnTwoRefIdeal.nD Cert.FfnTwoRefIdeal.τ).loc Cert.FfnTwoRefIdeal.main_arg7)
      ∧ r.2.mem ((c.tc : Thread Cert.FfnTwoRefIdeal.nD Cert.FfnTwoRefIdeal.τ).loc Cert.FfnTwoRefIdeal.main_arg8) = m ((c.tc : Thread Cert.FfnTwoRefIdeal.nD Cert.FfnTwoRefIdeal.τ).loc Cert.FfnTwoRefIdeal.main_arg8))
      ∧ r.2.sem = fun _ => 0)

def quiescent_NormMm [hNormMm : Cert.NormMm.Facts] : Prop :=
  ∀ (m : (ℓ : Loc Cert.NormMm.nD Cert.NormMm.τ Cert.NormMm.sig) → Buf (Elt Bits) ℓ) (g : Dev Cert.NormMm.nD → PrngReg), Pre_NormMm m →
    θ_run (Cert.NormMm.defs (F := Bits)) (onTc (τ := Cert.NormMm.τ) (Cert.NormMm.main (F := Bits))) ⟨m, fun _ => 0, g⟩ (fun r => (∀ c : Dev Cert.NormMm.nD,
      r.2.mem ((c.tc : Thread Cert.NormMm.nD Cert.NormMm.τ).loc Cert.NormMm.main_arg0) = m ((c.tc : Thread Cert.NormMm.nD Cert.NormMm.τ).loc Cert.NormMm.main_arg0)
      ∧ r.2.mem ((c.tc : Thread Cert.NormMm.nD Cert.NormMm.τ).loc Cert.NormMm.main_arg1) = m ((c.tc : Thread Cert.NormMm.nD Cert.NormMm.τ).loc Cert.NormMm.main_arg1)
      ∧ r.2.mem ((c.tc : Thread Cert.NormMm.nD Cert.NormMm.τ).loc Cert.NormMm.main_arg2) = m ((c.tc : Thread Cert.NormMm.nD Cert.NormMm.τ).loc Cert.NormMm.main_arg2))
      ∧ r.2.sem = fun _ => 0)

def quiescent_NormMmIdeal [hNormMmIdeal : Cert.NormMmIdeal.Facts] : Prop :=
  ∀ (m : (ℓ : Loc Cert.NormMmIdeal.nD Cert.NormMmIdeal.τ Cert.NormMmIdeal.sig) → Buf (Elt Ideal) ℓ) (g : Dev Cert.NormMmIdeal.nD → PrngReg), Pre_NormMmIdeal m →
    θ_run (Cert.NormMmIdeal.defs (F := Ideal)) (onTc (τ := Cert.NormMmIdeal.τ) (Cert.NormMmIdeal.main (F := Ideal))) ⟨m, fun _ => 0, g⟩ (fun r => (∀ c : Dev Cert.NormMmIdeal.nD,
      r.2.mem ((c.tc : Thread Cert.NormMmIdeal.nD Cert.NormMmIdeal.τ).loc Cert.NormMmIdeal.main_arg0) = m ((c.tc : Thread Cert.NormMmIdeal.nD Cert.NormMmIdeal.τ).loc Cert.NormMmIdeal.main_arg0)
      ∧ r.2.mem ((c.tc : Thread Cert.NormMmIdeal.nD Cert.NormMmIdeal.τ).loc Cert.NormMmIdeal.main_arg1) = m ((c.tc : Thread Cert.NormMmIdeal.nD Cert.NormMmIdeal.τ).loc Cert.NormMmIdeal.main_arg1)
      ∧ r.2.mem ((c.tc : Thread Cert.NormMmIdeal.nD Cert.NormMmIdeal.τ).loc Cert.NormMmIdeal.main_arg2) = m ((c.tc : Thread Cert.NormMmIdeal.nD Cert.NormMmIdeal.τ).loc Cert.NormMmIdeal.main_arg2))
      ∧ r.2.sem = fun _ => 0)

def quiescent_NormMmRefIdeal [hNormMmRefIdeal : Cert.NormMmRefIdeal.Facts] : Prop :=
  ∀ (m : (ℓ : Loc Cert.NormMmRefIdeal.nD Cert.NormMmRefIdeal.τ Cert.NormMmRefIdeal.sig) → Buf (Elt Ideal) ℓ) (g : Dev Cert.NormMmRefIdeal.nD → PrngReg), Pre_NormMmRefIdeal m →
    θ_run (Cert.NormMmRefIdeal.defs (F := Ideal)) (onTc (τ := Cert.NormMmRefIdeal.τ) (Cert.NormMmRefIdeal.main (F := Ideal))) ⟨m, fun _ => 0, g⟩ (fun r => (∀ c : Dev Cert.NormMmRefIdeal.nD,
      r.2.mem ((c.tc : Thread Cert.NormMmRefIdeal.nD Cert.NormMmRefIdeal.τ).loc Cert.NormMmRefIdeal.main_arg0) = m ((c.tc : Thread Cert.NormMmRefIdeal.nD Cert.NormMmRefIdeal.τ).loc Cert.NormMmRefIdeal.main_arg0)
      ∧ r.2.mem ((c.tc : Thread Cert.NormMmRefIdeal.nD Cert.NormMmRefIdeal.τ).loc Cert.NormMmRefIdeal.main_arg1) = m ((c.tc : Thread Cert.NormMmRefIdeal.nD Cert.NormMmRefIdeal.τ).loc Cert.NormMmRefIdeal.main_arg1)
      ∧ r.2.mem ((c.tc : Thread Cert.NormMmRefIdeal.nD Cert.NormMmRefIdeal.τ).loc Cert.NormMmRefIdeal.main_arg2) = m ((c.tc : Thread Cert.NormMmRefIdeal.nD Cert.NormMmRefIdeal.τ).loc Cert.NormMmRefIdeal.main_arg2))
      ∧ r.2.sem = fun _ => 0)

def quiescent_NormMmTwo [hNormMmTwo : Cert.NormMmTwo.Facts] : Prop :=
  ∀ (m : (ℓ : Loc Cert.NormMmTwo.nD Cert.NormMmTwo.τ Cert.NormMmTwo.sig) → Buf (Elt Bits) ℓ) (g : Dev Cert.NormMmTwo.nD → PrngReg), Pre_NormMmTwo m →
    θ_run (Cert.NormMmTwo.defs (F := Bits)) (onTc (τ := Cert.NormMmTwo.τ) (Cert.NormMmTwo.main (F := Bits))) ⟨m, fun _ => 0, g⟩ (fun r => (∀ c : Dev Cert.NormMmTwo.nD,
      r.2.mem ((c.tc : Thread Cert.NormMmTwo.nD Cert.NormMmTwo.τ).loc Cert.NormMmTwo.main_arg0) = m ((c.tc : Thread Cert.NormMmTwo.nD Cert.NormMmTwo.τ).loc Cert.NormMmTwo.main_arg0)
      ∧ r.2.mem ((c.tc : Thread Cert.NormMmTwo.nD Cert.NormMmTwo.τ).loc Cert.NormMmTwo.main_arg1) = m ((c.tc : Thread Cert.NormMmTwo.nD Cert.NormMmTwo.τ).loc Cert.NormMmTwo.main_arg1)
      ∧ r.2.mem ((c.tc : Thread Cert.NormMmTwo.nD Cert.NormMmTwo.τ).loc Cert.NormMmTwo.main_arg2) = m ((c.tc : Thread Cert.NormMmTwo.nD Cert.NormMmTwo.τ).loc Cert.NormMmTwo.main_arg2))
      ∧ r.2.sem = fun _ => 0)

def quiescent_NormMmTwoIdeal [hNormMmTwoIdeal : Cert.NormMmTwoIdeal.Facts] : Prop :=
  ∀ (m : (ℓ : Loc Cert.NormMmTwoIdeal.nD Cert.NormMmTwoIdeal.τ Cert.NormMmTwoIdeal.sig) → Buf (Elt Ideal) ℓ) (g : Dev Cert.NormMmTwoIdeal.nD → PrngReg), Pre_NormMmTwoIdeal m →
    θ_run (Cert.NormMmTwoIdeal.defs (F := Ideal)) (onTc (τ := Cert.NormMmTwoIdeal.τ) (Cert.NormMmTwoIdeal.main (F := Ideal))) ⟨m, fun _ => 0, g⟩ (fun r => (∀ c : Dev Cert.NormMmTwoIdeal.nD,
      r.2.mem ((c.tc : Thread Cert.NormMmTwoIdeal.nD Cert.NormMmTwoIdeal.τ).loc Cert.NormMmTwoIdeal.main_arg0) = m ((c.tc : Thread Cert.NormMmTwoIdeal.nD Cert.NormMmTwoIdeal.τ).loc Cert.NormMmTwoIdeal.main_arg0)
      ∧ r.2.mem ((c.tc : Thread Cert.NormMmTwoIdeal.nD Cert.NormMmTwoIdeal.τ).loc Cert.NormMmTwoIdeal.main_arg1) = m ((c.tc : Thread Cert.NormMmTwoIdeal.nD Cert.NormMmTwoIdeal.τ).loc Cert.NormMmTwoIdeal.main_arg1)
      ∧ r.2.mem ((c.tc : Thread Cert.NormMmTwoIdeal.nD Cert.NormMmTwoIdeal.τ).loc Cert.NormMmTwoIdeal.main_arg2) = m ((c.tc : Thread Cert.NormMmTwoIdeal.nD Cert.NormMmTwoIdeal.τ).loc Cert.NormMmTwoIdeal.main_arg2))
      ∧ r.2.sem = fun _ => 0)

def quiescent_NormMmTwoRefIdeal [hNormMmTwoRefIdeal : Cert.NormMmTwoRefIdeal.Facts] : Prop :=
  ∀ (m : (ℓ : Loc Cert.NormMmTwoRefIdeal.nD Cert.NormMmTwoRefIdeal.τ Cert.NormMmTwoRefIdeal.sig) → Buf (Elt Ideal) ℓ) (g : Dev Cert.NormMmTwoRefIdeal.nD → PrngReg), Pre_NormMmTwoRefIdeal m →
    θ_run (Cert.NormMmTwoRefIdeal.defs (F := Ideal)) (onTc (τ := Cert.NormMmTwoRefIdeal.τ) (Cert.NormMmTwoRefIdeal.main (F := Ideal))) ⟨m, fun _ => 0, g⟩ (fun r => (∀ c : Dev Cert.NormMmTwoRefIdeal.nD,
      r.2.mem ((c.tc : Thread Cert.NormMmTwoRefIdeal.nD Cert.NormMmTwoRefIdeal.τ).loc Cert.NormMmTwoRefIdeal.main_arg0) = m ((c.tc : Thread Cert.NormMmTwoRefIdeal.nD Cert.NormMmTwoRefIdeal.τ).loc Cert.NormMmTwoRefIdeal.main_arg0)
      ∧ r.2.mem ((c.tc : Thread Cert.NormMmTwoRefIdeal.nD Cert.NormMmTwoRefIdeal.τ).loc Cert.NormMmTwoRefIdeal.main_arg1) = m ((c.tc : Thread Cert.NormMmTwoRefIdeal.nD Cert.NormMmTwoRefIdeal.τ).loc Cert.NormMmTwoRefIdeal.main_arg1)
      ∧ r.2.mem ((c.tc : Thread Cert.NormMmTwoRefIdeal.nD Cert.NormMmTwoRefIdeal.τ).loc Cert.NormMmTwoRefIdeal.main_arg2) = m ((c.tc : Thread Cert.NormMmTwoRefIdeal.nD Cert.NormMmTwoRefIdeal.τ).loc Cert.NormMmTwoRefIdeal.main_arg2))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4)
      ∧ r.2.mem ((c.tc : Thread Cert.Cmp.nD Cert.Cmp.τ).loc Cert.Cmp.main_arg5) = m ((c.tc : Thread Cert.Cmp.nD Cert.Cmp.τ).loc Cert.Cmp.main_arg5)
      ∧ r.2.mem ((c.tc : Thread Cert.Cmp.nD Cert.Cmp.τ).loc Cert.Cmp.main_arg6) = m ((c.tc : Thread Cert.Cmp.nD Cert.Cmp.τ).loc Cert.Cmp.main_arg6)
      ∧ r.2.mem ((c.tc : Thread Cert.Cmp.nD Cert.Cmp.τ).loc Cert.Cmp.main_arg7) = m ((c.tc : Thread Cert.Cmp.nD Cert.Cmp.τ).loc Cert.Cmp.main_arg7)
      ∧ r.2.mem ((c.tc : Thread Cert.Cmp.nD Cert.Cmp.τ).loc Cert.Cmp.main_arg8) = m ((c.tc : Thread Cert.Cmp.nD Cert.Cmp.τ).loc Cert.Cmp.main_arg8)
      ∧ r.2.mem ((c.tc : Thread Cert.Cmp.nD Cert.Cmp.τ).loc Cert.Cmp.main_arg9) = m ((c.tc : Thread Cert.Cmp.nD Cert.Cmp.τ).loc Cert.Cmp.main_arg9))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
      ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6)
      ∧ r.2.mem ((c.tc : Thread Cert.CmpIdeal.nD Cert.CmpIdeal.τ).loc Cert.CmpIdeal.main_arg7) = m ((c.tc : Thread Cert.CmpIdeal.nD Cert.CmpIdeal.τ).loc Cert.CmpIdeal.main_arg7)
      ∧ r.2.mem ((c.tc : Thread Cert.CmpIdeal.nD Cert.CmpIdeal.τ).loc Cert.CmpIdeal.main_arg8) = m ((c.tc : Thread Cert.CmpIdeal.nD Cert.CmpIdeal.τ).loc Cert.CmpIdeal.main_arg8)
      ∧ r.2.mem ((c.tc : Thread Cert.CmpIdeal.nD Cert.CmpIdeal.τ).loc Cert.CmpIdeal.main_arg9) = m ((c.tc : Thread Cert.CmpIdeal.nD Cert.CmpIdeal.τ).loc Cert.CmpIdeal.main_arg9))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5)
      ∧ r.2.mem ((c.tc : Thread Cert.CmpRefIdeal.nD Cert.CmpRefIdeal.τ).loc Cert.CmpRefIdeal.main_arg6) = m ((c.tc : Thread Cert.CmpRefIdeal.nD Cert.CmpRefIdeal.τ).loc Cert.CmpRefIdeal.main_arg6)
      ∧ r.2.mem ((c.tc : Thread Cert.CmpRefIdeal.nD Cert.CmpRefIdeal.τ).loc Cert.CmpRefIdeal.main_arg7) = m ((c.tc : Thread Cert.CmpRefIdeal.nD Cert.CmpRefIdeal.τ).loc Cert.CmpRefIdeal.main_arg7)
      ∧ r.2.mem ((c.tc : Thread Cert.CmpRefIdeal.nD Cert.CmpRefIdeal.τ).loc Cert.CmpRefIdeal.main_arg8) = m ((c.tc : Thread Cert.CmpRefIdeal.nD Cert.CmpRefIdeal.τ).loc Cert.CmpRefIdeal.main_arg8)
      ∧ r.2.mem ((c.tc : Thread Cert.CmpRefIdeal.nD Cert.CmpRefIdeal.τ).loc Cert.CmpRefIdeal.main_arg9) = m ((c.tc : Thread Cert.CmpRefIdeal.nD Cert.CmpRefIdeal.τ).loc Cert.CmpRefIdeal.main_arg9))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v46) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_FfnTwo_FfnTwoIdeal : Prop :=
  True

def algebraic_FfnTwoIdeal_FfnTwoRefIdeal [hFfnTwoIdeal : Cert.FfnTwoIdeal.Facts] [hFfnTwoRefIdeal : Cert.FfnTwoRefIdeal.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg)
    (m' : (ℓ : Loc Cert.FfnTwoRefIdeal.nD Cert.FfnTwoRefIdeal.τ Cert.FfnTwoRefIdeal.sig) → Buf (Elt Ideal) ℓ) (g' : Dev Cert.FfnTwoRefIdeal.nD → PrngReg), Pre_FfnTwoIdeal m →
    (∀ c : Dev Cert.FfnTwoIdeal.nD,
      m' ((c.tc : Thread Cert.FfnTwoRefIdeal.nD Cert.FfnTwoRefIdeal.τ).loc Cert.FfnTwoRefIdeal.main_arg0) = m ((c.tc : Thread Cert.FfnTwoIdeal.nD Cert.FfnTwoIdeal.τ).loc Cert.FfnTwoIdeal.main_arg0)
      ∧ m' ((c.tc : Thread Cert.FfnTwoRefIdeal.nD Cert.FfnTwoRefIdeal.τ).loc Cert.FfnTwoRefIdeal.main_arg1) = m ((c.tc : Thread Cert.FfnTwoIdeal.nD Cert.FfnTwoIdeal.τ).loc Cert.FfnTwoIdeal.main_arg1)
      ∧ m' ((c.tc : Thread Cert.FfnTwoRefIdeal.nD Cert.FfnTwoRefIdeal.τ).loc Cert.FfnTwoRefIdeal.main_arg2) = m ((c.tc : Thread Cert.FfnTwoIdeal.nD Cert.FfnTwoIdeal.τ).loc Cert.FfnTwoIdeal.main_arg2)
      ∧ m' ((c.tc : Thread Cert.FfnTwoRefIdeal.nD Cert.FfnTwoRefIdeal.τ).loc Cert.FfnTwoRefIdeal.main_arg3) = m ((c.tc : Thread Cert.FfnTwoIdeal.nD Cert.FfnTwoIdeal.τ).loc Cert.FfnTwoIdeal.main_arg3)
      ∧ m' ((c.tc : Thread Cert.FfnTwoRefIdeal.nD Cert.FfnTwoRefIdeal.τ).loc Cert.FfnTwoRefIdeal.main_arg4) = m ((c.tc : Thread Cert.FfnTwoIdeal.nD Cert.FfnTwoIdeal.τ).loc Cert.FfnTwoIdeal.main_arg4)
      ∧ m' ((c.tc : Thread Cert.FfnTwoRefIdeal.nD Cert.FfnTwoRefIdeal.τ).loc Cert.FfnTwoRefIdeal.main_arg5) = m ((c.tc : Thread Cert.FfnTwoIdeal.nD Cert.FfnTwoIdeal.τ).loc Cert.FfnTwoIdeal.main_arg5)
      ∧ m' ((c.tc : Thread Cert.FfnTwoRefIdeal.nD Cert.FfnTwoRefIdeal.τ).loc Cert.FfnTwoRefIdeal.main_arg6) = m ((c.tc : Thread Cert.FfnTwoIdeal.nD Cert.FfnTwoIdeal.τ).loc Cert.FfnTwoIdeal.main_arg6)
      ∧ m' ((c.tc : Thread Cert.FfnTwoRefIdeal.nD Cert.FfnTwoRefIdeal.τ).loc Cert.FfnTwoRefIdeal.main_arg7) = m ((c.tc : Thread Cert.FfnTwoIdeal.nD Cert.FfnTwoIdeal.τ).loc Cert.FfnTwoIdeal.main_arg7)
      ∧ m' ((c.tc : Thread Cert.FfnTwoRefIdeal.nD Cert.FfnTwoRefIdeal.τ).loc Cert.FfnTwoRefIdeal.main_arg8) = m ((c.tc : Thread Cert.FfnTwoIdeal.nD Cert.FfnTwoIdeal.τ).loc Cert.FfnTwoIdeal.main_arg8)) →
    ∃ (v0 : (c : Dev Cert.FfnTwoIdeal.nD) → Buf (Elt Ideal) ((c.tc : Thread Cert.FfnTwoIdeal.nD Cert.FfnTwoIdeal.τ).loc Cert.FfnTwoIdeal.main_v9)),
      θ_run (Cert.FfnTwoIdeal.defs (F := Ideal)) (onTc (τ := Cert.FfnTwoIdeal.τ) (Cert.FfnTwoIdeal.main (F := Ideal))) ⟨m, fun _ => 0, g⟩ (fun r => ∀ c : Dev Cert.FfnTwoIdeal.nD,
          r.2.mem ((c.tc : Thread Cert.FfnTwoIdeal.nD Cert.FfnTwoIdeal.τ).loc Cert.FfnTwoIdeal.main_v9) = v0 c
          ∧ r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
          ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
          ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
          ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3)
          ∧ r.2.mem ((c.tc : Thread Cert.FfnTwoIdeal.nD Cert.FfnTwoIdeal.τ).loc Cert.FfnTwoIdeal.main_arg4) = m ((c.tc : Thread Cert.FfnTwoIdeal.nD Cert.FfnTwoIdeal.τ).loc Cert.FfnTwoIdeal.main_arg4)
          ∧ r.2.mem ((c.tc : Thread Cert.FfnTwoIdeal.nD Cert.FfnTwoIdeal.τ).loc Cert.FfnTwoIdeal.main_arg5) = m ((c.tc : Thread Cert.FfnTwoIdeal.nD Cert.FfnTwoIdeal.τ).loc Cert.FfnTwoIdeal.main_arg5)
          ∧ r.2.mem ((c.tc : Thread Cert.FfnTwoIdeal.nD Cert.FfnTwoIdeal.τ).loc Cert.FfnTwoIdeal.main_arg6) = m ((c.tc : Thread Cert.FfnTwoIdeal.nD Cert.FfnTwoIdeal.τ).loc Cert.FfnTwoIdeal.main_arg6)
          ∧ r.2.mem ((c.tc : Thread Cert.FfnTwoIdeal.nD Cert.FfnTwoIdeal.τ).loc Cert.FfnTwoIdeal.main_arg7) = m ((c.tc : Thread Cert.FfnTwoIdeal.nD Cert.FfnTwoIdeal.τ).loc Cert.FfnTwoIdeal.main_arg7)
          ∧ r.2.mem ((c.tc : Thread Cert.FfnTwoIdeal.nD Cert.FfnTwoIdeal.τ).loc Cert.FfnTwoIdeal.main_arg8) = m ((c.tc : Thread Cert.FfnTwoIdeal.nD Cert.FfnTwoIdeal.τ).loc Cert.FfnTwoIdeal.main_arg8))
      ∧ θ_run (Cert.FfnTwoRefIdeal.defs (F := Ideal)) (onTc (τ := Cert.FfnTwoRefIdeal.τ) (Cert.FfnTwoRefIdeal.main (F := Ideal))) ⟨m', fun _ => 0, g'⟩ (fun r => ∀ c : Dev Cert.FfnTwoRefIdeal.nD,
          r.2.mem ((c.tc : Thread Cert.FfnTwoRefIdeal.nD Cert.FfnTwoRefIdeal.τ).loc Cert.FfnTwoRefIdeal.main_v46) = v0 c
          ∧ r.2.mem ((c.tc : Thread Cert.FfnTwoRefIdeal.nD Cert.FfnTwoRefIdeal.τ).loc Cert.FfnTwoRefIdeal.main_arg0) = m' ((c.tc : Thread Cert.FfnTwoRefIdeal.nD Cert.FfnTwoRefIdeal.τ).loc Cert.FfnTwoRefIdeal.main_arg0)
          ∧ r.2.mem ((c.tc : Thread Cert.FfnTwoRefIdeal.nD Cert.FfnTwoRefIdeal.τ).loc Cert.FfnTwoRefIdeal.main_arg1) = m' ((c.tc : Thread Cert.FfnTwoRefIdeal.nD Cert.FfnTwoRefIdeal.τ).loc Cert.FfnTwoRefIdeal.main_arg1)
          ∧ r.2.mem ((c.tc : Thread Cert.FfnTwoRefIdeal.nD Cert.FfnTwoRefIdeal.τ).loc Cert.FfnTwoRefIdeal.main_arg2) = m' ((c.tc : Thread Cert.FfnTwoRefIdeal.nD Cert.FfnTwoRefIdeal.τ).loc Cert.FfnTwoRefIdeal.main_arg2)
          ∧ r.2.mem ((c.tc : Thread Cert.FfnTwoRefIdeal.nD Cert.FfnTwoRefIdeal.τ).loc Cert.FfnTwoRefIdeal.main_arg3) = m' ((c.tc : Thread Cert.FfnTwoRefIdeal.nD Cert.FfnTwoRefIdeal.τ).loc Cert.FfnTwoRefIdeal.main_arg3)
          ∧ r.2.mem ((c.tc : Thread Cert.FfnTwoRefIdeal.nD Cert.FfnTwoRefIdeal.τ).loc Cert.FfnTwoRefIdeal.main_arg4) = m' ((c.tc : Thread Cert.FfnTwoRefIdeal.nD Cert.FfnTwoRefIdeal.τ).loc Cert.FfnTwoRefIdeal.main_arg4)
          ∧ r.2.mem ((c.tc : Thread Cert.FfnTwoRefIdeal.nD Cert.FfnTwoRefIdeal.τ).loc Cert.FfnTwoRefIdeal.main_arg5) = m' ((c.tc : Thread Cert.FfnTwoRefIdeal.nD Cert.FfnTwoRefIdeal.τ).loc Cert.FfnTwoRefIdeal.main_arg5)
          ∧ r.2.mem ((c.tc : Thread Cert.FfnTwoRefIdeal.nD Cert.FfnTwoRefIdeal.τ).loc Cert.FfnTwoRefIdeal.main_arg6) = m' ((c.tc : Thread Cert.FfnTwoRefIdeal.nD Cert.FfnTwoRefIdeal.τ).loc Cert.FfnTwoRefIdeal.main_arg6)
          ∧ r.2.mem ((c.tc : Thread Cert.FfnTwoRefIdeal.nD Cert.FfnTwoRefIdeal.τ).loc Cert.FfnTwoRefIdeal.main_arg7) = m' ((c.tc : Thread Cert.FfnTwoRefIdeal.nD Cert.FfnTwoRefIdeal.τ).loc Cert.FfnTwoRefIdeal.main_arg7)
          ∧ r.2.mem ((c.tc : Thread Cert.FfnTwoRefIdeal.nD Cert.FfnTwoRefIdeal.τ).loc Cert.FfnTwoRefIdeal.main_arg8) = m' ((c.tc : Thread Cert.FfnTwoRefIdeal.nD Cert.FfnTwoRefIdeal.τ).loc Cert.FfnTwoRefIdeal.main_arg8))

def preserves_NormMm_NormMmIdeal : Prop :=
  True

def algebraic_NormMmIdeal_NormMmRefIdeal [hNormMmIdeal : Cert.NormMmIdeal.Facts] [hNormMmRefIdeal : Cert.NormMmRefIdeal.Facts] : Prop :=
  ∀ (m : (ℓ : Loc Cert.NormMmIdeal.nD Cert.NormMmIdeal.τ Cert.NormMmIdeal.sig) → Buf (Elt Ideal) ℓ) (g : Dev Cert.NormMmIdeal.nD → PrngReg)
    (m' : (ℓ : Loc Cert.NormMmRefIdeal.nD Cert.NormMmRefIdeal.τ Cert.NormMmRefIdeal.sig) → Buf (Elt Ideal) ℓ) (g' : Dev Cert.NormMmRefIdeal.nD → PrngReg), Pre_NormMmIdeal m →
    (∀ c : Dev Cert.NormMmIdeal.nD,
      m' ((c.tc : Thread Cert.NormMmRefIdeal.nD Cert.NormMmRefIdeal.τ).loc Cert.NormMmRefIdeal.main_arg0) = m ((c.tc : Thread Cert.NormMmIdeal.nD Cert.NormMmIdeal.τ).loc Cert.NormMmIdeal.main_arg0)
      ∧ m' ((c.tc : Thread Cert.NormMmRefIdeal.nD Cert.NormMmRefIdeal.τ).loc Cert.NormMmRefIdeal.main_arg1) = m ((c.tc : Thread Cert.NormMmIdeal.nD Cert.NormMmIdeal.τ).loc Cert.NormMmIdeal.main_arg1)
      ∧ m' ((c.tc : Thread Cert.NormMmRefIdeal.nD Cert.NormMmRefIdeal.τ).loc Cert.NormMmRefIdeal.main_arg2) = m ((c.tc : Thread Cert.NormMmIdeal.nD Cert.NormMmIdeal.τ).loc Cert.NormMmIdeal.main_arg2)) →
    ∃ (v0 : (c : Dev Cert.NormMmIdeal.nD) → Buf (Elt Ideal) ((c.tc : Thread Cert.NormMmIdeal.nD Cert.NormMmIdeal.τ).loc Cert.NormMmIdeal.main_v2_0)) (v1 : (c : Dev Cert.NormMmIdeal.nD) → Buf (Elt Ideal) ((c.tc : Thread Cert.NormMmIdeal.nD Cert.NormMmIdeal.τ).loc Cert.NormMmIdeal.main_v2_1)),
      θ_run (Cert.NormMmIdeal.defs (F := Ideal)) (onTc (τ := Cert.NormMmIdeal.τ) (Cert.NormMmIdeal.main (F := Ideal))) ⟨m, fun _ => 0, g⟩ (fun r => ∀ c : Dev Cert.NormMmIdeal.nD,
          r.2.mem ((c.tc : Thread Cert.NormMmIdeal.nD Cert.NormMmIdeal.τ).loc Cert.NormMmIdeal.main_v2_0) = v0 c
          ∧ r.2.mem ((c.tc : Thread Cert.NormMmIdeal.nD Cert.NormMmIdeal.τ).loc Cert.NormMmIdeal.main_v2_1) = v1 c
          ∧ r.2.mem ((c.tc : Thread Cert.NormMmIdeal.nD Cert.NormMmIdeal.τ).loc Cert.NormMmIdeal.main_arg0) = m ((c.tc : Thread Cert.NormMmIdeal.nD Cert.NormMmIdeal.τ).loc Cert.NormMmIdeal.main_arg0)
          ∧ r.2.mem ((c.tc : Thread Cert.NormMmIdeal.nD Cert.NormMmIdeal.τ).loc Cert.NormMmIdeal.main_arg1) = m ((c.tc : Thread Cert.NormMmIdeal.nD Cert.NormMmIdeal.τ).loc Cert.NormMmIdeal.main_arg1)
          ∧ r.2.mem ((c.tc : Thread Cert.NormMmIdeal.nD Cert.NormMmIdeal.τ).loc Cert.NormMmIdeal.main_arg2) = m ((c.tc : Thread Cert.NormMmIdeal.nD Cert.NormMmIdeal.τ).loc Cert.NormMmIdeal.main_arg2))
      ∧ θ_run (Cert.NormMmRefIdeal.defs (F := Ideal)) (onTc (τ := Cert.NormMmRefIdeal.τ) (Cert.NormMmRefIdeal.main (F := Ideal))) ⟨m', fun _ => 0, g'⟩ (fun r => ∀ c : Dev Cert.NormMmRefIdeal.nD,
          r.2.mem ((c.tc : Thread Cert.NormMmRefIdeal.nD Cert.NormMmRefIdeal.τ).loc Cert.NormMmRefIdeal.main_v15) = v0 c
          ∧ r.2.mem ((c.tc : Thread Cert.NormMmRefIdeal.nD Cert.NormMmRefIdeal.τ).loc Cert.NormMmRefIdeal.main_v16) = v1 c
          ∧ r.2.mem ((c.tc : Thread Cert.NormMmRefIdeal.nD Cert.NormMmRefIdeal.τ).loc Cert.NormMmRefIdeal.main_arg0) = m' ((c.tc : Thread Cert.NormMmRefIdeal.nD Cert.NormMmRefIdeal.τ).loc Cert.NormMmRefIdeal.main_arg0)
          ∧ r.2.mem ((c.tc : Thread Cert.NormMmRefIdeal.nD Cert.NormMmRefIdeal.τ).loc Cert.NormMmRefIdeal.main_arg1) = m' ((c.tc : Thread Cert.NormMmRefIdeal.nD Cert.NormMmRefIdeal.τ).loc Cert.NormMmRefIdeal.main_arg1)
          ∧ r.2.mem ((c.tc : Thread Cert.NormMmRefIdeal.nD Cert.NormMmRefIdeal.τ).loc Cert.NormMmRefIdeal.main_arg2) = m' ((c.tc : Thread Cert.NormMmRefIdeal.nD Cert.NormMmRefIdeal.τ).loc Cert.NormMmRefIdeal.main_arg2))

def preserves_NormMmTwo_NormMmTwoIdeal : Prop :=
  True

def algebraic_NormMmTwoIdeal_NormMmTwoRefIdeal [hNormMmTwoIdeal : Cert.NormMmTwoIdeal.Facts] [hNormMmTwoRefIdeal : Cert.NormMmTwoRefIdeal.Facts] : Prop :=
  ∀ (m : (ℓ : Loc Cert.NormMmTwoIdeal.nD Cert.NormMmTwoIdeal.τ Cert.NormMmTwoIdeal.sig) → Buf (Elt Ideal) ℓ) (g : Dev Cert.NormMmTwoIdeal.nD → PrngReg)
    (m' : (ℓ : Loc Cert.NormMmTwoRefIdeal.nD Cert.NormMmTwoRefIdeal.τ Cert.NormMmTwoRefIdeal.sig) → Buf (Elt Ideal) ℓ) (g' : Dev Cert.NormMmTwoRefIdeal.nD → PrngReg), Pre_NormMmTwoIdeal m →
    (∀ c : Dev Cert.NormMmTwoIdeal.nD,
      m' ((c.tc : Thread Cert.NormMmTwoRefIdeal.nD Cert.NormMmTwoRefIdeal.τ).loc Cert.NormMmTwoRefIdeal.main_arg0) = m ((c.tc : Thread Cert.NormMmTwoIdeal.nD Cert.NormMmTwoIdeal.τ).loc Cert.NormMmTwoIdeal.main_arg0)
      ∧ m' ((c.tc : Thread Cert.NormMmTwoRefIdeal.nD Cert.NormMmTwoRefIdeal.τ).loc Cert.NormMmTwoRefIdeal.main_arg1) = m ((c.tc : Thread Cert.NormMmTwoIdeal.nD Cert.NormMmTwoIdeal.τ).loc Cert.NormMmTwoIdeal.main_arg1)
      ∧ m' ((c.tc : Thread Cert.NormMmTwoRefIdeal.nD Cert.NormMmTwoRefIdeal.τ).loc Cert.NormMmTwoRefIdeal.main_arg2) = m ((c.tc : Thread Cert.NormMmTwoIdeal.nD Cert.NormMmTwoIdeal.τ).loc Cert.NormMmTwoIdeal.main_arg2)) →
    ∃ (v0 : (c : Dev Cert.NormMmTwoIdeal.nD) → Buf (Elt Ideal) ((c.tc : Thread Cert.NormMmTwoIdeal.nD Cert.NormMmTwoIdeal.τ).loc Cert.NormMmTwoIdeal.main_v2_0)) (v1 : (c : Dev Cert.NormMmTwoIdeal.nD) → Buf (Elt Ideal) ((c.tc : Thread Cert.NormMmTwoIdeal.nD Cert.NormMmTwoIdeal.τ).loc Cert.NormMmTwoIdeal.main_v2_1)),
      θ_run (Cert.NormMmTwoIdeal.defs (F := Ideal)) (onTc (τ := Cert.NormMmTwoIdeal.τ) (Cert.NormMmTwoIdeal.main (F := Ideal))) ⟨m, fun _ => 0, g⟩ (fun r => ∀ c : Dev Cert.NormMmTwoIdeal.nD,
          r.2.mem ((c.tc : Thread Cert.NormMmTwoIdeal.nD Cert.NormMmTwoIdeal.τ).loc Cert.NormMmTwoIdeal.main_v2_0) = v0 c
          ∧ r.2.mem ((c.tc : Thread Cert.NormMmTwoIdeal.nD Cert.NormMmTwoIdeal.τ).loc Cert.NormMmTwoIdeal.main_v2_1) = v1 c
          ∧ r.2.mem ((c.tc : Thread Cert.NormMmTwoIdeal.nD Cert.NormMmTwoIdeal.τ).loc Cert.NormMmTwoIdeal.main_arg0) = m ((c.tc : Thread Cert.NormMmTwoIdeal.nD Cert.NormMmTwoIdeal.τ).loc Cert.NormMmTwoIdeal.main_arg0)
          ∧ r.2.mem ((c.tc : Thread Cert.NormMmTwoIdeal.nD Cert.NormMmTwoIdeal.τ).loc Cert.NormMmTwoIdeal.main_arg1) = m ((c.tc : Thread Cert.NormMmTwoIdeal.nD Cert.NormMmTwoIdeal.τ).loc Cert.NormMmTwoIdeal.main_arg1)
          ∧ r.2.mem ((c.tc : Thread Cert.NormMmTwoIdeal.nD Cert.NormMmTwoIdeal.τ).loc Cert.NormMmTwoIdeal.main_arg2) = m ((c.tc : Thread Cert.NormMmTwoIdeal.nD Cert.NormMmTwoIdeal.τ).loc Cert.NormMmTwoIdeal.main_arg2))
      ∧ θ_run (Cert.NormMmTwoRefIdeal.defs (F := Ideal)) (onTc (τ := Cert.NormMmTwoRefIdeal.τ) (Cert.NormMmTwoRefIdeal.main (F := Ideal))) ⟨m', fun _ => 0, g'⟩ (fun r => ∀ c : Dev Cert.NormMmTwoRefIdeal.nD,
          r.2.mem ((c.tc : Thread Cert.NormMmTwoRefIdeal.nD Cert.NormMmTwoRefIdeal.τ).loc Cert.NormMmTwoRefIdeal.main_v15) = v0 c
          ∧ r.2.mem ((c.tc : Thread Cert.NormMmTwoRefIdeal.nD Cert.NormMmTwoRefIdeal.τ).loc Cert.NormMmTwoRefIdeal.main_v16) = v1 c
          ∧ r.2.mem ((c.tc : Thread Cert.NormMmTwoRefIdeal.nD Cert.NormMmTwoRefIdeal.τ).loc Cert.NormMmTwoRefIdeal.main_arg0) = m' ((c.tc : Thread Cert.NormMmTwoRefIdeal.nD Cert.NormMmTwoRefIdeal.τ).loc Cert.NormMmTwoRefIdeal.main_arg0)
          ∧ r.2.mem ((c.tc : Thread Cert.NormMmTwoRefIdeal.nD Cert.NormMmTwoRefIdeal.τ).loc Cert.NormMmTwoRefIdeal.main_arg1) = m' ((c.tc : Thread Cert.NormMmTwoRefIdeal.nD Cert.NormMmTwoRefIdeal.τ).loc Cert.NormMmTwoRefIdeal.main_arg1)
          ∧ r.2.mem ((c.tc : Thread Cert.NormMmTwoRefIdeal.nD Cert.NormMmTwoRefIdeal.τ).loc Cert.NormMmTwoRefIdeal.main_arg2) = m' ((c.tc : Thread Cert.NormMmTwoRefIdeal.nD Cert.NormMmTwoRefIdeal.τ).loc Cert.NormMmTwoRefIdeal.main_arg2))

def preserves_Cmp_CmpIdeal : Prop :=
  True

def algebraic_CmpIdeal_CmpRefIdeal [hCmpIdeal : Cert.CmpIdeal.Facts] [hCmpRefIdeal : Cert.CmpRefIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)
      ∧ m' ((c.tc : Thread Cert.CmpRefIdeal.nD Cert.CmpRefIdeal.τ).loc Cert.CmpRefIdeal.main_arg4) = m ((c.tc : Thread Cert.CmpIdeal.nD Cert.CmpIdeal.τ).loc Cert.CmpIdeal.main_arg4)
      ∧ m' ((c.tc : Thread Cert.CmpRefIdeal.nD Cert.CmpRefIdeal.τ).loc Cert.CmpRefIdeal.main_arg5) = m ((c.tc : Thread Cert.CmpIdeal.nD Cert.CmpIdeal.τ).loc Cert.CmpIdeal.main_arg5)
      ∧ m' ((c.tc : Thread Cert.CmpRefIdeal.nD Cert.CmpRefIdeal.τ).loc Cert.CmpRefIdeal.main_arg6) = m ((c.tc : Thread Cert.CmpIdeal.nD Cert.CmpIdeal.τ).loc Cert.CmpIdeal.main_arg6)
      ∧ m' ((c.tc : Thread Cert.CmpRefIdeal.nD Cert.CmpRefIdeal.τ).loc Cert.CmpRefIdeal.main_arg7) = m ((c.tc : Thread Cert.CmpIdeal.nD Cert.CmpIdeal.τ).loc Cert.CmpIdeal.main_arg7)
      ∧ m' ((c.tc : Thread Cert.CmpRefIdeal.nD Cert.CmpRefIdeal.τ).loc Cert.CmpRefIdeal.main_arg8) = m ((c.tc : Thread Cert.CmpIdeal.nD Cert.CmpIdeal.τ).loc Cert.CmpIdeal.main_arg8)
      ∧ m' ((c.tc : Thread Cert.CmpRefIdeal.nD Cert.CmpRefIdeal.τ).loc Cert.CmpRefIdeal.main_arg9) = m ((c.tc : Thread Cert.CmpIdeal.nD Cert.CmpIdeal.τ).loc Cert.CmpIdeal.main_arg9)) →
    ∃ (v0 : (c : Dev Cert.CmpIdeal.nD) → Buf (Elt Ideal) ((c.tc : Thread Cert.CmpIdeal.nD Cert.CmpIdeal.τ).loc Cert.CmpIdeal.main_v14_0)) (v1 : (c : Dev Cert.CmpIdeal.nD) → Buf (Elt Ideal) ((c.tc : Thread Cert.CmpIdeal.nD Cert.CmpIdeal.τ).loc Cert.CmpIdeal.main_v14_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v14_0) = v0 c
          ∧ r.2.mem ((c.tc : Thread Cert.CmpIdeal.nD Cert.CmpIdeal.τ).loc Cert.CmpIdeal.main_v14_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
          ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
          ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6)
          ∧ r.2.mem ((c.tc : Thread Cert.CmpIdeal.nD Cert.CmpIdeal.τ).loc Cert.CmpIdeal.main_arg7) = m ((c.tc : Thread Cert.CmpIdeal.nD Cert.CmpIdeal.τ).loc Cert.CmpIdeal.main_arg7)
          ∧ r.2.mem ((c.tc : Thread Cert.CmpIdeal.nD Cert.CmpIdeal.τ).loc Cert.CmpIdeal.main_arg8) = m ((c.tc : Thread Cert.CmpIdeal.nD Cert.CmpIdeal.τ).loc Cert.CmpIdeal.main_arg8)
          ∧ r.2.mem ((c.tc : Thread Cert.CmpIdeal.nD Cert.CmpIdeal.τ).loc Cert.CmpIdeal.main_arg9) = m ((c.tc : Thread Cert.CmpIdeal.nD Cert.CmpIdeal.τ).loc Cert.CmpIdeal.main_arg9))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v54) = v0 c
          ∧ r.2.mem ((c.tc : Thread Cert.CmpRefIdeal.nD Cert.CmpRefIdeal.τ).loc Cert.CmpRefIdeal.main_v56) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4)
          ∧ r.2.mem ((c.tc : Thread Cert.CmpRefIdeal.nD Cert.CmpRefIdeal.τ).loc Cert.CmpRefIdeal.main_arg5) = m' ((c.tc : Thread Cert.CmpRefIdeal.nD Cert.CmpRefIdeal.τ).loc Cert.CmpRefIdeal.main_arg5)
          ∧ r.2.mem ((c.tc : Thread Cert.CmpRefIdeal.nD Cert.CmpRefIdeal.τ).loc Cert.CmpRefIdeal.main_arg6) = m' ((c.tc : Thread Cert.CmpRefIdeal.nD Cert.CmpRefIdeal.τ).loc Cert.CmpRefIdeal.main_arg6)
          ∧ r.2.mem ((c.tc : Thread Cert.CmpRefIdeal.nD Cert.CmpRefIdeal.τ).loc Cert.CmpRefIdeal.main_arg7) = m' ((c.tc : Thread Cert.CmpRefIdeal.nD Cert.CmpRefIdeal.τ).loc Cert.CmpRefIdeal.main_arg7)
          ∧ r.2.mem ((c.tc : Thread Cert.CmpRefIdeal.nD Cert.CmpRefIdeal.τ).loc Cert.CmpRefIdeal.main_arg8) = m' ((c.tc : Thread Cert.CmpRefIdeal.nD Cert.CmpRefIdeal.τ).loc Cert.CmpRefIdeal.main_arg8)
          ∧ r.2.mem ((c.tc : Thread Cert.CmpRefIdeal.nD Cert.CmpRefIdeal.τ).loc Cert.CmpRefIdeal.main_arg9) = m' ((c.tc : Thread Cert.CmpRefIdeal.nD Cert.CmpRefIdeal.τ).loc Cert.CmpRefIdeal.main_arg9))

def preserves_Attn_AttnIdeal : Prop :=
  True

def Claim : Prop :=
  ∃ (hFfn : Cert.Ffn.Facts) (hFfnIdeal : Cert.FfnIdeal.Facts) (hFfnRefIdeal : Cert.FfnRefIdeal.Facts) (hFfnTwo : Cert.FfnTwo.Facts) (hFfnTwoIdeal : Cert.FfnTwoIdeal.Facts) (hFfnTwoRefIdeal : Cert.FfnTwoRefIdeal.Facts) (hNormMm : Cert.NormMm.Facts) (hNormMmIdeal : Cert.NormMmIdeal.Facts) (hNormMmRefIdeal : Cert.NormMmRefIdeal.Facts) (hNormMmTwo : Cert.NormMmTwo.Facts) (hNormMmTwoIdeal : Cert.NormMmTwoIdeal.Facts) (hNormMmTwoRefIdeal : Cert.NormMmTwoRefIdeal.Facts) (hCmp : Cert.Cmp.Facts) (hCmpIdeal : Cert.CmpIdeal.Facts) (hCmpRefIdeal : Cert.CmpRefIdeal.Facts) (hAttn : Cert.Attn.Facts) (hAttnIdeal : Cert.AttnIdeal.Facts),
    quiescent_Ffn (hFfn := hFfn)
    ∧ quiescent_FfnIdeal (hFfnIdeal := hFfnIdeal)
    ∧ quiescent_FfnRefIdeal (hFfnRefIdeal := hFfnRefIdeal)
    ∧ quiescent_FfnTwo (hFfnTwo := hFfnTwo)
    ∧ quiescent_FfnTwoIdeal (hFfnTwoIdeal := hFfnTwoIdeal)
    ∧ quiescent_FfnTwoRefIdeal (hFfnTwoRefIdeal := hFfnTwoRefIdeal)
    ∧ quiescent_NormMm (hNormMm := hNormMm)
    ∧ quiescent_NormMmIdeal (hNormMmIdeal := hNormMmIdeal)
    ∧ quiescent_NormMmRefIdeal (hNormMmRefIdeal := hNormMmRefIdeal)
    ∧ quiescent_NormMmTwo (hNormMmTwo := hNormMmTwo)
    ∧ quiescent_NormMmTwoIdeal (hNormMmTwoIdeal := hNormMmTwoIdeal)
    ∧ quiescent_NormMmTwoRefIdeal (hNormMmTwoRefIdeal := hNormMmTwoRefIdeal)
    ∧ quiescent_Cmp (hCmp := hCmp)
    ∧ quiescent_CmpIdeal (hCmpIdeal := hCmpIdeal)
    ∧ quiescent_CmpRefIdeal (hCmpRefIdeal := hCmpRefIdeal)
    ∧ quiescent_Attn (hAttn := hAttn)
    ∧ quiescent_AttnIdeal (hAttnIdeal := hAttnIdeal)
    ∧ preserves_Ffn_FfnIdeal
    ∧ algebraic_FfnIdeal_FfnRefIdeal (hFfnIdeal := hFfnIdeal) (hFfnRefIdeal := hFfnRefIdeal)
    ∧ preserves_FfnTwo_FfnTwoIdeal
    ∧ algebraic_FfnTwoIdeal_FfnTwoRefIdeal (hFfnTwoIdeal := hFfnTwoIdeal) (hFfnTwoRefIdeal := hFfnTwoRefIdeal)
    ∧ preserves_NormMm_NormMmIdeal
    ∧ algebraic_NormMmIdeal_NormMmRefIdeal (hNormMmIdeal := hNormMmIdeal) (hNormMmRefIdeal := hNormMmRefIdeal)
    ∧ preserves_NormMmTwo_NormMmTwoIdeal
    ∧ algebraic_NormMmTwoIdeal_NormMmTwoRefIdeal (hNormMmTwoIdeal := hNormMmTwoIdeal) (hNormMmTwoRefIdeal := hNormMmTwoRefIdeal)
    ∧ preserves_Cmp_CmpIdeal
    ∧ algebraic_CmpIdeal_CmpRefIdeal (hCmpIdeal := hCmpIdeal) (hCmpRefIdeal := hCmpRefIdeal)
    ∧ preserves_Attn_AttnIdeal
-- ==== Ffn.lean ====
abbrev S32768x1024 : Shape := ⟨2, ![32768, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 15
  | .vmem => 17
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024x1024, .bf16⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 4], ![false, false]⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S32768x1024 : Shape := ⟨2, ![32768, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 66
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | .hbm, ⟨43, _⟩ => ⟨S32768x4096, .f32⟩
  | .hbm, ⟨44, _⟩ => ⟨S_, .f32⟩
  | .hbm, ⟨45, _⟩ => ⟨S32768x4096, .f32⟩
  | .hbm, ⟨46, _⟩ => ⟨S32768x4096, .f32⟩
  | .hbm, ⟨47, _⟩ => ⟨S32768x4096, .f32⟩
  | .hbm, ⟨48, _⟩ => ⟨S32768x1024, .f32⟩
  | .hbm, ⟨49, _⟩ => ⟨S32768x1024, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x1, .f32⟩
  | .hbm, ⟨60, _⟩ => ⟨S32768x1024, .f32⟩
  | .hbm, ⟨61, _⟩ => ⟨S32768x1024, .f32⟩
  | .hbm, ⟨62, _⟩ => ⟨S1x1024, .f32⟩
  | .hbm, ⟨63, _⟩ => ⟨S32768x1024, .f32⟩
  | .hbm, ⟨64, _⟩ => ⟨S32768x1024, .f32⟩
  | .hbm, ⟨65, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== FfnTwo.lean ====
abbrev S32768x512 : Shape := ⟨2, ![32768, 512]⟩
abbrev S32768x1024 : Shape := ⟨2, ![32768, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S512x1024 : Shape := ⟨2, ![512, 1024]⟩
abbrev S1x1024 : Shape := ⟨2, ![1, 1024]⟩
abbrev S1024x512 : Shape := ⟨2, ![1024, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩

abbrev nBuf : Space → Nat
  | .hbm => 19
  | .vmem => 20
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S512x1024, .f32⟩
  | .hbm, ⟨10, _⟩ => ⟨S512x1024, .bf16⟩
  | .hbm, ⟨11, _⟩ => ⟨S512x1024, .f32⟩
  | .hbm, ⟨12, _⟩ => ⟨S512x1024, .bf16⟩
  | .hbm, ⟨13, _⟩ => ⟨S1024x4096, .bf16⟩
  | .hbm, ⟨14, _⟩ => ⟨S4096x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S32768x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![32, 4], ![false, false]⟩

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnTwoRefIdeal.lean ====
abbrev S32768x512 : Shape := ⟨2, ![32768, 512]⟩
abbrev S32768x1024 : Shape := ⟨2, ![32768, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 67
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1, .f32⟩
  | .hbm, ⟨39, _⟩ => ⟨S32768x1024, .f32⟩
  | .hbm, ⟨40, _⟩ => ⟨S32768x1024, .f32⟩
  | .hbm, ⟨41, _⟩ => ⟨S1x1024, .f32⟩
  | .hbm, ⟨42, _⟩ => ⟨S32768x1024, .f32⟩
  | .hbm, ⟨43, _⟩ => ⟨S32768x1024, .f32⟩
  | .hbm, ⟨44, _⟩ => ⟨S32768x4096, .f32⟩
  | .hbm, ⟨45, _⟩ => ⟨S_, .f32⟩
  | .hbm, ⟨46, _⟩ => ⟨S32768x4096, .f32⟩
  | .hbm, ⟨47, _⟩ => ⟨S32768x4096, .f32⟩
  | .hbm, ⟨48, _⟩ => ⟨S32768x4096, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x1024, .f32⟩
  | .hbm, ⟨62, _⟩ => ⟨S32768x1024, .f32⟩
  | .hbm, ⟨63, _⟩ => ⟨S1x1024, .f32⟩
  | .hbm, ⟨64, _⟩ => ⟨S32768x1024, .f32⟩
  | .hbm, ⟨65, _⟩ => ⟨S32768x1024, .f32⟩
  | .hbm, ⟨66, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_cst : Ref sig .tc := ⟨.hbm, 45, rfl⟩
abbrev main_call0_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== NormMm.lean ====
abbrev S32768x1024 : Shape := ⟨2, ![32768, 1024]⟩
abbrev S1024 : Shape := ⟨1, ![1024]⟩
abbrev S1024x4096 : Shape := ⟨2, ![1024, 4096]⟩
abbrev S1x1024 : Shape := ⟨2, ![1, 1024]⟩
abbrev S32768x3072 : Shape := ⟨2, ![32768, 3072]⟩
abbrev S2048x1024 : Shape := ⟨2, ![2048, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1x1024, .f32⟩
  | .hbm, ⟨5, _⟩ => ⟨S32768x3072, .bf16⟩
  | .hbm, ⟨6, _⟩ => ⟨S32768x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .f32⟩
  | .local _ .vmem, ⟨8, _⟩ => ⟨S2048x1024, .f32⟩
  | .local _ .vmem, ⟨9, _⟩ => ⟨S2048x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== NormMmRefIdeal.lean ====
abbrev S32768x1024 : Shape := ⟨2, ![32768, 1024]⟩
abbrev S1024 : Shape := ⟨1, ![1024]⟩
abbrev S1024x4096 : Shape := ⟨2, ![1024, 4096]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩
abbrev S32768x3072 : Shape := ⟨2, ![32768, 3072]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x4096, .f32⟩
  | .hbm, ⟨20, _⟩ => ⟨S32768x3072, .f32⟩
  | .hbm, ⟨21, _⟩ => ⟨S32768x3072, .bf16⟩
  | .hbm, ⟨22, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== NormMmTwo.lean ====
abbrev S32768x1024 : Shape := ⟨2, ![32768, 1024]⟩
abbrev S1024 : Shape := ⟨1, ![1024]⟩
abbrev S1024x2048 : Shape := ⟨2, ![1024, 2048]⟩
abbrev S1x1024 : Shape := ⟨2, ![1, 1024]⟩
abbrev S2048x1024 : Shape := ⟨2, ![2048, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S32768x1024, .bf16⟩
  | .hbm, ⟨6, _⟩ => ⟨S32768x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .f32⟩
  | .local _ .vmem, ⟨8, _⟩ => ⟨S2048x1024, .f32⟩
  | .local _ .vmem, ⟨9, _⟩ => ⟨S2048x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c1_i32 : BitVec 32 := 1#32
  let v4 : BitVec 1 := Scalar.cmpi .slt arg1 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c1_i32_3 : BitVec 32 := 1#32
  let v8 : BitVec 1 := Scalar.cmpi .eq arg1 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== NormMmTwoRefIdeal.lean ====
abbrev S32768x1024 : Shape := ⟨2, ![32768, 1024]⟩
abbrev S1024 : Shape := ⟨1, ![1024]⟩
abbrev S1024x2048 : Shape := ⟨2, ![1024, 2048]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2048 : Shape := ⟨2, ![32768, 2048]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2048, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x2048, .f32⟩
  | .hbm, ⟨20, _⟩ => ⟨S32768x1024, .f32⟩
  | .hbm, ⟨21, _⟩ => ⟨S32768x1024, .bf16⟩
  | .hbm, ⟨22, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Cmp.lean ====
abbrev S8x2x4096x64 : Shape := ⟨4, ![8, 2, 4096, 64]⟩
abbrev S32x64 : Shape := ⟨2, ![32, 64]⟩
abbrev S2048x256 : Shape := ⟨2, ![2048, 256]⟩
abbrev S256x64 : Shape := ⟨2, ![256, 64]⟩
abbrev S8x4096 : Shape := ⟨2, ![8, 4096]⟩
abbrev S1x128 : Shape := ⟨2, ![1, 128]⟩
abbrev S8x255 : Shape := ⟨2, ![8, 255]⟩
abbrev S8x1 : Shape := ⟨2, ![8, 1]⟩
abbrev S8x256 : Shape := ⟨2, ![8, 256]⟩
abbrev S8x256x1 : Shape := ⟨3, ![8, 256, 1]⟩
abbrev S8x2x256x1024 : Shape := ⟨4, ![8, 2, 256, 1024]⟩
abbrev S1x2048 : Shape := ⟨2, ![1, 2048]⟩
abbrev S64x256 : Shape := ⟨2, ![64, 256]⟩
abbrev S8x2x256x64 : Shape := ⟨4, ![8, 2, 256, 64]⟩
abbrev S8x2x64x256 : Shape := ⟨4, ![8, 2, 64, 256]⟩
abbrev S1x2x256x1024 : Shape := ⟨4, ![1, 2, 256, 1024]⟩
abbrev S1x256x1 : Shape := ⟨3, ![1, 256, 1]⟩
abbrev S1x2x256x64 : Shape := ⟨4, ![1, 2, 256, 64]⟩
abbrev S1x2x64x256 : Shape := ⟨4, ![1, 2, 64, 256]⟩
abbrev S256x1 : Shape := ⟨2, ![256, 1]⟩
abbrev S1x1x256x1024 : Shape := ⟨4, ![1, 1, 256, 1024]⟩
abbrev S256x1024 : Shape := ⟨2, ![256, 1024]⟩
abbrev S1x1024 : Shape := ⟨2, ![1, 1024]⟩
abbrev S1024x256 : Shape := ⟨2, ![1024, 256]⟩
abbrev S256x256 : Shape := ⟨2, ![256, 256]⟩
abbrev S256x128 : Shape := ⟨2, ![256, 128]⟩
abbrev S1x1x256x64 : Shape := ⟨4, ![1, 1, 256, 64]⟩
abbrev S1x1x64x256 : Shape := ⟨4, ![1, 1, 64, 256]⟩

abbrev nBuf : Space → Nat
  | .hbm => 26
  | .vmem => 17
  | .smem => 0
  | _ => 0

abbrev bufTy : (tb : Table) → Fin (tcTables nBuf tb) → BufTy
  | .hbm, ⟨0, _⟩ => ⟨S8x2x4096x64, .f32⟩
  | .hbm, ⟨1, _⟩ => ⟨S8x2x4096x64, .f32⟩
  | .hbm, ⟨2, _⟩ => ⟨S32x64, .f32⟩
  | .hbm, ⟨3, _⟩ => ⟨S2048x256, .f32⟩
  | .hbm, ⟨4, _⟩ => ⟨S256x64, .f32⟩
  | .hbm, ⟨5, _⟩ => ⟨S32x64, .f32⟩
  | .hbm, ⟨6, _⟩ => ⟨S2048x256, .f32⟩
  | .hbm, ⟨7, _⟩ => ⟨S256x64, .f32⟩
  | .hbm, ⟨8, _⟩ => ⟨S8x4096, .i32⟩
  | .hbm, ⟨9, _⟩ => ⟨S1x128, .f32⟩
  | .hbm, ⟨10, _⟩ => ⟨S8x4096, .f32⟩
  | .hbm, ⟨11, _⟩ => ⟨S8x255, .f32⟩
  | .hbm, ⟨12, _⟩ => ⟨S8x1, .f32⟩
  | .hbm, ⟨13, _⟩ => ⟨S8x256, .f32⟩
  | .hbm, ⟨14, _⟩ => ⟨S8x256x1, .f32⟩
  | .hbm, ⟨15, _⟩ => ⟨S8x2x256x1024, .f32⟩
  | .hbm, ⟨16, _⟩ => ⟨S8x2x256x1024, .f32⟩
  | .hbm, ⟨17, _⟩ => ⟨S1x2048, .f32⟩
  | .hbm, ⟨18, _⟩ => ⟨S2048x256, .bf16⟩
  | .hbm, ⟨19, _⟩ => ⟨S256x64, .bf16⟩
  | .hbm, ⟨20, _⟩ => ⟨S1x2048, .f32⟩
  | .hbm, ⟨21, _⟩ => ⟨S2048x256, .bf16⟩
  | .hbm, ⟨22, _⟩ => ⟨S64x256, .f32⟩
  | .hbm, ⟨23, _⟩ => ⟨S64x256, .bf16⟩
  | .hbm, ⟨24, _⟩ => ⟨S8x2x256x64, .bf16⟩
  | .hbm, ⟨25, _⟩ => ⟨S8x2x64x256, .bf16⟩
  | .local _ .vmem, ⟨0, _⟩ => ⟨S1x2x256x1024, .f32⟩
  | .local _ .vmem, ⟨1, _⟩ => ⟨S1x2x256x1024, .f32⟩
  | .local _ .vmem, ⟨2, _⟩ => ⟨S1x2x256x1024, .f32⟩
  | .local _ .vmem, ⟨3, _⟩ => ⟨S1x2x256x1024, .f32⟩
  | .local _ .vmem, ⟨4, _⟩ => ⟨S1x2048, .f32⟩
  | .local _ .vmem, ⟨5, _⟩ => ⟨S2048x256, .bf16⟩
  | .local _ .vmem, ⟨6, _⟩ => ⟨S256x64, .bf16⟩
  | .local _ .vmem, ⟨7, _⟩ => ⟨S1x2048, .f32⟩
  | .local _ .vmem, ⟨8, _⟩ => ⟨S2048x256, .bf16⟩
  | .local _ .vmem, ⟨9, _⟩ => ⟨S64x256, .bf16⟩
  | .local _ .vmem, ⟨10, _⟩ => ⟨S1x256x1, .f32⟩
  | .local _ .vmem, ⟨11, _⟩ => ⟨S1x256x1, .f32⟩
  | .local _ .vmem, ⟨12, _⟩ => ⟨S1x128, .f32⟩
  | .local _ .vmem, ⟨13, _⟩ => ⟨S1x2x256x64, .bf16⟩
  | .local _ .vmem, ⟨14, _⟩ => ⟨S1x2x256x64, .bf16⟩
  | .local _ .vmem, ⟨15, _⟩ => ⟨S1x2x64x256, .bf16⟩
  | .local _ .vmem, ⟨16, _⟩ => ⟨S1x2x64x256, .bf16⟩
  | _, _ => ⟨S8x2x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x2x256x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x64x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== CmpRefIdeal.lean ====
abbrev S8x2x4096x64 : Shape := ⟨4, ![8, 2, 4096, 64]⟩
abbrev S32x64 : Shape := ⟨2, ![32, 64]⟩
abbrev S2048x256 : Shape := ⟨2, ![2048, 256]⟩
abbrev S256x64 : Shape := ⟨2, ![256, 64]⟩
abbrev S8x4096 : Shape := ⟨2, ![8, 4096]⟩
abbrev S1x128 : Shape := ⟨2, ![1, 128]⟩
abbrev S8x255 : Shape := ⟨2, ![8, 255]⟩
abbrev S8x1 : Shape := ⟨2, ![8, 1]⟩
abbrev S8x256 : Shape := ⟨2, ![8, 256]⟩
abbrev S8x2x256x16x64 : Shape := ⟨5, ![8, 2, 256, 16, 64]⟩
abbrev S8x2x255x16x64 : Shape := ⟨5, ![8, 2, 255, 16, 64]⟩
abbrev S16x64 : Shape := ⟨2, ![16, 64]⟩
abbrev S1x1x1x16x64 : Shape := ⟨5, ![1, 1, 1, 16, 64]⟩
abbrev S_ : Shape := ⟨0, ![]⟩
abbrev S8x2x1x16x64 : Shape := ⟨5, ![8, 2, 1, 16, 64]⟩
abbrev S8x2x256x32x64 : Shape := ⟨5, ![8, 2, 256, 32, 64]⟩
abbrev S8x2x256x2048 : Shape := ⟨4, ![8, 2, 256, 2048]⟩
abbrev S8x2x256x256 : Shape := ⟨4, ![8, 2, 256, 256]⟩
abbrev S8x2x256x64 : Shape := ⟨4, ![8, 2, 256, 64]⟩
abbrev S1x2x1x64 : Shape := ⟨4, ![1, 2, 1, 64]⟩
abbrev S8x1x256x1 : Shape := ⟨4, ![8, 1, 256, 1]⟩
abbrev S8x2x256x8 : Shape := ⟨4, ![8, 2, 256, 8]⟩
abbrev S8x2x256x48 : Shape := ⟨4, ![8, 2, 256, 48]⟩
abbrev S8x2x64x256 : Shape := ⟨4, ![8, 2, 64, 256]⟩

abbrev nBuf : Space → Nat
  | .hbm => 86
  | .vmem => 0
  | .smem => 0
  | _ => 0

abbrev bufTy : (tb : Table) → Fin (tcTables nBuf tb) → BufTy
  | .hbm, ⟨0, _⟩ => ⟨S8x2x4096x64, .f32⟩
  | .hbm, ⟨1, _⟩ => ⟨S8x2x4096x64, .f32⟩
  | .hbm, ⟨2, _⟩ => ⟨S32x64, .f32⟩
  | .hbm, ⟨3, _⟩ => ⟨S2048x256, .f32⟩
  | .hbm, ⟨4, _⟩ => ⟨S256x64, .f32⟩
  | .hbm, ⟨5, _⟩ => ⟨S32x64, .f32⟩
  | .hbm, ⟨6, _⟩ => ⟨S2048x256, .f32⟩
  | .hbm, ⟨7, _⟩ => ⟨S256x64, .f32⟩
  | .hbm, ⟨8, _⟩ => ⟨S8x4096, .i32⟩
  | .hbm, ⟨9, _⟩ => ⟨S1x128, .f32⟩
  | .hbm, ⟨10, _⟩ => ⟨S8x255, .i32⟩
  | .hbm, ⟨11, _⟩ => ⟨S8x1, .i32⟩
  | .hbm, ⟨12, _⟩ => ⟨S8x256, .i32⟩
  | .hbm, ⟨13, _⟩ => ⟨S8x2x256x16x64, .f32⟩
  | .hbm, ⟨14, _⟩ => ⟨S8x2x255x16x64, .f32⟩
  | .hbm, ⟨15, _⟩ => ⟨S16x64, .f32⟩
  | .hbm, ⟨16, _⟩ => ⟨S1x1x1x16x64, .f32⟩
  | .hbm, ⟨17, _⟩ => ⟨S8x2x255x16x64, .f32⟩
  | .hbm, ⟨18, _⟩ => ⟨S8x2x255x16x64, .f32⟩
  | .hbm, ⟨19, _⟩ => ⟨S_, .f32⟩
  | .hbm, ⟨20, _⟩ => ⟨S8x2x1x16x64, .f32⟩
  | .hbm, ⟨21, _⟩ => ⟨S8x2x256x16x64, .f32⟩
  | .hbm, ⟨22, _⟩ => ⟨S16x64, .f32⟩
  | .hbm, ⟨23, _⟩ => ⟨S1x1x1x16x64, .f32⟩
  | .hbm, ⟨24, _⟩ => ⟨S8x2x256x16x64, .f32⟩
  | .hbm, ⟨25, _⟩ => ⟨S8x2x256x16x64, .f32⟩
  | .hbm, ⟨26, _⟩ => ⟨S8x2x256x32x64, .f32⟩
  | .hbm, ⟨27, _⟩ => ⟨S8x2x256x2048, .f32⟩
  | .hbm, ⟨28, _⟩ => ⟨S8x2x256x256, .f32⟩
  | .hbm, ⟨29, _⟩ => ⟨S8x2x256x256, .f32⟩
  | .hbm, ⟨30, _⟩ => ⟨S8x2x256x256, .f32⟩
  | .hbm, ⟨31, _⟩ => ⟨S_, .f32⟩
  | .hbm, ⟨32, _⟩ => ⟨S8x2x256x256, .f32⟩
  | .hbm, ⟨33, _⟩ => ⟨S8x2x256x256, .f32⟩
  | .hbm, ⟨34, _⟩ => ⟨S_, .f32⟩
  | .hbm, ⟨35, _⟩ => ⟨S8x2x256x256, .f32⟩
  | .hbm, ⟨36, _⟩ => ⟨S8x2x256x256, .f32⟩
  | .hbm, ⟨37, _⟩ => ⟨S8x2x256x256, .f32⟩
  | .hbm, ⟨38, _⟩ => ⟨S8x2x256x64, .f32⟩
  | .hbm, ⟨39, _⟩ => ⟨S1x2x1x64, .f32⟩
  | .hbm, ⟨40, _⟩ => ⟨S8x256, .f32⟩
  | .hbm, ⟨41, _⟩ => ⟨S8x1x256x1, .f32⟩
  | .hbm, ⟨42, _⟩ => ⟨S8x2x256x64, .f32⟩
  | .hbm, ⟨43, _⟩ => ⟨S8x2x256x64, .f32⟩
  | .hbm, ⟨44, _⟩ => ⟨S8x2x256x64, .f32⟩
  | .hbm, ⟨45, _⟩ => ⟨S8x2x256x8, .f32⟩
  | .hbm, ⟨46, _⟩ => ⟨S8x2x256x8, .f32⟩
  | .hbm, ⟨47, _⟩ => ⟨S8x2x256x48, .f32⟩
  | .hbm, ⟨48, _⟩ => ⟨S8x2x256x64, .f32⟩
  | .hbm, ⟨49, _⟩ => ⟨S8x2x256x64, .f32⟩
  | .hbm, ⟨50, _⟩ => ⟨S8x2x256x8, .f32⟩
  | .hbm, ⟨51, _⟩ => ⟨S_, .f32⟩
  | .hbm, ⟨52, _⟩ => ⟨S8x2x256x48, .f32⟩
  | .hbm, ⟨53, _⟩ => ⟨S8x2x256x64, .f32⟩
  | .hbm, ⟨54, _⟩ => ⟨S8x2x256x64, .f32⟩
  | .hbm, ⟨55, _⟩ => ⟨S8x2x256x64, .f32⟩
  | .hbm, ⟨56, _⟩ => ⟨S8x2x256x64, .f32⟩
  | .hbm, ⟨57, _⟩ => ⟨S8x2x256x16x64, .f32⟩
  | .hbm, ⟨58, _⟩ => ⟨S8x2x255x16x64, .f32⟩
  | .hbm, ⟨59, _⟩ => ⟨S16x64, .f32⟩
  | .hbm, ⟨60, _⟩ => ⟨S1x1x1x16x64, .f32⟩
  | .hbm, ⟨61, _⟩ => ⟨S8x2x255x16x64, .f32⟩
  | .hbm, ⟨62, _⟩ => ⟨S8x2x255x16x64, .f32⟩
  | .hbm, ⟨63, _⟩ => ⟨S_, .f32⟩
  | .hbm, ⟨64, _⟩ => ⟨S8x2x1x16x64, .f32⟩
  | .hbm, ⟨65, _⟩ => ⟨S8x2x256x16x64, .f32⟩
  | .hbm, ⟨66, _⟩ => ⟨S16x64, .f32⟩
  | .hbm, ⟨67, _⟩ => ⟨S1x1x1x16x64, .f32⟩
  | .hbm, ⟨68, _⟩ => ⟨S8x2x256x16x64, .f32⟩
  | .hbm, ⟨69, _⟩ => ⟨S8x2x256x16x64, .f32⟩
  | .hbm, ⟨70, _⟩ => ⟨S8x2x256x32x64, .f32⟩
  | .hbm, ⟨71, _⟩ => ⟨S8x2x256x2048, .f32⟩
  | .hbm, ⟨72, _⟩ => ⟨S8x2x256x256, .f32⟩
  | .hbm, ⟨73, _⟩ => ⟨S8x2x256x256, .f32⟩
  | .hbm, ⟨74, _⟩ => ⟨S8x2x256x256, .f32⟩
  | .hbm, ⟨75, _⟩ => ⟨S_, .f32⟩
  | .hbm, ⟨76, _⟩ => ⟨S8x2x256x256, .f32⟩
  | .hbm, ⟨77, _⟩ => ⟨S8x2x256x256, .f32⟩
  | .hbm, ⟨78, _⟩ => ⟨S_, .f32⟩
  | .hbm, ⟨79, _⟩ => ⟨S8x2x256x256, .f32⟩
  | .hbm, ⟨80, _⟩ => ⟨S8x2x256x256, .f32⟩
  | .hbm, ⟨81, _⟩ => ⟨S8x2x256x256, .f32⟩
  | .hbm, ⟨82, _⟩ => ⟨S8x2x256x64, .f32⟩
  | .hbm, ⟨83, _⟩ => ⟨S8x2x256x64, .bf16⟩
  | .hbm, ⟨84, _⟩ => ⟨S8x2x64x256, .f32⟩
  | .hbm, ⟨85, _⟩ => ⟨S8x2x64x256, .bf16⟩
  | _, _ => ⟨S8x2x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_1 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩

abbrev nD : Nat := 1
abbrev τ : Topo := Topo.v7x

variable {F : FTy → Type} [FloatOps F]
-- ==== Attn.lean ====
abbrev S8x2x64x64x512 : Shape := ⟨5, ![8, 2, 64, 64, 512]⟩
abbrev S8x2x256x64 : Shape := ⟨4, ![8, 2, 256, 64]⟩
abbrev S8x2x64x256 : Shape := ⟨4, ![8, 2, 64, 256]⟩
abbrev S8x2x4096x128 : Shape := ⟨4, ![8, 2, 4096, 128]⟩
abbrev S8x2x80x4096 : Shape := ⟨4, ![8, 2, 80, 4096]⟩
abbrev S8x2x4608x64 : Shape := ⟨4, ![8, 2, 4608, 64]⟩
abbrev S8x2x80x4608 : Shape := ⟨4, ![8, 2, 80, 4608]⟩
abbrev S8x4096x1024 : Shape := ⟨3, ![8, 4096, 1024]⟩
abbrev S64x256 : Shape := ⟨2, ![64, 256]⟩
abbrev S1024 : Shape := ⟨1, ![1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x1024 : Shape := ⟨2, ![128, 1024]⟩
abbrev S640 : Shape := ⟨1, ![640]⟩
abbrev S640x1 : Shape := ⟨2, ![640, 1]⟩
abbrev S640x1024 : Shape := ⟨2, ![640, 1024]⟩
abbrev S1x1x2x64x512 : Shape := ⟨5, ![1, 1, 2, 64, 512]⟩
abbrev S1x1x256x64 : Shape := ⟨4, ![1, 1, 256, 64]⟩
abbrev S1x1x64x256 : Shape := ⟨4, ![1, 1, 64, 256]⟩
abbrev S1x1x4096x128 : Shape := ⟨4, ![1, 1, 4096, 128]⟩
abbrev S1x1x80x4096 : Shape := ⟨4, ![1, 1, 80, 4096]⟩
abbrev S1x1x4608x64 : Shape := ⟨4, ![1, 1, 4608, 64]⟩
abbrev S1x1x80x4608 : Shape := ⟨4, ![1, 1, 80, 4608]⟩
abbrev S1x128x128 : Shape := ⟨3, ![1, 128, 128]⟩
abbrev S1x128x512 : Shape := ⟨3, ![1, 128, 512]⟩
abbrev S64x128 : Shape := ⟨2, ![64, 128]⟩
abbrev S2x256x1024 : Shape := ⟨3, ![2, 256, 1024]⟩
abbrev S80x1024 : Shape := ⟨2, ![80, 1024]⟩
abbrev S1x1x1x64x512 : Shape := ⟨5, ![1, 1, 1, 64, 512]⟩
abbrev S64x512 : Shape := ⟨2, ![64, 512]⟩
abbrev S64x1024 : Shape := ⟨2, ![64, 1024]⟩
abbrev S128x128 : Shape := ⟨2, ![128, 128]⟩
abbrev S1x64 : Shape := ⟨2, ![1, 64]⟩
abbrev S256x64 : Shape := ⟨2, ![256, 64]⟩
abbrev S256x1024 : Shape := ⟨2, ![256, 1024]⟩
abbrev S1x1x640x64 : Shape := ⟨4, ![1, 1, 640, 64]⟩
abbrev S640x64 : Shape := ⟨2, ![640, 64]⟩
abbrev S1x1x128x64 : Shape := ⟨4, ![1, 1, 128, 64]⟩
abbrev S128x64 : Shape := ⟨2, ![128, 64]⟩
abbrev S256x1 : Shape := ⟨2, ![256, 1]⟩
abbrev S256x128 : Shape := ⟨2, ![256, 128]⟩
abbrev S1x1x80x128 : Shape := ⟨4, ![1, 1, 80, 128]⟩
abbrev S80x128 : Shape := ⟨2, ![80, 128]⟩
abbrev S512x1 : Shape := ⟨2, ![512, 1]⟩
abbrev S512x1024 : Shape := ⟨2, ![512, 1024]⟩
abbrev S1x128 : Shape := ⟨2, ![1, 128]⟩
abbrev S1x1x256x128 : Shape := ⟨4, ![1, 1, 256, 128]⟩
abbrev S1x256x1024 : Shape := ⟨3, ![1, 256, 1024]⟩
abbrev S1x1x80x640 : Shape := ⟨4, ![1, 1, 80, 640]⟩
abbrev S80x640 : Shape := ⟨2, ![80, 640]⟩
abbrev S1x1x80x256 : Shape := ⟨4, ![1, 1, 80, 256]⟩
abbrev S80x256 : Shape := ⟨2, ![80, 256]⟩
abbrev S64x64 : Shape := ⟨2, ![64, 64]⟩
abbrev S1x64x64 : Shape := ⟨3, ![1, 64, 64]⟩

abbrev nBuf : Space → Nat
  | .hbm => 95
  | .vmem => 26
  | .smem => 0
  | _ => 0

abbrev bufTy : (tb : Table) → Fin (tcTables nBuf tb) → BufTy
  | .hbm, ⟨0, _⟩ => ⟨S8x2x64x64x512, .bf16⟩
  | .hbm, ⟨1, _⟩ => ⟨S8x2x256x64, .bf16⟩
  | .hbm, ⟨2, _⟩ => ⟨S8x2x64x256, .bf16⟩
  | .hbm, ⟨3, _⟩ => ⟨S8x2x4096x128, .bf16⟩
  | .hbm, ⟨4, _⟩ => ⟨S8x2x80x4096, .bf16⟩
  | .hbm, ⟨5, _⟩ => ⟨S8x2x4608x64, .bf16⟩
  | .hbm, ⟨6, _⟩ => ⟨S8x2x80x4608, .bf16⟩
  | .hbm, ⟨7, _⟩ => ⟨S8x4096x1024, .f32⟩
  | .hbm, ⟨8, _⟩ => ⟨S64x256, .f32⟩
  | .hbm, ⟨9, _⟩ => ⟨S1024, .i32⟩
  | .hbm, ⟨10, _⟩ => ⟨S_, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S_, .i32⟩
  | .hbm, ⟨44, _⟩ => ⟨S1024, .i32⟩
  | .hbm, ⟨45, _⟩ => ⟨S1024, .i1⟩
  | .hbm, ⟨46, _⟩ => ⟨S_, .i32⟩
  | .hbm, ⟨47, _⟩ => ⟨S_, .i1⟩
  | .hbm, ⟨48, _⟩ => ⟨S1024, .i1⟩
  | .hbm, ⟨49, _⟩ => ⟨S1024, .i1⟩
  | .hbm, ⟨50, _⟩ => ⟨S1024, .i1⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S1024, .i32⟩
  | .hbm, ⟨55, _⟩ => ⟨S128, .i32⟩
  | .hbm, ⟨56, _⟩ => ⟨S128x1, .i32⟩
  | .hbm, ⟨57, _⟩ => ⟨S1x1024, .i32⟩
  | .hbm, ⟨58, _⟩ => ⟨S128x1024, .i32⟩
  | .hbm, ⟨59, _⟩ => ⟨S128x1024, .i32⟩
  | .hbm, ⟨60, _⟩ => ⟨S128x1024, .i1⟩
  | .hbm, ⟨61, _⟩ => ⟨S_, .f32⟩
  | .hbm, ⟨62, _⟩ => ⟨S_, .f32⟩
  | .hbm, ⟨63, _⟩ => ⟨S128x1024, .f32⟩
  | .hbm, ⟨64, _⟩ => ⟨S128x1024, .f32⟩
  | .hbm, ⟨65, _⟩ => ⟨S128x1024, .f32⟩
  | .hbm, ⟨66, _⟩ => ⟨S128x1024, .f32⟩
  | .hbm, ⟨67, _⟩ => ⟨S640, .i32⟩
  | .hbm, ⟨68, _⟩ => ⟨S640x1, .i32⟩
  | .hbm, ⟨69, _⟩ => ⟨S1x1024, .i32⟩
  | .hbm, ⟨70, _⟩ => ⟨S640x1024, .i32⟩
  | .hbm, ⟨71, _⟩ => ⟨S640x1024, .i32⟩
  | .hbm, ⟨72, _⟩ => ⟨S640x1024, .i1⟩
  | .hbm, ⟨73, _⟩ => ⟨S1x1024, .i32⟩
  | .hbm, ⟨74, _⟩ => ⟨S_, .i32⟩
  | .hbm, ⟨75, _⟩ => ⟨S1x1024, .i32⟩
  | .hbm, ⟨76, _⟩ => ⟨S1x1024, .i32⟩
  | .hbm, ⟨77, _⟩ => ⟨S640x1024, .i32⟩
  | .hbm, ⟨78, _⟩ => ⟨S640x1024, .i32⟩
  | .hbm, ⟨79, _⟩ => ⟨S640x1024, .i1⟩
  | .hbm, ⟨80, _⟩ => ⟨S640x1024, .i1⟩
  | .hbm, ⟨81, _⟩ => ⟨S_, .f32⟩
  | .hbm, ⟨82, _⟩ => ⟨S_, .f32⟩
  | .hbm, ⟨83, _⟩ => ⟨S640x1024, .f32⟩
  | .hbm, ⟨84, _⟩ => ⟨S640x1024, .f32⟩
  | .hbm, ⟨85, _⟩ => ⟨S640x1024, .f32⟩
  | .hbm, ⟨86, _⟩ => ⟨S640x1024, .f32⟩
  | .hbm, ⟨87, _⟩ => ⟨S128, .i32⟩
  | .hbm, ⟨88, _⟩ => ⟨S128x1, .i32⟩
  | .hbm, ⟨89, _⟩ => ⟨S1x1024, .i32⟩
  | .hbm, ⟨90, _⟩ => ⟨S128x1024, .i32⟩
  | .hbm, ⟨91, _⟩ => ⟨S128x1024, .i32⟩
  | .hbm, ⟨92, _⟩ => ⟨S128x1024, .i1⟩
  | .hbm, ⟨93, _⟩ => ⟨S128x1024, .bf16⟩
  | .hbm, ⟨94, _⟩ => ⟨S8x4096x1024, .bf16⟩
  | .local _ .vmem, ⟨0, _⟩ => ⟨S1x1x2x64x512, .bf16⟩
  | .local _ .vmem, ⟨1, _⟩ => ⟨S1x1x2x64x512, .bf16⟩
  | .local _ .vmem, ⟨2, _⟩ => ⟨S1x1x256x64, .bf16⟩
  | .local _ .vmem, ⟨3, _⟩ => ⟨S1x1x256x64, .bf16⟩
  | .local _ .vmem, ⟨4, _⟩ => ⟨S1x1x64x256, .bf16⟩
  | .local _ .vmem, ⟨5, _⟩ => ⟨S1x1x64x256, .bf16⟩
  | .local _ .vmem, ⟨6, _⟩ => ⟨S1x1x4096x128, .bf16⟩
  | .local _ .vmem, ⟨7, _⟩ => ⟨S1x1x4096x128, .bf16⟩
  | .local _ .vmem, ⟨8, _⟩ => ⟨S1x1x80x4096, .bf16⟩
  | .local _ .vmem, ⟨9, _⟩ => ⟨S1x1x80x4096, .bf16⟩
  | .local _ .vmem, ⟨10, _⟩ => ⟨S1x1x4608x64, .bf16⟩
  | .local _ .vmem, ⟨11, _⟩ => ⟨S1x1x4608x64, .bf16⟩
  | .local _ .vmem, ⟨12, _⟩ => ⟨S1x1x80x4608, .bf16⟩
  | .local _ .vmem, ⟨13, _⟩ => ⟨S1x1x80x4608, .bf16⟩
  | .local _ .vmem, ⟨14, _⟩ => ⟨S1x128x128, .f32⟩
  | .local _ .vmem, ⟨15, _⟩ => ⟨S1x128x128, .f32⟩
  | .local _ .vmem, ⟨16, _⟩ => ⟨S64x256, .f32⟩
  | .local _ .vmem, ⟨17, _⟩ => ⟨S128x1024, .f32⟩
  | .local _ .vmem, ⟨18, _⟩ => ⟨S640x1024, .f32⟩
  | .local _ .vmem, ⟨19, _⟩ => ⟨S128x1024, .bf16⟩
  | .local _ .vmem, ⟨20, _⟩ => ⟨S1x128x512, .bf16⟩
  | .local _ .vmem, ⟨21, _⟩ => ⟨S1x128x512, .bf16⟩
  | .local _ .vmem, ⟨22, _⟩ => ⟨S64x128, .f32⟩
  | .local _ .vmem, ⟨23, _⟩ => ⟨S2x256x1024, .f32⟩
  | .local _ .vmem, ⟨24, _⟩ => ⟨S80x1024, .f32⟩
  | .local _ .vmem, ⟨25, _⟩ => ⟨S640x1024, .f32⟩
  | _, _ => ⟨S8x2x64x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_c_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_c_1 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_cst : Ref sig .tc := ⟨.hbm, 61, rfl⟩
abbrev main_cst_2 : Ref sig .tc := ⟨.hbm, 62, rfl⟩
abbrev main_call2_v0 : Ref sig .tc := ⟨.hbm, 63, rfl⟩
abbrev main_call2_v1 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_c_3 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_cst_4 : Ref sig .tc := ⟨.hbm, 81, rfl⟩
abbrev main_cst_5 : Ref sig .tc := ⟨.hbm, 82, rfl⟩
abbrev main_call3_v0 : Ref sig .tc := ⟨.hbm, 83, rfl⟩
abbrev main_call3_v1 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨3, ![8, 2, 32], ![false, false, false]⟩

def k0_mult1 (i : grid0.Coords) : BitVec 32 :=
  let arg2 : BitVec 32 := BitVec.ofNat 32 (i 2).val
  let c2_i32_35 : BitVec 32 := 2#32
  let v131 : BitVec 32 := Scalar.muli arg2 c2_i32_35
  let c64_i32_36 : BitVec 32 := 64#32
  let v132 : BitVec 32 := Scalar.muli v131 c64_i32_36
  v132
def k0_off1 (i : grid0.Coords) : Fin 4 → Nat :=
  let c0_37 : Index := 0#32
  let c0_38 : Index := 0#32
  let arg2 : BitVec 32 := BitVec.ofNat 32 (i 2).val
  let c2_i32_35 : BitVec 32 := 2#32
  let v131 : BitVec 32 := Scalar.muli arg2 c2_i32_35
  let c64_i32_36 : BitVec 32 := 64#32
  let v132 : BitVec 32 := Scalar.muli v131 c64_i32_36
  let v133 : BitVec 32 := v132
  let v134 : Index := Scalar.indexCast v133
  let c0_39 : Index := 0#32
  ![0, 0, v134.toNat, 0]
def k0_mult2 (i : grid0.Coords) : BitVec 32 :=
  let arg2 : BitVec 32 := BitVec.ofNat 32 (i 2).val
  let c2_i32_18 : BitVec 32 := 2#32
  let v52 : BitVec 32 := Scalar.muli arg2 c2_i32_18
  let c64_i32_45 : BitVec 32 := 64#32
  let v144 : BitVec 32 := Scalar.muli v52 c64_i32_45
  v144
def k0_off2 (i : grid0.Coords) : Fin 4 → Nat :=
  let c0_46 : Index := 0#32
  let c0_47 : Index := 0#32
  let arg2 : BitVec 32 := BitVec.ofNat 32 (i 2).val
  let c2_i32_18 : BitVec 32 := 2#32
  let v52 : BitVec 32 := Scalar.muli arg2 c2_i32_18
  let c64_i32_45 : BitVec 32 := 64#32
  let v144 : BitVec 32 := Scalar.muli v52 c64_i32_45
  let v145 : BitVec 32 := v144
  let v146 : Index := Scalar.indexCast v145
  let c0_48 : Index := 0#32
  ![0, 0, v146.toNat, 0]
def k0_off3 (i : grid0.Coords) : Fin 4 → Nat :=
  let c0_84 : Index := 0#32
  let c0_85 : Index := 0#32
  let c0_86 : Index := 0#32
  let arg2 : BitVec 32 := BitVec.ofNat 32 (i 2).val
  let c2_i32_18 : BitVec 32 := 2#32
  let v52 : BitVec 32 := Scalar.muli arg2 c2_i32_18
  let c64_i32_45 : BitVec 32 := 64#32
  let v144 : BitVec 32 := Scalar.muli v52 c64_i32_45
  let v145 : BitVec 32 := v144
  let v261 : Index := Scalar.indexCast v145
  ![0, 0, 0, v261.toNat]
@[reducible] def k0_t1_loop (i : grid0.Coords) : Scf.Loop 32 :=
  let c0_i32_104 : BitVec 32 := 0#32
  let arg2 : BitVec 32 := BitVec.ofNat 32 (i 2).val
  let c2_i32_92 : BitVec 32 := 2#32
  let v272 : BitVec 32 := Scalar.muli arg2 c2_i32_92
  let c2_i32_93 : BitVec 32 := 2#32
  let v273 : BitVec 32 := Scalar.addi v272 c2_i32_93
  let c16_i32_94 : BitVec 32 := 16#32
  let v274 : BitVec 1 := Scalar.cmpi .sgt v273 c16_i32_94
  let c0_i32_96 : BitVec 32 := 0#32
  let v276 : BitVec 1 := Scalar.cmpi .sgt v273 c0_i32_96
  let v277 : BitVec 32 := Scalar.extui v276
  let c0_i32_97 : BitVec 32 := 0#32
  let v278 : BitVec 1 := Scalar.cmpi .slt v273 c0_i32_97
  let v279 : BitVec 32 := Scalar.extui v278
  let v280 : BitVec 32 := Scalar.subi v277 v279
  let c2_i32_95 : BitVec 32 := 2#32
  let c0_i32_98 : BitVec 32 := 0#32
  let v281 : BitVec 1 := Scalar.cmpi .sgt c2_i32_95 c0_i32_98
  let v282 : BitVec 32 := Scalar.extui v281
  let c0_i32_99 : BitVec 32 := 0#32
  let v283 : BitVec 1 := Scalar.cmpi .slt c2_i32_95 c0_i32_99
  let v284 : BitVec 32 := Scalar.extui v283
  let v285 : BitVec 32 := Scalar.subi v282 v284
  let v286 : BitVec 1 := Scalar.cmpi .ne v280 v285
  let v287 : BitVec 32 := Scalar.remsi v273 c2_i32_95
  let c0_i32_100 : BitVec 32 := 0#32
  let v288 : BitVec 1 := Scalar.cmpi .ne v287 c0_i32_100
  let v289 : BitVec 1 := Scalar.andi v286 v288
  let v275 : BitVec 32 := Scalar.divsi v273 c2_i32_95
  let c1_i32_101 : BitVec 32 := 1#32
  let v290 : BitVec 32 := Scalar.subi v275 c1_i32_101
  let v291 : BitVec 32 := Scalar.select v289 v290 v275
  let c0_i32_102 : BitVec 32 := 0#32
  let v292 : BitVec 32 := Scalar.select v274 v291 c0_i32_102
  let v294 : BitVec 32 := Scalar.subi v292 c0_i32_104
  let c1_i32_105 : BitVec 32 := 1#32
  let v296 : BitVec 32 := Scalar.divsi v294 c1_i32_105
  let v297 : BitVec 32 := Scalar.muli v296 c1_i32_105
  let v298 : BitVec 32 := Scalar.addi c0_i32_104 v297
  let c1_i32_106 : BitVec 32 := 1#32
  ⟨c0_i32_104, v298, c1_i32_106⟩
def k0_off4 (i : grid0.Coords) (k0_t1 : Fin (k0_t1_loop i).trips) : Fin 2 → Nat :=
  let c2_i32_217 : BitVec 32 := 2#32
  let c0_i32_104 : BitVec 32 := 0#32
  let c1_i32_106 : BitVec 32 := 1#32
  let arg20 : BitVec 32 := Scf.iv c0_i32_104 c1_i32_106 k0_t1
  let v498 : BitVec 32 := Scalar.muli c2_i32_217 arg20
  let v499 : Index := Scalar.indexCast v498
  let c0_218 : Index := 0#32
  ![v499.toNat, 0]
def k0_off5 (i : grid0.Coords) (k0_t1 : Fin (k0_t1_loop i).trips) : Fin 2 → Nat :=
  let c2_i32_215 : BitVec 32 := 2#32
  let c0_i32_104 : BitVec 32 := 0#32
  let c1_i32_106 : BitVec 32 := 1#32
  let arg20 : BitVec 32 := Scf.iv c0_i32_104 c1_i32_106 k0_t1
  let v496 : BitVec 32 := Scalar.muli c2_i32_215 arg20
  let c1_i32_216 : BitVec 32 := 1#32
  let v497 : BitVec 32 := Scalar.addi v496 c1_i32_216
  let v511 : Index := Scalar.indexCast v497
  let c0_219 : Index := 0#32
  ![v511.toNat, 0]
@[reducible] def k0_t2_loop (i : grid0.Coords) : Scf.Loop 32 :=
  let c0_i32_104 : BitVec 32 := 0#32
  let arg2 : BitVec 32 := BitVec.ofNat 32 (i 2).val
  let c2_i32_92 : BitVec 32 := 2#32
  let v272 : BitVec 32 := Scalar.muli arg2 c2_i32_92
  let c2_i32_93 : BitVec 32 := 2#32
  let v273 : BitVec 32 := Scalar.addi v272 c2_i32_93
  let c16_i32_94 : BitVec 32 := 16#32
  let v274 : BitVec 1 := Scalar.cmpi .sgt v273 c16_i32_94
  let c0_i32_96 : BitVec 32 := 0#32
  let v276 : BitVec 1 := Scalar.cmpi .sgt v273 c0_i32_96
  let v277 : BitVec 32 := Scalar.extui v276
  let c0_i32_97 : BitVec 32 := 0#32
  let v278 : BitVec 1 := Scalar.cmpi .slt v273 c0_i32_97
  let v279 : BitVec 32 := Scalar.extui v278
  let v280 : BitVec 32 := Scalar.subi v277 v279
  let c2_i32_95 : BitVec 32 := 2#32
  let c0_i32_98 : BitVec 32 := 0#32
  let v281 : BitVec 1 := Scalar.cmpi .sgt c2_i32_95 c0_i32_98
  let v282 : BitVec 32 := Scalar.extui v281
  let c0_i32_99 : BitVec 32 := 0#32
  let v283 : BitVec 1 := Scalar.cmpi .slt c2_i32_95 c0_i32_99
  let v284 : BitVec 32 := Scalar.extui v283
  let v285 : BitVec 32 := Scalar.subi v282 v284
  let v286 : BitVec 1 := Scalar.cmpi .ne v280 v285
  let v287 : BitVec 32 := Scalar.remsi v273 c2_i32_95
  let c0_i32_100 : BitVec 32 := 0#32
  let v288 : BitVec 1 := Scalar.cmpi .ne v287 c0_i32_100
  let v289 : BitVec 1 := Scalar.andi v286 v288
  let v275 : BitVec 32 := Scalar.divsi v273 c2_i32_95
  let c1_i32_101 : BitVec 32 := 1#32
  let v290 : BitVec 32 := Scalar.subi v275 c1_i32_101
  let v291 : BitVec 32 := Scalar.select v289 v290 v275
  let c0_i32_102 : BitVec 32 := 0#32
  let v292 : BitVec 32 := Scalar.select v274 v291 c0_i32_102
  let v294 : BitVec 32 := Scalar.subi v292 c0_i32_104
  let c1_i32_105 : BitVec 32 := 1#32
  let v296 : BitVec 32 := Scalar.divsi v294 c1_i32_105
  let v297 : BitVec 32 := Scalar.muli v296 c1_i32_105
  let v298 : BitVec 32 := Scalar.addi c0_i32_104 v297
  let v295 : BitVec 32 := Scalar.addi c0_i32_104 v294
  let c1_i32_107 : BitVec 32 := 1#32
  ⟨v298, v295, c1_i32_107⟩
def k0_off6 (i : grid0.Coords) (k0_t2 : Fin (k0_t2_loop i).trips) : Fin 2 → Nat :=
  let c2_i32_217 : BitVec 32 := 2#32
  let c0_i32_104 : BitVec 32 := 0#32
  let arg2 : BitVec 32 := BitVec.ofNat 32 (i 2).val
  let c2_i32_92 : BitVec 32 := 2#32
  let v272 : BitVec 32 := Scalar.muli arg2 c2_i32_92
  let c2_i32_93 : BitVec 32 := 2#32
  let v273 : BitVec 32 := Scalar.addi v272 c2_i32_93
  let c16_i32_94 : BitVec 32 := 16#32
  let v274 : BitVec 1 := Scalar.cmpi .sgt v273 c16_i32_94
  let c0_i32_96 : BitVec 32 := 0#32
  let v276 : BitVec 1 := Scalar.cmpi .sgt v273 c0_i32_96
  let v277 : BitVec 32 := Scalar.extui v276
  let c0_i32_97 : BitVec 32 := 0#32
  let v278 : BitVec 1 := Scalar.cmpi .slt v273 c0_i32_97
  let v279 : BitVec 32 := Scalar.extui v278
  let v280 : BitVec 32 := Scalar.subi v277 v279
  let c2_i32_95 : BitVec 32 := 2#32
  let c0_i32_98 : BitVec 32 := 0#32
  let v281 : BitVec 1 := Scalar.cmpi .sgt c2_i32_95 c0_i32_98
  let v282 : BitVec 32 := Scalar.extui v281
  let c0_i32_99 : BitVec 32 := 0#32
  let v283 : BitVec 1 := Scalar.cmpi .slt c2_i32_95 c0_i32_99
  let v284 : BitVec 32 := Scalar.extui v283
  let v285 : BitVec 32 := Scalar.subi v282 v284
  let v286 : BitVec 1 := Scalar.cmpi .ne v280 v285
  let v287 : BitVec 32 := Scalar.remsi v273 c2_i32_95
  let c0_i32_100 : BitVec 32 := 0#32
  let v288 : BitVec 1 := Scalar.cmpi .ne v287 c0_i32_100
  let v289 : BitVec 1 := Scalar.andi v286 v288
  let v275 : BitVec 32 := Scalar.divsi v273 c2_i32_95
  let c1_i32_101 : BitVec 32 := 1#32
  let v290 : BitVec 32 := Scalar.subi v275 c1_i32_101
  let v291 : BitVec 32 := Scalar.select v289 v290 v275
  let c0_i32_102 : BitVec 32 := 0#32
  let v292 : BitVec 32 := Scalar.select v274 v291 c0_i32_102
  let v294 : BitVec 32 := Scalar.subi v292 c0_i32_104
  let c1_i32_105 : BitVec 32 := 1#32
  let v296 : BitVec 32 := Scalar.divsi v294 c1_i32_105
  let v297 : BitVec 32 := Scalar.muli v296 c1_i32_105
  let v298 : BitVec 32 := Scalar.addi c0_i32_104 v297
  let c1_i32_107 : BitVec 32 := 1#32
  let arg20 : BitVec 32 := Scf.iv v298 c1_i32_107 k0_t2
  let v498 : BitVec 32 := Scalar.muli c2_i32_217 arg20
  let v499 : Index := Scalar.indexCast v498
  let c0_218 : Index := 0#32
  ![v499.toNat, 0]
def k0_off7 (i : grid0.Coords) (k0_t2 : Fin (k0_t2_loop i).trips) : Fin 2 → Nat :=
  let c2_i32_215 : BitVec 32 := 2#32
  let c0_i32_104 : BitVec 32 := 0#32
  let arg2 : BitVec 32 := BitVec.ofNat 32 (i 2).val
  let c2_i32_92 : BitVec 32 := 2#32
  let v272 : BitVec 32 := Scalar.muli arg2 c2_i32_92
  let c2_i32_93 : BitVec 32 := 2#32
  let v273 : BitVec 32 := Scalar.addi v272 c2_i32_93
  let c16_i32_94 : BitVec 32 := 16#32
  let v274 : BitVec 1 := Scalar.cmpi .sgt v273 c16_i32_94
  let c0_i32_96 : BitVec 32 := 0#32
  let v276 : BitVec 1 := Scalar.cmpi .sgt v273 c0_i32_96
  let v277 : BitVec 32 := Scalar.extui v276
  let c0_i32_97 : BitVec 32 := 0#32
  let v278 : BitVec 1 := Scalar.cmpi .slt v273 c0_i32_97
  let v279 : BitVec 32 := Scalar.extui v278
  let v280 : BitVec 32 := Scalar.subi v277 v279
  let c2_i32_95 : BitVec 32 := 2#32
  let c0_i32_98 : BitVec 32 := 0#32
  let v281 : BitVec 1 := Scalar.cmpi .sgt c2_i32_95 c0_i32_98
  let v282 : BitVec 32 := Scalar.extui v281
  let c0_i32_99 : BitVec 32 := 0#32
  let v283 : BitVec 1 := Scalar.cmpi .slt c2_i32_95 c0_i32_99
  let v284 : BitVec 32 := Scalar.extui v283
  let v285 : BitVec 32 := Scalar.subi v282 v284
  let v286 : BitVec 1 := Scalar.cmpi .ne v280 v285
  let v287 : BitVec 32 := Scalar.remsi v273 c2_i32_95
  let c0_i32_100 : BitVec 32 := 0#32
  let v288 : BitVec 1 := Scalar.cmpi .ne v287 c0_i32_100
  let v289 : BitVec 1 := Scalar.andi v286 v288
  let v275 : BitVec 32 := Scalar.divsi v273 c2_i32_95
  let c1_i32_101 : BitVec 32 := 1#32
  let v290 : BitVec 32 := Scalar.subi v275 c1_i32_101
  let v291 : BitVec 32 := Scalar.select v289 v290 v275
  let c0_i32_102 : BitVec 32 := 0#32
  let v292 : BitVec 32 := Scalar.select v274 v291 c0_i32_102
  let v294 : BitVec 32 := Scalar.subi v292 c0_i32_104
  let c1_i32_105 : BitVec 32 := 1#32
  let v296 : BitVec 32 := Scalar.divsi v294 c1_i32_105
  let v297 : BitVec 32 := Scalar.muli v296 c1_i32_105
  let v298 : BitVec 32 := Scalar.addi c0_i32_104 v297
  let c1_i32_107 : BitVec 32 := 1#32
  let arg20 : BitVec 32 := Scf.iv v298 c1_i32_107 k0_t2
  let v496 : BitVec 32 := Scalar.muli c2_i32_215 arg20
  let c1_i32_216 : BitVec 32 := 1#32
  let v497 : BitVec 32 := Scalar.addi v496 c1_i32_216
  let v511 : Index := Scalar.indexCast v497
  let c0_219 : Index := 0#32
  ![v511.toNat, 0]
def k0_mult3 : BitVec 32 :=
  let c0_i32_114 : BitVec 32 := 0#32
  c0_i32_114
def k0_off8 (i : grid0.Coords) : Fin 4 → Nat :=
  let c0_127 : Index := 0#32
  let c0_128 : Index := 0#32
  let c0_129 : Index := 0#32
  let arg2 : BitVec 32 := BitVec.ofNat 32 (i 2).val
  let c2_i32_35 : BitVec 32 := 2#32
  let v131 : BitVec 32 := Scalar.muli arg2 c2_i32_35
  let c64_i32_36 : BitVec 32 := 64#32
  let v132 : BitVec 32 := Scalar.muli v131 c64_i32_36
  let v133 : BitVec 32 := v132
  let v333 : Index := Scalar.indexCast v133
  ![0, 0, 0, v333.toNat]
@[reducible] def k0_t3_loop (i : grid0.Coords) : Scf.Loop 32 :=
  let c0_i32_138 : BitVec 32 := 0#32
  let arg2 : BitVec 32 := BitVec.ofNat 32 (i 2).val
  let c2_i32_18 : BitVec 32 := 2#32
  let v52 : BitVec 32 := Scalar.muli arg2 c2_i32_18
  let c64_i32_19 : BitVec 32 := 64#32
  let v53 : BitVec 32 := Scalar.muli v52 c64_i32_19
  let c256_i32 : BitVec 32 := 256#32
  let v54 : BitVec 32 := Scalar.addi v53 c256_i32
  let c1_i32_20 : BitVec 32 := 1#32
  let v55 : BitVec 32 := Scalar.subi v54 c1_i32_20
  let c0_i32_22 : BitVec 32 := 0#32
  let v57 : BitVec 1 := Scalar.cmpi .sgt v55 c0_i32_22
  let v58 : BitVec 32 := Scalar.extui v57
  let c0_i32_23 : BitVec 32 := 0#32
  let v59 : BitVec 1 := Scalar.cmpi .slt v55 c0_i32_23
  let v60 : BitVec 32 := Scalar.extui v59
  let v61 : BitVec 32 := Scalar.subi v58 v60
  let c256_i32_21 : BitVec 32 := 256#32
  let c0_i32_24 : BitVec 32 := 0#32
  let v62 : BitVec 1 := Scalar.cmpi .sgt c256_i32_21 c0_i32_24
  let v63 : BitVec 32 := Scalar.extui v62
  let c0_i32_25 : BitVec 32 := 0#32
  let v64 : BitVec 1 := Scalar.cmpi .slt c256_i32_21 c0_i32_25
  let v65 : BitVec 32 := Scalar.extui v64
  let v66 : BitVec 32 := Scalar.subi v63 v65
  let v67 : BitVec 1 := Scalar.cmpi .ne v61 v66
  let v68 : BitVec 32 := Scalar.remsi v55 c256_i32_21
  let c0_i32_26 : BitVec 32 := 0#32
  let v69 : BitVec 1 := Scalar.cmpi .ne v68 c0_i32_26
  let v70 : BitVec 1 := Scalar.andi v67 v69
  let v56 : BitVec 32 := Scalar.divsi v55 c256_i32_21
  let c1_i32_27 : BitVec 32 := 1#32
  let v71 : BitVec 32 := Scalar.subi v56 c1_i32_27
  let v72 : BitVec 32 := Scalar.select v70 v71 v56
  let c0_i32_132 : BitVec 32 := 0#32
  let v339 : BitVec 1 := Scalar.cmpi .sgt v72 c0_i32_132
  let v340 : BitVec 32 := Scalar.extui v339
  let c0_i32_133 : BitVec 32 := 0#32
  let v341 : BitVec 1 := Scalar.cmpi .slt v72 c0_i32_133
  let v342 : BitVec 32 := Scalar.extui v341
  let v343 : BitVec 32 := Scalar.subi v340 v342
  let c2_i32_131 : BitVec 32 := 2#32
  let c0_i32_134 : BitVec 32 := 0#32
  let v344 : BitVec 1 := Scalar.cmpi .sgt c2_i32_131 c0_i32_134
  let v345 : BitVec 32 := Scalar.extui v344
  let c0_i32_135 : BitVec 32 := 0#32
  let v346 : BitVec 1 := Scalar.cmpi .slt c2_i32_131 c0_i32_135
  let v347 : BitVec 32 := Scalar.extui v346
  let v348 : BitVec 32 := Scalar.subi v345 v347
  let v349 : BitVec 1 := Scalar.cmpi .ne v343 v348
  let v350 : BitVec 32 := Scalar.remsi v72 c2_i32_131
  let c0_i32_136 : BitVec 32 := 0#32
  let v351 : BitVec 1 := Scalar.cmpi .ne v350 c0_i32_136
  let v352 : BitVec 1 := Scalar.andi v349 v351
  let v338 : BitVec 32 := Scalar.divsi v72 c2_i32_131
  let c1_i32_137 : BitVec 32 := 1#32
  let v353 : BitVec 32 := Scalar.subi v338 c1_i32_137
  let v354 : BitVec 32 := Scalar.select v352 v353 v338
  let v355 : BitVec 32 := Scalar.subi v354 c0_i32_138
  let c1_i32_139 : BitVec 32 := 1#32
  let v357 : BitVec 32 := Scalar.divsi v355 c1_i32_139
  let v358 : BitVec 32 := Scalar.muli v357 c1_i32_139
  let v359 : BitVec 32 := Scalar.addi c0_i32_138 v358
  let c1_i32_140 : BitVec 32 := 1#32
  ⟨c0_i32_138, v359, c1_i32_140⟩
def k0_mult4 (i : grid0.Coords) (k0_t3 : Fin (k0_t3_loop i).trips) : BitVec 32 :=
  let c2_i32_217 : BitVec 32 := 2#32
  let c0_i32_138 : BitVec 32 := 0#32
  let c1_i32_140 : BitVec 32 := 1#32
  let arg20 : BitVec 32 := Scf.iv c0_i32_138 c1_i32_140 k0_t3
  let v498 : BitVec 32 := Scalar.muli c2_i32_217 arg20
  let c1_i32_218 : BitVec 32 := 1#32
  let v499 : BitVec 32 := Scalar.addi v498 c1_i32_218
  let c15_i32 : BitVec 32 := 15#32
  let v500 : BitVec 32 := Scalar.minsi v499 c15_i32
  let c256_i32_219 : BitVec 32 := 256#32
  let v501 : BitVec 32 := Scalar.muli v500 c256_i32_219
  v501
def k0_off9 (i : grid0.Coords) (k0_t3 : Fin (k0_t3_loop i).trips) : Fin 4 → Nat :=
  let c0_220 : Index := 0#32
  let c0_221 : Index := 0#32
  let c2_i32_217 : BitVec 32 := 2#32
  let c0_i32_138 : BitVec 32 := 0#32
  let c1_i32_140 : BitVec 32 := 1#32
  let arg20 : BitVec 32 := Scf.iv c0_i32_138 c1_i32_140 k0_t3
  let v498 : BitVec 32 := Scalar.muli c2_i32_217 arg20
  let c1_i32_218 : BitVec 32 := 1#32
  let v499 : BitVec 32 := Scalar.addi v498 c1_i32_218
  let c15_i32 : BitVec 32 := 15#32
  let v500 : BitVec 32 := Scalar.minsi v499 c15_i32
  let c256_i32_219 : BitVec 32 := 256#32
  let v501 : BitVec 32 := Scalar.muli v500 c256_i32_219
  let v502 : BitVec 32 := v501
  let v503 : Index := Scalar.indexCast v502
  let c0_222 : Index := 0#32
  ![0, 0, v503.toNat, 0]
def k0_mult5 (i : grid0.Coords) (k0_t3 : Fin (k0_t3_loop i).trips) : BitVec 32 :=
  let c2_i32_217 : BitVec 32 := 2#32
  let c0_i32_138 : BitVec 32 := 0#32
  let c1_i32_140 : BitVec 32 := 1#32
  let arg20 : BitVec 32 := Scf.iv c0_i32_138 c1_i32_140 k0_t3
  let v498 : BitVec 32 := Scalar.muli c2_i32_217 arg20
  let c256_i32_231 : BitVec 32 := 256#32
  let v520 : BitVec 32 := Scalar.muli v498 c256_i32_231
  v520
def k0_off10 (i : grid0.Coords) (k0_t3 : Fin (k0_t3_loop i).trips) : Fin 4 → Nat :=
  let c0_234 : Index := 0#32
  let c0_235 : Index := 0#32
  let c0_236 : Index := 0#32
  let c2_i32_217 : BitVec 32 := 2#32
  let c0_i32_138 : BitVec 32 := 0#32
  let c1_i32_140 : BitVec 32 := 1#32
  let arg20 : BitVec 32 := Scf.iv c0_i32_138 c1_i32_140 k0_t3
  let v498 : BitVec 32 := Scalar.muli c2_i32_217 arg20
  let c256_i32_231 : BitVec 32 := 256#32
  let v520 : BitVec 32 := Scalar.muli v498 c256_i32_231
  let v521 : BitVec 32 := v520
  let v525 : Index := Scalar.indexCast v521
  ![0, 0, 0, v525.toNat]
def k0_mult6 (i : grid0.Coords) (k0_t3 : Fin (k0_t3_loop i).trips) : BitVec 32 :=
  let c2_i32_215 : BitVec 32 := 2#32
  let c0_i32_138 : BitVec 32 := 0#32
  let c1_i32_140 : BitVec 32 := 1#32
  let arg20 : BitVec 32 := Scf.iv c0_i32_138 c1_i32_140 k0_t3
  let v496 : BitVec 32 := Scalar.muli c2_i32_215 arg20
  let c1_i32_216 : BitVec 32 := 1#32
  let v497 : BitVec 32 := Scalar.addi v496 c1_i32_216
  let c1_i32_240 : BitVec 32 := 1#32
  let v534 : BitVec 32 := Scalar.addi v497 c1_i32_240
  let c15_i32_241 : BitVec 32 := 15#32
  let v535 : BitVec 32 := Scalar.minsi v534 c15_i32_241
  let c256_i32_242 : BitVec 32 := 256#32
  let v536 : BitVec 32 := Scalar.muli v535 c256_i32_242
  v536
def k0_off11 (i : grid0.Coords) (k0_t3 : Fin (k0_t3_loop i).trips) : Fin 4 → Nat :=
  let c0_243 : Index := 0#32
  let c0_244 : Index := 0#32
  let c2_i32_215 : BitVec 32 := 2#32
  let c0_i32_138 : BitVec 32 := 0#32
  let c1_i32_140 : BitVec 32 := 1#32
  let arg20 : BitVec 32 := Scf.iv c0_i32_138 c1_i32_140 k0_t3
  let v496 : BitVec 32 := Scalar.muli c2_i32_215 arg20
  let c1_i32_216 : BitVec 32 := 1#32
  let v497 : BitVec 32 := Scalar.addi v496 c1_i32_216
  let c1_i32_240 : BitVec 32 := 1#32
  let v534 : BitVec 32 := Scalar.addi v497 c1_i32_240
  let c15_i32_241 : BitVec 32 := 15#32
  let v535 : BitVec 32 := Scalar.minsi v534 c15_i32_241
  let c256_i32_242 : BitVec 32 := 256#32
  let v536 : BitVec 32 := Scalar.muli v535 c256_i32_242
  let v537 : BitVec 32 := v536
  let v538 : Index := Scalar.indexCast v537
  let c0_245 : Index := 0#32
  ![0, 0, v538.toNat, 0]
def k0_mult7 (i : grid0.Coords) (k0_t3 : Fin (k0_t3_loop i).trips) : BitVec 32 :=
  let c2_i32_215 : BitVec 32 := 2#32
  let c0_i32_138 : BitVec 32 := 0#32
  let c1_i32_140 : BitVec 32 := 1#32
  let arg20 : BitVec 32 := Scf.iv c0_i32_138 c1_i32_140 k0_t3
  let v496 : BitVec 32 := Scalar.muli c2_i32_215 arg20
  let c1_i32_216 : BitVec 32 := 1#32
  let v497 : BitVec 32 := Scalar.addi v496 c1_i32_216
  let c256_i32_254 : BitVec 32 := 256#32
  let v555 : BitVec 32 := Scalar.muli v497 c256_i32_254
  v555
def k0_off12 (i : grid0.Coords) (k0_t3 : Fin (k0_t3_loop i).trips) : Fin 4 → Nat :=
  let c0_257 : Index := 0#32
  let c0_258 : Index := 0#32
  let c0_259 : Index := 0#32
  let c2_i32_215 : BitVec 32 := 2#32
  let c0_i32_138 : BitVec 32 := 0#32
  let c1_i32_140 : BitVec 32 := 1#32
  let arg20 : BitVec 32 := Scf.iv c0_i32_138 c1_i32_140 k0_t3
  let v496 : BitVec 32 := Scalar.muli c2_i32_215 arg20
  let c1_i32_216 : BitVec 32 := 1#32
  let v497 : BitVec 32 := Scalar.addi v496 c1_i32_216
  let c256_i32_254 : BitVec 32 := 256#32
  let v555 : BitVec 32 := Scalar.muli v497 c256_i32_254
  let v556 : BitVec 32 := v555
  let v560 : Index := Scalar.indexCast v556
  ![0, 0, 0, v560.toNat]
@[reducible] def k0_t4_loop (i : grid0.Coords) : Scf.Loop 32 :=
  let c0_i32_138 : BitVec 32 := 0#32
  let arg2 : BitVec 32 := BitVec.ofNat 32 (i 2).val
  let c2_i32_18 : BitVec 32 := 2#32
  let v52 : BitVec 32 := Scalar.muli arg2 c2_i32_18
  let c64_i32_19 : BitVec 32 := 64#32
  let v53 : BitVec 32 := Scalar.muli v52 c64_i32_19
  let c256_i32 : BitVec 32 := 256#32
  let v54 : BitVec 32 := Scalar.addi v53 c256_i32
  let c1_i32_20 : BitVec 32 := 1#32
  let v55 : BitVec 32 := Scalar.subi v54 c1_i32_20
  let c0_i32_22 : BitVec 32 := 0#32
  let v57 : BitVec 1 := Scalar.cmpi .sgt v55 c0_i32_22
  let v58 : BitVec 32 := Scalar.extui v57
  let c0_i32_23 : BitVec 32 := 0#32
  let v59 : BitVec 1 := Scalar.cmpi .slt v55 c0_i32_23
  let v60 : BitVec 32 := Scalar.extui v59
  let v61 : BitVec 32 := Scalar.subi v58 v60
  let c256_i32_21 : BitVec 32 := 256#32
  let c0_i32_24 : BitVec 32 := 0#32
  let v62 : BitVec 1 := Scalar.cmpi .sgt c256_i32_21 c0_i32_24
  let v63 : BitVec 32 := Scalar.extui v62
  let c0_i32_25 : BitVec 32 := 0#32
  let v64 : BitVec 1 := Scalar.cmpi .slt c256_i32_21 c0_i32_25
  let v65 : BitVec 32 := Scalar.extui v64
  let v66 : BitVec 32 := Scalar.subi v63 v65
  let v67 : BitVec 1 := Scalar.cmpi .ne v61 v66
  let v68 : BitVec 32 := Scalar.remsi v55 c256_i32_21
  let c0_i32_26 : BitVec 32 := 0#32
  let v69 : BitVec 1 := Scalar.cmpi .ne v68 c0_i32_26
  let v70 : BitVec 1 := Scalar.andi v67 v69
  let v56 : BitVec 32 := Scalar.divsi v55 c256_i32_21
  let c1_i32_27 : BitVec 32 := 1#32
  let v71 : BitVec 32 := Scalar.subi v56 c1_i32_27
  let v72 : BitVec 32 := Scalar.select v70 v71 v56
  let c0_i32_132 : BitVec 32 := 0#32
  let v339 : BitVec 1 := Scalar.cmpi .sgt v72 c0_i32_132
  let v340 : BitVec 32 := Scalar.extui v339
  let c0_i32_133 : BitVec 32 := 0#32
  let v341 : BitVec 1 := Scalar.cmpi .slt v72 c0_i32_133
  let v342 : BitVec 32 := Scalar.extui v341
  let v343 : BitVec 32 := Scalar.subi v340 v342
  let c2_i32_131 : BitVec 32 := 2#32
  let c0_i32_134 : BitVec 32 := 0#32
  let v344 : BitVec 1 := Scalar.cmpi .sgt c2_i32_131 c0_i32_134
  let v345 : BitVec 32 := Scalar.extui v344
  let c0_i32_135 : BitVec 32 := 0#32
  let v346 : BitVec 1 := Scalar.cmpi .slt c2_i32_131 c0_i32_135
  let v347 : BitVec 32 := Scalar.extui v346
  let v348 : BitVec 32 := Scalar.subi v345 v347
  let v349 : BitVec 1 := Scalar.cmpi .ne v343 v348
  let v350 : BitVec 32 := Scalar.remsi v72 c2_i32_131
  let c0_i32_136 : BitVec 32 := 0#32
  let v351 : BitVec 1 := Scalar.cmpi .ne v350 c0_i32_136
  let v352 : BitVec 1 := Scalar.andi v349 v351
  let v338 : BitVec 32 := Scalar.divsi v72 c2_i32_131
  let c1_i32_137 : BitVec 32 := 1#32
  let v353 : BitVec 32 := Scalar.subi v338 c1_i32_137
  let v354 : BitVec 32 := Scalar.select v352 v353 v338
  let v355 : BitVec 32 := Scalar.subi v354 c0_i32_138
  let c1_i32_139 : BitVec 32 := 1#32
  let v357 : BitVec 32 := Scalar.divsi v355 c1_i32_139
  let v358 : BitVec 32 := Scalar.muli v357 c1_i32_139
  let v359 : BitVec 32 := Scalar.addi c0_i32_138 v358
  let v356 : BitVec 32 := Scalar.addi c0_i32_138 v355
  let c1_i32_141 : BitVec 32 := 1#32
  ⟨v359, v356, c1_i32_141⟩
def k0_mult8 (i : grid0.Coords) (k0_t4 : Fin (k0_t4_loop i).trips) : BitVec 32 :=
  let c2_i32_217 : BitVec 32 := 2#32
  let c0_i32_138 : BitVec 32 := 0#32
  let arg2 : BitVec 32 := BitVec.ofNat 32 (i 2).val
  let c2_i32_18 : BitVec 32 := 2#32
  let v52 : BitVec 32 := Scalar.muli arg2 c2_i32_18
  let c64_i32_19 : BitVec 32 := 64#32
  let v53 : BitVec 32 := Scalar.muli v52 c64_i32_19
  let c256_i32 : BitVec 32 := 256#32
  let v54 : BitVec 32 := Scalar.addi v53 c256_i32
  let c1_i32_20 : BitVec 32 := 1#32
  let v55 : BitVec 32 := Scalar.subi v54 c1_i32_20
  let c0_i32_22 : BitVec 32 := 0#32
  let v57 : BitVec 1 := Scalar.cmpi .sgt v55 c0_i32_22
  let v58 : BitVec 32 := Scalar.extui v57
  let c0_i32_23 : BitVec 32 := 0#32
  let v59 : BitVec 1 := Scalar.cmpi .slt v55 c0_i32_23
  let v60 : BitVec 32 := Scalar.extui v59
  let v61 : BitVec 32 := Scalar.subi v58 v60
  let c256_i32_21 : BitVec 32 := 256#32
  let c0_i32_24 : BitVec 32 := 0#32
  let v62 : BitVec 1 := Scalar.cmpi .sgt c256_i32_21 c0_i32_24
  let v63 : BitVec 32 := Scalar.extui v62
  let c0_i32_25 : BitVec 32 := 0#32
  let v64 : BitVec 1 := Scalar.cmpi .slt c256_i32_21 c0_i32_25
  let v65 : BitVec 32 := Scalar.extui v64
  let v66 : BitVec 32 := Scalar.subi v63 v65
  let v67 : BitVec 1 := Scalar.cmpi .ne v61 v66
  let v68 : BitVec 32 := Scalar.remsi v55 c256_i32_21
  let c0_i32_26 : BitVec 32 := 0#32
  let v69 : BitVec 1 := Scalar.cmpi .ne v68 c0_i32_26
  let v70 : BitVec 1 := Scalar.andi v67 v69
  let v56 : BitVec 32 := Scalar.divsi v55 c256_i32_21
  let c1_i32_27 : BitVec 32 := 1#32
  let v71 : BitVec 32 := Scalar.subi v56 c1_i32_27
  let v72 : BitVec 32 := Scalar.select v70 v71 v56
  let c0_i32_132 : BitVec 32 := 0#32
  let v339 : BitVec 1 := Scalar.cmpi .sgt v72 c0_i32_132
  let v340 : BitVec 32 := Scalar.extui v339
  let c0_i32_133 : BitVec 32 := 0#32
  let v341 : BitVec 1 := Scalar.cmpi .slt v72 c0_i32_133
  let v342 : BitVec 32 := Scalar.extui v341
  let v343 : BitVec 32 := Scalar.subi v340 v342
  let c2_i32_131 : BitVec 32 := 2#32
  let c0_i32_134 : BitVec 32 := 0#32
  let v344 : BitVec 1 := Scalar.cmpi .sgt c2_i32_131 c0_i32_134
  let v345 : BitVec 32 := Scalar.extui v344
  let c0_i32_135 : BitVec 32 := 0#32
  let v346 : BitVec 1 := Scalar.cmpi .slt c2_i32_131 c0_i32_135
  let v347 : BitVec 32 := Scalar.extui v346
  let v348 : BitVec 32 := Scalar.subi v345 v347
  let v349 : BitVec 1 := Scalar.cmpi .ne v343 v348
  let v350 : BitVec 32 := Scalar.remsi v72 c2_i32_131
  let c0_i32_136 : BitVec 32 := 0#32
  let v351 : BitVec 1 := Scalar.cmpi .ne v350 c0_i32_136
  let v352 : BitVec 1 := Scalar.andi v349 v351
  let v338 : BitVec 32 := Scalar.divsi v72 c2_i32_131
  let c1_i32_137 : BitVec 32 := 1#32
  let v353 : BitVec 32 := Scalar.subi v338 c1_i32_137
  let v354 : BitVec 32 := Scalar.select v352 v353 v338
  let v355 : BitVec 32 := Scalar.subi v354 c0_i32_138
  let c1_i32_139 : BitVec 32 := 1#32
  let v357 : BitVec 32 := Scalar.divsi v355 c1_i32_139
  let v358 : BitVec 32 := Scalar.muli v357 c1_i32_139
  let v359 : BitVec 32 := Scalar.addi c0_i32_138 v358
  let c1_i32_141 : BitVec 32 := 1#32
  let arg20 : BitVec 32 := Scf.iv v359 c1_i32_141 k0_t4
  let v498 : BitVec 32 := Scalar.muli c2_i32_217 arg20
  let c1_i32_218 : BitVec 32 := 1#32
  let v499 : BitVec 32 := Scalar.addi v498 c1_i32_218
  let c15_i32 : BitVec 32 := 15#32
  let v500 : BitVec 32 := Scalar.minsi v499 c15_i32
  let c256_i32_219 : BitVec 32 := 256#32
  let v501 : BitVec 32 := Scalar.muli v500 c256_i32_219
  v501
def k0_off13 (i : grid0.Coords) (k0_t4 : Fin (k0_t4_loop i).trips) : Fin 4 → Nat :=
  let c0_220 : Index := 0#32
  let c0_221 : Index := 0#32
  let c2_i32_217 : BitVec 32 := 2#32
  let c0_i32_138 : BitVec 32 := 0#32
  let arg2 : BitVec 32 := BitVec.ofNat 32 (i 2).val
  let c2_i32_18 : BitVec 32 := 2#32
  let v52 : BitVec 32 := Scalar.muli arg2 c2_i32_18
  let c64_i32_19 : BitVec 32 := 64#32
  let v53 : BitVec 32 := Scalar.muli v52 c64_i32_19
  let c256_i32 : BitVec 32 := 256#32
  let v54 : BitVec 32 := Scalar.addi v53 c256_i32
  let c1_i32_20 : BitVec 32 := 1#32
  let v55 : BitVec 32 := Scalar.subi v54 c1_i32_20
  let c0_i32_22 : BitVec 32 := 0#32
  let v57 : BitVec 1 := Scalar.cmpi .sgt v55 c0_i32_22
  let v58 : BitVec 32 := Scalar.extui v57
  let c0_i32_23 : BitVec 32 := 0#32
  let v59 : BitVec 1 := Scalar.cmpi .slt v55 c0_i32_23
  let v60 : BitVec 32 := Scalar.extui v59
  let v61 : BitVec 32 := Scalar.subi v58 v60
  let c256_i32_21 : BitVec 32 := 256#32
  let c0_i32_24 : BitVec 32 := 0#32
  let v62 : BitVec 1 := Scalar.cmpi .sgt c256_i32_21 c0_i32_24
  let v63 : BitVec 32 := Scalar.extui v62
  let c0_i32_25 : BitVec 32 := 0#32
  let v64 : BitVec 1 := Scalar.cmpi .slt c256_i32_21 c0_i32_25
  let v65 : BitVec 32 := Scalar.extui v64
  let v66 : BitVec 32 := Scalar.subi v63 v65
  let v67 : BitVec 1 := Scalar.cmpi .ne v61 v66
  let v68 : BitVec 32 := Scalar.remsi v55 c256_i32_21
  let c0_i32_26 : BitVec 32 := 0#32
  let v69 : BitVec 1 := Scalar.cmpi .ne v68 c0_i32_26
  let v70 : BitVec 1 := Scalar.andi v67 v69
  let v56 : BitVec 32 := Scalar.divsi v55 c256_i32_21
  let c1_i32_27 : BitVec 32 := 1#32
  let v71 : BitVec 32 := Scalar.subi v56 c1_i32_27
  let v72 : BitVec 32 := Scalar.select v70 v71 v56
  let c0_i32_132 : BitVec 32 := 0#32
  let v339 : BitVec 1 := Scalar.cmpi .sgt v72 c0_i32_132
  let v340 : BitVec 32 := Scalar.extui v339
  let c0_i32_133 : BitVec 32 := 0#32
  let v341 : BitVec 1 := Scalar.cmpi .slt v72 c0_i32_133
  let v342 : BitVec 32 := Scalar.extui v341
  let v343 : BitVec 32 := Scalar.subi v340 v342
  let c2_i32_131 : BitVec 32 := 2#32
  let c0_i32_134 : BitVec 32 := 0#32
  let v344 : BitVec 1 := Scalar.cmpi .sgt c2_i32_131 c0_i32_134
  let v345 : BitVec 32 := Scalar.extui v344
  let c0_i32_135 : BitVec 32 := 0#32
  let v346 : BitVec 1 := Scalar.cmpi .slt c2_i32_131 c0_i32_135
  let v347 : BitVec 32 := Scalar.extui v346
  let v348 : BitVec 32 := Scalar.subi v345 v347
  let v349 : BitVec 1 := Scalar.cmpi .ne v343 v348
  let v350 : BitVec 32 := Scalar.remsi v72 c2_i32_131
  let c0_i32_136 : BitVec 32 := 0#32
  let v351 : BitVec 1 := Scalar.cmpi .ne v350 c0_i32_136
  let v352 : BitVec 1 := Scalar.andi v349 v351
  let v338 : BitVec 32 := Scalar.divsi v72 c2_i32_131
  let c1_i32_137 : BitVec 32 := 1#32
  let v353 : BitVec 32 := Scalar.subi v338 c1_i32_137
  let v354 : BitVec 32 := Scalar.select v352 v353 v338
  let v355 : BitVec 32 := Scalar.subi v354 c0_i32_138
  let c1_i32_139 : BitVec 32 := 1#32
  let v357 : BitVec 32 := Scalar.divsi v355 c1_i32_139
  let v358 : BitVec 32 := Scalar.muli v357 c1_i32_139
  let v359 : BitVec 32 := Scalar.addi c0_i32_138 v358
  let c1_i32_141 : BitVec 32 := 1#32
  let arg20 : BitVec 32 := Scf.iv v359 c1_i32_141 k0_t4
  let v498 : BitVec 32 := Scalar.muli c2_i32_217 arg20
  let c1_i32_218 : BitVec 32 := 1#32
  let v499 : BitVec 32 := Scalar.addi v498 c1_i32_218
  let c15_i32 : BitVec 32 := 15#32
  let v500 : BitVec 32 := Scalar.minsi v499 c15_i32
  let c256_i32_219 : BitVec 32 := 256#32
  let v501 : BitVec 32 := Scalar.muli v500 c256_i32_219
  let v502 : BitVec 32 := v501
  let v503 : Index := Scalar.indexCast v502
  let c0_222 : Index := 0#32
  ![0, 0, v503.toNat, 0]
def k0_mult9 (i : grid0.Coords) (k0_t4 : Fin (k0_t4_loop i).trips) : BitVec 32 :=
  let c2_i32_217 : BitVec 32 := 2#32
  let c0_i32_138 : BitVec 32 := 0#32
  let arg2 : BitVec 32 := BitVec.ofNat 32 (i 2).val
  let c2_i32_18 : BitVec 32 := 2#32
  let v52 : BitVec 32 := Scalar.muli arg2 c2_i32_18
  let c64_i32_19 : BitVec 32 := 64#32
  let v53 : BitVec 32 := Scalar.muli v52 c64_i32_19
  let c256_i32 : BitVec 32 := 256#32
  let v54 : BitVec 32 := Scalar.addi v53 c256_i32
  let c1_i32_20 : BitVec 32 := 1#32
  let v55 : BitVec 32 := Scalar.subi v54 c1_i32_20
  let c0_i32_22 : BitVec 32 := 0#32
  let v57 : BitVec 1 := Scalar.cmpi .sgt v55 c0_i32_22
  let v58 : BitVec 32 := Scalar.extui v57
  let c0_i32_23 : BitVec 32 := 0#32
  let v59 : BitVec 1 := Scalar.cmpi .slt v55 c0_i32_23
  let v60 : BitVec 32 := Scalar.extui v59
  let v61 : BitVec 32 := Scalar.subi v58 v60
  let c256_i32_21 : BitVec 32 := 256#32
  let c0_i32_24 : BitVec 32 := 0#32
  let v62 : BitVec 1 := Scalar.cmpi .sgt c256_i32_21 c0_i32_24
  let v63 : BitVec 32 := Scalar.extui v62
  let c0_i32_25 : BitVec 32 := 0#32
  let v64 : BitVec 1 := Scalar.cmpi .slt c256_i32_21 c0_i32_25
  let v65 : BitVec 32 := Scalar.extui v64
  let v66 : BitVec 32 := Scalar.subi v63 v65
  let v67 : BitVec 1 := Scalar.cmpi .ne v61 v66
  let v68 : BitVec 32 := Scalar.remsi v55 c256_i32_21
  let c0_i32_26 : BitVec 32 := 0#32
  let v69 : BitVec 1 := Scalar.cmpi .ne v68 c0_i32_26
  let v70 : BitVec 1 := Scalar.andi v67 v69
  let v56 : BitVec 32 := Scalar.divsi v55 c256_i32_21
  let c1_i32_27 : BitVec 32 := 1#32
  let v71 : BitVec 32 := Scalar.subi v56 c1_i32_27
  let v72 : BitVec 32 := Scalar.select v70 v71 v56
  let c0_i32_132 : BitVec 32 := 0#32
  let v339 : BitVec 1 := Scalar.cmpi .sgt v72 c0_i32_132
  let v340 : BitVec 32 := Scalar.extui v339
  let c0_i32_133 : BitVec 32 := 0#32
  let v341 : BitVec 1 := Scalar.cmpi .slt v72 c0_i32_133
  let v342 : BitVec 32 := Scalar.extui v341
  let v343 : BitVec 32 := Scalar.subi v340 v342
  let c2_i32_131 : BitVec 32 := 2#32
  let c0_i32_134 : BitVec 32 := 0#32
  let v344 : BitVec 1 := Scalar.cmpi .sgt c2_i32_131 c0_i32_134
  let v345 : BitVec 32 := Scalar.extui v344
  let c0_i32_135 : BitVec 32 := 0#32
  let v346 : BitVec 1 := Scalar.cmpi .slt c2_i32_131 c0_i32_135
  let v347 : BitVec 32 := Scalar.extui v346
  let v348 : BitVec 32 := Scalar.subi v345 v347
  let v349 : BitVec 1 := Scalar.cmpi .ne v343 v348
  let v350 : BitVec 32 := Scalar.remsi v72 c2_i32_131
  let c0_i32_136 : BitVec 32 := 0#32
  let v351 : BitVec 1 := Scalar.cmpi .ne v350 c0_i32_136
  let v352 : BitVec 1 := Scalar.andi v349 v351
  let v338 : BitVec 32 := Scalar.divsi v72 c2_i32_131
  let c1_i32_137 : BitVec 32 := 1#32
  let v353 : BitVec 32 := Scalar.subi v338 c1_i32_137
  let v354 : BitVec 32 := Scalar.select v352 v353 v338
  let v355 : BitVec 32 := Scalar.subi v354 c0_i32_138
  let c1_i32_139 : BitVec 32 := 1#32
  let v357 : BitVec 32 := Scalar.divsi v355 c1_i32_139
  let v358 : BitVec 32 := Scalar.muli v357 c1_i32_139
  let v359 : BitVec 32 := Scalar.addi c0_i32_138 v358
  let c1_i32_141 : BitVec 32 := 1#32
  let arg20 : BitVec 32 := Scf.iv v359 c1_i32_141 k0_t4
  let v498 : BitVec 32 := Scalar.muli c2_i32_217 arg20
  let c256_i32_231 : BitVec 32 := 256#32
  let v520 : BitVec 32 := Scalar.muli v498 c256_i32_231
  v520
def k0_off14 (i : grid0.Coords) (k0_t4 : Fin (k0_t4_loop i).trips) : Fin 4 → Nat :=
  let c0_234 : Index := 0#32
  let c0_235 : Index := 0#32
  let c0_236 : Index := 0#32
  let c2_i32_217 : BitVec 32 := 2#32
  let c0_i32_138 : BitVec 32 := 0#32
  let arg2 : BitVec 32 := BitVec.ofNat 32 (i 2).val
  let c2_i32_18 : BitVec 32 := 2#32
  let v52 : BitVec 32 := Scalar.muli arg2 c2_i32_18
  let c64_i32_19 : BitVec 32 := 64#32
  let v53 : BitVec 32 := Scalar.muli v52 c64_i32_19
  let c256_i32 : BitVec 32 := 256#32
  let v54 : BitVec 32 := Scalar.addi v53 c256_i32
  let c1_i32_20 : BitVec 32 := 1#32
  let v55 : BitVec 32 := Scalar.subi v54 c1_i32_20
  let c0_i32_22 : BitVec 32 := 0#32
  let v57 : BitVec 1 := Scalar.cmpi .sgt v55 c0_i32_22
  let v58 : BitVec 32 := Scalar.extui v57
  let c0_i32_23 : BitVec 32 := 0#32
  let v59 : BitVec 1 := Scalar.cmpi .slt v55 c0_i32_23
  let v60 : BitVec 32 := Scalar.extui v59
  let v61 : BitVec 32 := Scalar.subi v58 v60
  let c256_i32_21 : BitVec 32 := 256#32
  let c0_i32_24 : BitVec 32 := 0#32
  let v62 : BitVec 1 := Scalar.cmpi .sgt c256_i32_21 c0_i32_24
  let v63 : BitVec 32 := Scalar.extui v62
  let c0_i32_25 : BitVec 32 := 0#32
  let v64 : BitVec 1 := Scalar.cmpi .slt c256_i32_21 c0_i32_25
  let v65 : BitVec 32 := Scalar.extui v64
  let v66 : BitVec 32 := Scalar.subi v63 v65
  let v67 : BitVec 1 := Scalar.cmpi .ne v61 v66
  let v68 : BitVec 32 := Scalar.remsi v55 c256_i32_21
  let c0_i32_26 : BitVec 32 := 0#32
  let v69 : BitVec 1 := Scalar.cmpi .ne v68 c0_i32_26
  let v70 : BitVec 1 := Scalar.andi v67 v69
  let v56 : BitVec 32 := Scalar.divsi v55 c256_i32_21
  let c1_i32_27 : BitVec 32 := 1#32
  let v71 : BitVec 32 := Scalar.subi v56 c1_i32_27
  let v72 : BitVec 32 := Scalar.select v70 v71 v56
  let c0_i32_132 : BitVec 32 := 0#32
  let v339 : BitVec 1 := Scalar.cmpi .sgt v72 c0_i32_132
  let v340 : BitVec 32 := Scalar.extui v339
  let c0_i32_133 : BitVec 32 := 0#32
  let v341 : BitVec 1 := Scalar.cmpi .slt v72 c0_i32_133
  let v342 : BitVec 32 := Scalar.extui v341
  let v343 : BitVec 32 := Scalar.subi v340 v342
  let c2_i32_131 : BitVec 32 := 2#32
  let c0_i32_134 : BitVec 32 := 0#32
  let v344 : BitVec 1 := Scalar.cmpi .sgt c2_i32_131 c0_i32_134
  let v345 : BitVec 32 := Scalar.extui v344
  let c0_i32_135 : BitVec 32 := 0#32
  let v346 : BitVec 1 := Scalar.cmpi .slt c2_i32_131 c0_i32_135
  let v347 : BitVec 32 := Scalar.extui v346
  let v348 : BitVec 32 := Scalar.subi v345 v347
  let v349 : BitVec 1 := Scalar.cmpi .ne v343 v348
  let v350 : BitVec 32 := Scalar.remsi v72 c2_i32_131
  let c0_i32_136 : BitVec 32 := 0#32
  let v351 : BitVec 1 := Scalar.cmpi .ne v350 c0_i32_136
  let v352 : BitVec 1 := Scalar.andi v349 v351
  let v338 : BitVec 32 := Scalar.divsi v72 c2_i32_131
  let c1_i32_137 : BitVec 32 := 1#32
  let v353 : BitVec 32 := Scalar.subi v338 c1_i32_137
  let v354 : BitVec 32 := Scalar.select v352 v353 v338
  let v355 : BitVec 32 := Scalar.subi v354 c0_i32_138
  let c1_i32_139 : BitVec 32 := 1#32
  let v357 : BitVec 32 := Scalar.divsi v355 c1_i32_139
  let v358 : BitVec 32 := Scalar.muli v357 c1_i32_139
  let v359 : BitVec 32 := Scalar.addi c0_i32_138 v358
  let c1_i32_141 : BitVec 32 := 1#32
  let arg20 : BitVec 32 := Scf.iv v359 c1_i32_141 k0_t4
  let v498 : BitVec 32 := Scalar.muli c2_i32_217 arg20
  let c256_i32_231 : BitVec 32 := 256#32
  let v520 : BitVec 32 := Scalar.muli v498 c256_i32_231
  let v521 : BitVec 32 := v520
  let v525 : Index := Scalar.indexCast v521
  ![0, 0, 0, v525.toNat]
def k0_mult10 (i : grid0.Coords) (k0_t4 : Fin (k0_t4_loop i).trips) : BitVec 32 :=
  let c2_i32_215 : BitVec 32 := 2#32
  let c0_i32_138 : BitVec 32 := 0#32
  let arg2 : BitVec 32 := BitVec.ofNat 32 (i 2).val
  let c2_i32_18 : BitVec 32 := 2#32
  let v52 : BitVec 32 := Scalar.muli arg2 c2_i32_18
  let c64_i32_19 : BitVec 32 := 64#32
  let v53 : BitVec 32 := Scalar.muli v52 c64_i32_19
  let c256_i32 : BitVec 32 := 256#32
  let v54 : BitVec 32 := Scalar.addi v53 c256_i32
  let c1_i32_20 : BitVec 32 := 1#32
  let v55 : BitVec 32 := Scalar.subi v54 c1_i32_20
  let c0_i32_22 : BitVec 32 := 0#32
  let v57 : BitVec 1 := Scalar.cmpi .sgt v55 c0_i32_22
  let v58 : BitVec 32 := Scalar.extui v57
  let c0_i32_23 : BitVec 32 := 0#32
  let v59 : BitVec 1 := Scalar.cmpi .slt v55 c0_i32_23
  let v60 : BitVec 32 := Scalar.extui v59
  let v61 : BitVec 32 := Scalar.subi v58 v60
  let c256_i32_21 : BitVec 32 := 256#32
  let c0_i32_24 : BitVec 32 := 0#32
  let v62 : BitVec 1 := Scalar.cmpi .sgt c256_i32_21 c0_i32_24
  let v63 : BitVec 32 := Scalar.extui v62
  let c0_i32_25 : BitVec 32 := 0#32
  let v64 : BitVec 1 := Scalar.cmpi .slt c256_i32_21 c0_i32_25
  let v65 : BitVec 32 := Scalar.extui v64
  let v66 : BitVec 32 := Scalar.subi v63 v65
  let v67 : BitVec 1 := Scalar.cmpi .ne v61 v66
  let v68 : BitVec 32 := Scalar.remsi v55 c256_i32_21
  let c0_i32_26 : BitVec 32 := 0#32
  let v69 : BitVec 1 := Scalar.cmpi .ne v68 c0_i32_26
  let v70 : BitVec 1 := Scalar.andi v67 v69
  let v56 : BitVec 32 := Scalar.divsi v55 c256_i32_21
  let c1_i32_27 : BitVec 32 := 1#32
  let v71 : BitVec 32 := Scalar.subi v56 c1_i32_27
  let v72 : BitVec 32 := Scalar.select v70 v71 v56
  let c0_i32_132 : BitVec 32 := 0#32
  let v339 : BitVec 1 := Scalar.cmpi .sgt v72 c0_i32_132
  let v340 : BitVec 32 := Scalar.extui v339
  let c0_i32_133 : BitVec 32 := 0#32
  let v341 : BitVec 1 := Scalar.cmpi .slt v72 c0_i32_133
  let v342 : BitVec 32 := Scalar.extui v341
  let v343 : BitVec 32 := Scalar.subi v340 v342
  let c2_i32_131 : BitVec 32 := 2#32
  let c0_i32_134 : BitVec 32 := 0#32
  let v344 : BitVec 1 := Scalar.cmpi .sgt c2_i32_131 c0_i32_134
  let v345 : BitVec 32 := Scalar.extui v344
  let c0_i32_135 : BitVec 32 := 0#32
  let v346 : BitVec 1 := Scalar.cmpi .slt c2_i32_131 c0_i32_135
  let v347 : BitVec 32 := Scalar.extui v346
  let v348 : BitVec 32 := Scalar.subi v345 v347
  let v349 : BitVec 1 := Scalar.cmpi .ne v343 v348
  let v350 : BitVec 32 := Scalar.remsi v72 c2_i32_131
  let c0_i32_136 : BitVec 32 := 0#32
  let v351 : BitVec 1 := Scalar.cmpi .ne v350 c0_i32_136
  let v352 : BitVec 1 := Scalar.andi v349 v351
  let v338 : BitVec 32 := Scalar.divsi v72 c2_i32_131
  let c1_i32_137 : BitVec 32 := 1#32
  let v353 : BitVec 32 := Scalar.subi v338 c1_i32_137
  let v354 : BitVec 32 := Scalar.select v352 v353 v338
  let v355 : BitVec 32 := Scalar.subi v354 c0_i32_138
  let c1_i32_139 : BitVec 32 := 1#32
  let v357 : BitVec 32 := Scalar.divsi v355 c1_i32_139
  let v358 : BitVec 32 := Scalar.muli v357 c1_i32_139
  let v359 : BitVec 32 := Scalar.addi c0_i32_138 v358
  let c1_i32_141 : BitVec 32 := 1#32
  let arg20 : BitVec 32 := Scf.iv v359 c1_i32_141 k0_t4
  let v496 : BitVec 32 := Scalar.muli c2_i32_215 arg20
  let c1_i32_216 : BitVec 32 := 1#32
  let v497 : BitVec 32 := Scalar.addi v496 c1_i32_216
  let c1_i32_240 : BitVec 32 := 1#32
  let v534 : BitVec 32 := Scalar.addi v497 c1_i32_240
  let c15_i32_241 : BitVec 32 := 15#32
  let v535 : BitVec 32 := Scalar.minsi v534 c15_i32_241
  let c256_i32_242 : BitVec 32 := 256#32
  let v536 : BitVec 32 := Scalar.muli v535 c256_i32_242
  v536
def k0_off15 (i : grid0.Coords) (k0_t4 : Fin (k0_t4_loop i).trips) : Fin 4 → Nat :=
  let c0_243 : Index := 0#32
  let c0_244 : Index := 0#32
  let c2_i32_215 : BitVec 32 := 2#32
  let c0_i32_138 : BitVec 32 := 0#32
  let arg2 : BitVec 32 := BitVec.ofNat 32 (i 2).val
  let c2_i32_18 : BitVec 32 := 2#32
  let v52 : BitVec 32 := Scalar.muli arg2 c2_i32_18
  let c64_i32_19 : BitVec 32 := 64#32
  let v53 : BitVec 32 := Scalar.muli v52 c64_i32_19
  let c256_i32 : BitVec 32 := 256#32
  let v54 : BitVec 32 := Scalar.addi v53 c256_i32
  let c1_i32_20 : BitVec 32 := 1#32
  let v55 : BitVec 32 := Scalar.subi v54 c1_i32_20
  let c0_i32_22 : BitVec 32 := 0#32
  let v57 : BitVec 1 := Scalar.cmpi .sgt v55 c0_i32_22
  let v58 : BitVec 32 := Scalar.extui v57
  let c0_i32_23 : BitVec 32 := 0#32
  let v59 : BitVec 1 := Scalar.cmpi .slt v55 c0_i32_23
  let v60 : BitVec 32 := Scalar.extui v59
  let v61 : BitVec 32 := Scalar.subi v58 v60
  let c256_i32_21 : BitVec 32 := 256#32
  let c0_i32_24 : BitVec 32 := 0#32
  let v62 : BitVec 1 := Scalar.cmpi .sgt c256_i32_21 c0_i32_24
  let v63 : BitVec 32 := Scalar.extui v62
  let c0_i32_25 : BitVec 32 := 0#32
  let v64 : BitVec 1 := Scalar.cmpi .slt c256_i32_21 c0_i32_25
  let v65 : BitVec 32 := Scalar.extui v64
  let v66 : BitVec 32 := Scalar.subi v63 v65
  let v67 : BitVec 1 := Scalar.cmpi .ne v61 v66
  let v68 : BitVec 32 := Scalar.remsi v55 c256_i32_21
  let c0_i32_26 : BitVec 32 := 0#32
  let v69 : BitVec 1 := Scalar.cmpi .ne v68 c0_i32_26
  let v70 : BitVec 1 := Scalar.andi v67 v69
  let v56 : BitVec 32 := Scalar.divsi v55 c256_i32_21
  let c1_i32_27 : BitVec 32 := 1#32
  let v71 : BitVec 32 := Scalar.subi v56 c1_i32_27
  let v72 : BitVec 32 := Scalar.select v70 v71 v56
  let c0_i32_132 : BitVec 32 := 0#32
  let v339 : BitVec 1 := Scalar.cmpi .sgt v72 c0_i32_132
  let v340 : BitVec 32 := Scalar.extui v339
  let c0_i32_133 : BitVec 32 := 0#32
  let v341 : BitVec 1 := Scalar.cmpi .slt v72 c0_i32_133
  let v342 : BitVec 32 := Scalar.extui v341
  let v343 : BitVec 32 := Scalar.subi v340 v342
  let c2_i32_131 : BitVec 32 := 2#32
  let c0_i32_134 : BitVec 32 := 0#32
  let v344 : BitVec 1 := Scalar.cmpi .sgt c2_i32_131 c0_i32_134
  let v345 : BitVec 32 := Scalar.extui v344
  let c0_i32_135 : BitVec 32 := 0#32
  let v346 : BitVec 1 := Scalar.cmpi .slt c2_i32_131 c0_i32_135
  let v347 : BitVec 32 := Scalar.extui v346
  let v348 : BitVec 32 := Scalar.subi v345 v347
  let v349 : BitVec 1 := Scalar.cmpi .ne v343 v348
  let v350 : BitVec 32 := Scalar.remsi v72 c2_i32_131
  let c0_i32_136 : BitVec 32 := 0#32
  let v351 : BitVec 1 := Scalar.cmpi .ne v350 c0_i32_136
  let v352 : BitVec 1 := Scalar.andi v349 v351
  let v338 : BitVec 32 := Scalar.divsi v72 c2_i32_131
  let c1_i32_137 : BitVec 32 := 1#32
  let v353 : BitVec 32 := Scalar.subi v338 c1_i32_137
  let v354 : BitVec 32 := Scalar.select v352 v353 v338
  let v355 : BitVec 32 := Scalar.subi v354 c0_i32_138
  let c1_i32_139 : BitVec 32 := 1#32
  let v357 : BitVec 32 := Scalar.divsi v355 c1_i32_139
  let v358 : BitVec 32 := Scalar.muli v357 c1_i32_139
  let v359 : BitVec 32 := Scalar.addi c0_i32_138 v358
  let c1_i32_141 : BitVec 32 := 1#32
  let arg20 : BitVec 32 := Scf.iv v359 c1_i32_141 k0_t4
  let v496 : BitVec 32 := Scalar.muli c2_i32_215 arg20
  let c1_i32_216 : BitVec 32 := 1#32
  let v497 : BitVec 32 := Scalar.addi v496 c1_i32_216
  let c1_i32_240 : BitVec 32 := 1#32
  let v534 : BitVec 32 := Scalar.addi v497 c1_i32_240
  let c15_i32_241 : BitVec 32 := 15#32
  let v535 : BitVec 32 := Scalar.minsi v534 c15_i32_241
  let c256_i32_242 : BitVec 32 := 256#32
  let v536 : BitVec 32 := Scalar.muli v535 c256_i32_242
  let v537 : BitVec 32 := v536
  let v538 : Index := Scalar.indexCast v537
  let c0_245 : Index := 0#32
  ![0, 0, v538.toNat, 0]
def k0_mult11 (i : grid0.Coords) (k0_t4 : Fin (k0_t4_loop i).trips) : BitVec 32 :=
  let c2_i32_215 : BitVec 32 := 2#32
  let c0_i32_138 : BitVec 32 := 0#32
  let arg2 : BitVec 32 := BitVec.ofNat 32 (i 2).val
  let c2_i32_18 : BitVec 32 := 2#32
  let v52 : BitVec 32 := Scalar.muli arg2 c2_i32_18
  let c64_i32_19 : BitVec 32 := 64#32
  let v53 : BitVec 32 := Scalar.muli v52 c64_i32_19
  let c256_i32 : BitVec 32 := 256#32
  let v54 : BitVec 32 := Scalar.addi v53 c256_i32
  let c1_i32_20 : BitVec 32 := 1#32
  let v55 : BitVec 32 := Scalar.subi v54 c1_i32_20
  let c0_i32_22 : BitVec 32 := 0#32
  let v57 : BitVec 1 := Scalar.cmpi .sgt v55 c0_i32_22
  let v58 : BitVec 32 := Scalar.extui v57
  let c0_i32_23 : BitVec 32 := 0#32
  let v59 : BitVec 1 := Scalar.cmpi .slt v55 c0_i32_23
  let v60 : BitVec 32 := Scalar.extui v59
  let v61 : BitVec 32 := Scalar.subi v58 v60
  let c256_i32_21 : BitVec 32 := 256#32
  let c0_i32_24 : BitVec 32 := 0#32
  let v62 : BitVec 1 := Scalar.cmpi .sgt c256_i32_21 c0_i32_24
  let v63 : BitVec 32 := Scalar.extui v62
  let c0_i32_25 : BitVec 32 := 0#32
  let v64 : BitVec 1 := Scalar.cmpi .slt c256_i32_21 c0_i32_25
  let v65 : BitVec 32 := Scalar.extui v64
  let v66 : BitVec 32 := Scalar.subi v63 v65
  let v67 : BitVec 1 := Scalar.cmpi .ne v61 v66
  let v68 : BitVec 32 := Scalar.remsi v55 c256_i32_21
  let c0_i32_26 : BitVec 32 := 0#32
  let v69 : BitVec 1 := Scalar.cmpi .ne v68 c0_i32_26
  let v70 : BitVec 1 := Scalar.andi v67 v69
  let v56 : BitVec 32 := Scalar.divsi v55 c256_i32_21
  let c1_i32_27 : BitVec 32 := 1#32
  let v71 : BitVec 32 := Scalar.subi v56 c1_i32_27
  let v72 : BitVec 32 := Scalar.select v70 v71 v56
  let c0_i32_132 : BitVec 32 := 0#32
  let v339 : BitVec 1 := Scalar.cmpi .sgt v72 c0_i32_132
  let v340 : BitVec 32 := Scalar.extui v339
  let c0_i32_133 : BitVec 32 := 0#32
  let v341 : BitVec 1 := Scalar.cmpi .slt v72 c0_i32_133
  let v342 : BitVec 32 := Scalar.extui v341
  let v343 : BitVec 32 := Scalar.subi v340 v342
  let c2_i32_131 : BitVec 32 := 2#32
  let c0_i32_134 : BitVec 32 := 0#32
  let v344 : BitVec 1 := Scalar.cmpi .sgt c2_i32_131 c0_i32_134
  let v345 : BitVec 32 := Scalar.extui v344
  let c0_i32_135 : BitVec 32 := 0#32
  let v346 : BitVec 1 := Scalar.cmpi .slt c2_i32_131 c0_i32_135
  let v347 : BitVec 32 := Scalar.extui v346
  let v348 : BitVec 32 := Scalar.subi v345 v347
  let v349 : BitVec 1 := Scalar.cmpi .ne v343 v348
  let v350 : BitVec 32 := Scalar.remsi v72 c2_i32_131
  let c0_i32_136 : BitVec 32 := 0#32
  let v351 : BitVec 1 := Scalar.cmpi .ne v350 c0_i32_136
  let v352 : BitVec 1 := Scalar.andi v349 v351
  let v338 : BitVec 32 := Scalar.divsi v72 c2_i32_131
  let c1_i32_137 : BitVec 32 := 1#32
  let v353 : BitVec 32 := Scalar.subi v338 c1_i32_137
  let v354 : BitVec 32 := Scalar.select v352 v353 v338
  let v355 : BitVec 32 := Scalar.subi v354 c0_i32_138
  let c1_i32_139 : BitVec 32 := 1#32
  let v357 : BitVec 32 := Scalar.divsi v355 c1_i32_139
  let v358 : BitVec 32 := Scalar.muli v357 c1_i32_139
  let v359 : BitVec 32 := Scalar.addi c0_i32_138 v358
  let c1_i32_141 : BitVec 32 := 1#32
  let arg20 : BitVec 32 := Scf.iv v359 c1_i32_141 k0_t4
  let v496 : BitVec 32 := Scalar.muli c2_i32_215 arg20
  let c1_i32_216 : BitVec 32 := 1#32
  let v497 : BitVec 32 := Scalar.addi v496 c1_i32_216
  let c256_i32_254 : BitVec 32 := 256#32
  let v555 : BitVec 32 := Scalar.muli v497 c256_i32_254
  v555
def k0_off16 (i : grid0.Coords) (k0_t4 : Fin (k0_t4_loop i).trips) : Fin 4 → Nat :=
  let c0_257 : Index := 0#32
  let c0_258 : Index := 0#32
  let c0_259 : Index := 0#32
  let c2_i32_215 : BitVec 32 := 2#32
  let c0_i32_138 : BitVec 32 := 0#32
  let arg2 : BitVec 32 := BitVec.ofNat 32 (i 2).val
  let c2_i32_18 : BitVec 32 := 2#32
  let v52 : BitVec 32 := Scalar.muli arg2 c2_i32_18
  let c64_i32_19 : BitVec 32 := 64#32
  let v53 : BitVec 32 := Scalar.muli v52 c64_i32_19
  let c256_i32 : BitVec 32 := 256#32
  let v54 : BitVec 32 := Scalar.addi v53 c256_i32
  let c1_i32_20 : BitVec 32 := 1#32
  let v55 : BitVec 32 := Scalar.subi v54 c1_i32_20
  let c0_i32_22 : BitVec 32 := 0#32
  let v57 : BitVec 1 := Scalar.cmpi .sgt v55 c0_i32_22
  let v58 : BitVec 32 := Scalar.extui v57
  let c0_i32_23 : BitVec 32 := 0#32
  let v59 : BitVec 1 := Scalar.cmpi .slt v55 c0_i32_23
  let v60 : BitVec 32 := Scalar.extui v59
  let v61 : BitVec 32 := Scalar.subi v58 v60
  let c256_i32_21 : BitVec 32 := 256#32
  let c0_i32_24 : BitVec 32 := 0#32
  let v62 : BitVec 1 := Scalar.cmpi .sgt c256_i32_21 c0_i32_24
  let v63 : BitVec 32 := Scalar.extui v62
  let c0_i32_25 : BitVec 32 := 0#32
  let v64 : BitVec 1 := Scalar.cmpi .slt c256_i32_21 c0_i32_25
  let v65 : BitVec 32 := Scalar.extui v64
  let v66 : BitVec 32 := Scalar.subi v63 v65
  let v67 : BitVec 1 := Scalar.cmpi .ne v61 v66
  let v68 : BitVec 32 := Scalar.remsi v55 c256_i32_21
  let c0_i32_26 : BitVec 32 := 0#32
  let v69 : BitVec 1 := Scalar.cmpi .ne v68 c0_i32_26
  let v70 : BitVec 1 := Scalar.andi v67 v69
  let v56 : BitVec 32 := Scalar.divsi v55 c256_i32_21
  let c1_i32_27 : BitVec 32 := 1#32
  let v71 : BitVec 32 := Scalar.subi v56 c1_i32_27
  let v72 : BitVec 32 := Scalar.select v70 v71 v56
  let c0_i32_132 : BitVec 32 := 0#32
  let v339 : BitVec 1 := Scalar.cmpi .sgt v72 c0_i32_132
  let v340 : BitVec 32 := Scalar.extui v339
  let c0_i32_133 : BitVec 32 := 0#32
  let v341 : BitVec 1 := Scalar.cmpi .slt v72 c0_i32_133
  let v342 : BitVec 32 := Scalar.extui v341
  let v343 : BitVec 32 := Scalar.subi v340 v342
  let c2_i32_131 : BitVec 32 := 2#32
  let c0_i32_134 : BitVec 32 := 0#32
  let v344 : BitVec 1 := Scalar.cmpi .sgt c2_i32_131 c0_i32_134
  let v345 : BitVec 32 := Scalar.extui v344
  let c0_i32_135 : BitVec 32 := 0#32
  let v346 : BitVec 1 := Scalar.cmpi .slt c2_i32_131 c0_i32_135
  let v347 : BitVec 32 := Scalar.extui v346
  let v348 : BitVec 32 := Scalar.subi v345 v347
  let v349 : BitVec 1 := Scalar.cmpi .ne v343 v348
  let v350 : BitVec 32 := Scalar.remsi v72 c2_i32_131
  let c0_i32_136 : BitVec 32 := 0#32
  let v351 : BitVec 1 := Scalar.cmpi .ne v350 c0_i32_136
  let v352 : BitVec 1 := Scalar.andi v349 v351
  let v338 : BitVec 32 := Scalar.divsi v72 c2_i32_131
  let c1_i32_137 : BitVec 32 := 1#32
  let v353 : BitVec 32 := Scalar.subi v338 c1_i32_137
  let v354 : BitVec 32 := Scalar.select v352 v353 v338
  let v355 : BitVec 32 := Scalar.subi v354 c0_i32_138
  let c1_i32_139 : BitVec 32 := 1#32
  let v357 : BitVec 32 := Scalar.divsi v355 c1_i32_139
  let v358 : BitVec 32 := Scalar.muli v357 c1_i32_139
  let v359 : BitVec 32 := Scalar.addi c0_i32_138 v358
  let c1_i32_141 : BitVec 32 := 1#32
  let arg20 : BitVec 32 := Scf.iv v359 c1_i32_141 k0_t4
  let v496 : BitVec 32 := Scalar.muli c2_i32_215 arg20
  let c1_i32_216 : BitVec 32 := 1#32
  let v497 : BitVec 32 := Scalar.addi v496 c1_i32_216
  let c256_i32_254 : BitVec 32 := 256#32
  let v555 : BitVec 32 := Scalar.muli v497 c256_i32_254
  let v556 : BitVec 32 := v555
  let v560 : Index := Scalar.indexCast v556
  ![0, 0, 0, v560.toNat]
def k0_cond2 (i : grid0.Coords) : BitVec 1 :=
  let arg2 : BitVec 32 := BitVec.ofNat 32 (i 2).val
  let c2_i32_18 : BitVec 32 := 2#32
  let v52 : BitVec 32 := Scalar.muli arg2 c2_i32_18
  let c64_i32_19 : BitVec 32 := 64#32
  let v53 : BitVec 32 := Scalar.muli v52 c64_i32_19
  let c256_i32 : BitVec 32 := 256#32
  let v54 : BitVec 32 := Scalar.addi v53 c256_i32
  let c1_i32_20 : BitVec 32 := 1#32
  let v55 : BitVec 32 := Scalar.subi v54 c1_i32_20
  let c0_i32_22 : BitVec 32 := 0#32
  let v57 : BitVec 1 := Scalar.cmpi .sgt v55 c0_i32_22
  let v58 : BitVec 32 := Scalar.extui v57
  let c0_i32_23 : BitVec 32 := 0#32
  let v59 : BitVec 1 := Scalar.cmpi .slt v55 c0_i32_23
  let v60 : BitVec 32 := Scalar.extui v59
  let v61 : BitVec 32 := Scalar.subi v58 v60
  let c256_i32_21 : BitVec 32 := 256#32
  let c0_i32_24 : BitVec 32 := 0#32
  let v62 : BitVec 1 := Scalar.cmpi .sgt c256_i32_21 c0_i32_24
  let v63 : BitVec 32 := Scalar.extui v62
  let c0_i32_25 : BitVec 32 := 0#32
  let v64 : BitVec 1 := Scalar.cmpi .slt c256_i32_21 c0_i32_25
  let v65 : BitVec 32 := Scalar.extui v64
  let v66 : BitVec 32 := Scalar.subi v63 v65
  let v67 : BitVec 1 := Scalar.cmpi .ne v61 v66
  let v68 : BitVec 32 := Scalar.remsi v55 c256_i32_21
  let c0_i32_26 : BitVec 32 := 0#32
  let v69 : BitVec 1 := Scalar.cmpi .ne v68 c0_i32_26
  let v70 : BitVec 1 := Scalar.andi v67 v69
  let v56 : BitVec 32 := Scalar.divsi v55 c256_i32_21
  let c1_i32_27 : BitVec 32 := 1#32
  let v71 : BitVec 32 := Scalar.subi v56 c1_i32_27
  let v72 : BitVec 32 := Scalar.select v70 v71 v56
  let c2_i32_142 : BitVec 32 := 2#32
  let c0_i32_143 : BitVec 32 := 0#32
  let v362 : BitVec 1 := Scalar.cmpi .eq c2_i32_142 c0_i32_143
  let c1_i32_144 : BitVec 32 := 1#32
  let v363 : BitVec 32 := Scalar.select v362 c1_i32_144 c2_i32_142
  let v364 : BitVec 32 := Scalar.remsi v72 v363
  let c0_i32_146 : BitVec 32 := 0#32
  let v366 : BitVec 1 := Scalar.cmpi .slt v364 c0_i32_146
  let c0_i32_147 : BitVec 32 := 0#32
  let v367 : BitVec 1 := Scalar.cmpi .slt v363 c0_i32_147
  let v368 : BitVec 1 := Scalar.xori v366 v367
  let c0_i32_145 : BitVec 32 := 0#32
  let v365 : BitVec 1 := Scalar.cmpi .ne v364 c0_i32_145
  let v369 : BitVec 1 := Scalar.andi v368 v365
  let v370 : BitVec 32 := Scalar.addi v364 v363
  let v371 : BitVec 32 := Scalar.select v369 v370 v364
  let c1_i32_148 : BitVec 32 := 1#32
  let v372 : BitVec 1 := Scalar.cmpi .eq v371 c1_i32_148
  let v373 : BitVec 32 := Scalar.extui v372
  let c0_i32_149 : BitVec 32 := 0#32
  let v374 : BitVec 1 := Scalar.cmpi .ne v373 c0_i32_149
  v374

def k0_mult12 (i : grid0.Coords) : BitVec 32 :=
  let arg2 : BitVec 32 := BitVec.ofNat 32 (i 2).val
  let c2_i32_18 : BitVec 32 := 2#32
  let v52 : BitVec 32 := Scalar.muli arg2 c2_i32_18
  let c64_i32_19 : BitVec 32 := 64#32
  let v53 : BitVec 32 := Scalar.muli v52 c64_i32_19
  let c256_i32 : BitVec 32 := 256#32
  let v54 : BitVec 32 := Scalar.addi v53 c256_i32
  let c1_i32_20 : BitVec 32 := 1#32
  let v55 : BitVec 32 := Scalar.subi v54 c1_i32_20
  let c0_i32_22 : BitVec 32 := 0#32
  let v57 : BitVec 1 := Scalar.cmpi .sgt v55 c0_i32_22
  let v58 : BitVec 32 := Scalar.extui v57
  let c0_i32_23 : BitVec 32 := 0#32
  let v59 : BitVec 1 := Scalar.cmpi .slt v55 c0_i32_23
  let v60 : BitVec 32 := Scalar.extui v59
  let v61 : BitVec 32 := Scalar.subi v58 v60
  let c256_i32_21 : BitVec 32 := 256#32
  let c0_i32_24 : BitVec 32 := 0#32
  let v62 : BitVec 1 := Scalar.cmpi .sgt c256_i32_21 c0_i32_24
  let v63 : BitVec 32 := Scalar.extui v62
  let c0_i32_25 : BitVec 32 := 0#32
  let v64 : BitVec 1 := Scalar.cmpi .slt c256_i32_21 c0_i32_25
  let v65 : BitVec 32 := Scalar.extui v64
  let v66 : BitVec 32 := Scalar.subi v63 v65
  let v67 : BitVec 1 := Scalar.cmpi .ne v61 v66
  let v68 : BitVec 32 := Scalar.remsi v55 c256_i32_21
  let c0_i32_26 : BitVec 32 := 0#32
  let v69 : BitVec 1 := Scalar.cmpi .ne v68 c0_i32_26
  let v70 : BitVec 1 := Scalar.andi v67 v69
  let v56 : BitVec 32 := Scalar.divsi v55 c256_i32_21
  let c1_i32_27 : BitVec 32 := 1#32
  let v71 : BitVec 32 := Scalar.subi v56 c1_i32_27
  let v72 : BitVec 32 := Scalar.select v70 v71 v56
  let c1_i32_215 : BitVec 32 := 1#32
  let v496 : BitVec 32 := Scalar.subi v72 c1_i32_215
  let c256_i32_220 : BitVec 32 := 256#32
  let v507 : BitVec 32 := Scalar.muli v496 c256_i32_220
  v507
def k0_off17 (i : grid0.Coords) : Fin 4 → Nat :=
  let c0_223 : Index := 0#32
  let c0_224 : Index := 0#32
  let c0_225 : Index := 0#32
  let arg2 : BitVec 32 := BitVec.ofNat 32 (i 2).val
  let c2_i32_18 : BitVec 32 := 2#32
  let v52 : BitVec 32 := Scalar.muli arg2 c2_i32_18
  let c64_i32_19 : BitVec 32 := 64#32
  let v53 : BitVec 32 := Scalar.muli v52 c64_i32_19
  let c256_i32 : BitVec 32 := 256#32
  let v54 : BitVec 32 := Scalar.addi v53 c256_i32
  let c1_i32_20 : BitVec 32 := 1#32
  let v55 : BitVec 32 := Scalar.subi v54 c1_i32_20
  let c0_i32_22 : BitVec 32 := 0#32
  let v57 : BitVec 1 := Scalar.cmpi .sgt v55 c0_i32_22
  let v58 : BitVec 32 := Scalar.extui v57
  let c0_i32_23 : BitVec 32 := 0#32
  let v59 : BitVec 1 := Scalar.cmpi .slt v55 c0_i32_23
  let v60 : BitVec 32 := Scalar.extui v59
  let v61 : BitVec 32 := Scalar.subi v58 v60
  let c256_i32_21 : BitVec 32 := 256#32
  let c0_i32_24 : BitVec 32 := 0#32
  let v62 : BitVec 1 := Scalar.cmpi .sgt c256_i32_21 c0_i32_24
  let v63 : BitVec 32 := Scalar.extui v62
  let c0_i32_25 : BitVec 32 := 0#32
  let v64 : BitVec 1 := Scalar.cmpi .slt c256_i32_21 c0_i32_25
  let v65 : BitVec 32 := Scalar.extui v64
  let v66 : BitVec 32 := Scalar.subi v63 v65
  let v67 : BitVec 1 := Scalar.cmpi .ne v61 v66
  let v68 : BitVec 32 := Scalar.remsi v55 c256_i32_21
  let c0_i32_26 : BitVec 32 := 0#32
  let v69 : BitVec 1 := Scalar.cmpi .ne v68 c0_i32_26
  let v70 : BitVec 1 := Scalar.andi v67 v69
  let v56 : BitVec 32 := Scalar.divsi v55 c256_i32_21
  let c1_i32_27 : BitVec 32 := 1#32
  let v71 : BitVec 32 := Scalar.subi v56 c1_i32_27
  let v72 : BitVec 32 := Scalar.select v70 v71 v56
  let c1_i32_215 : BitVec 32 := 1#32
  let v496 : BitVec 32 := Scalar.subi v72 c1_i32_215
  let c256_i32_220 : BitVec 32 := 256#32
  let v507 : BitVec 32 := Scalar.muli v496 c256_i32_220
  let v508 : BitVec 32 := v507
  let v512 : Index := Scalar.indexCast v508
  ![0, 0, 0, v512.toNat]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi c6_i32 arg1
  let c0_i32 : BitVec 32 := 0#32
  ![arg0.toNat, arg2.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x2x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x80x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x4608x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x80x4608 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .vmem S64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S640x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== Proof.Rows.lean ====
/- The layer's row functions over the extended reals, and the sums the tiled kernels split: a row's root-mean-square
   normalization, a row times a matrix, the squared-ReLU step, a contraction cut in four column tiles and one cut in two. -/
module

public import Idealize.ShloMosaic.Lib.Pointwise
public import Idealize.ShloMosaic.Lib.Pipeline.ValueKit
public import Idealize.ShloMosaic.PureOps.Ideal.Laws

@[expose] public section

noncomputable section

open Idealize.ShloMosaic

namespace Cert.Rows

/-- A two-axis array by its row and its column. -/
abbrev Mat (a b : ℕ) := (⟨2, ![a, b]⟩ : Shape).Idx → EReal

/-- The row of a normalized array at a column: `x · rsqrt(mean x² + ε) · g`, the mean over 1024 columns. -/
def rms (x : Fin 1024 → EReal) (g : EReal) (j : Fin 1024) : EReal :=
  x j * Ideal.rsqrt (Ideal.div (∑ k, x k * x k) (Ideal.ofBits FTy.f32 1149239296#32) + Ideal.ofBits FTy.f32 897988541#32) * g

/-- A row times a matrix, at a column. -/
def dot {n p : ℕ} (x : Fin n → EReal) (w : Mat n p) (j : Fin p) : EReal := ∑ k, x k * w (ix2 k j)

/-- Row `r` of a two-axis array. -/
def row {a b : ℕ} (x : Mat a b) (r : Fin a) : Fin b → EReal := fun k => x (ix2 r k)

/-- The squared positive part. -/
def sq (x : EReal) : EReal := max x 0 * max x 0

/-- The two products of the squared-ReLU network on a row, over `n` hidden columns. -/
def mlp {n : ℕ} (u : Fin 1024 → EReal) (wu : Mat 1024 n) (wd : Mat n 1024) (j : Fin 1024) : EReal :=
  ∑ q, sq (dot u wu q) * wd (ix2 q j)

/-- Column tile `s` of four of a matrix with 4096 columns. -/
def colTile (s : ℕ) (hs : s < 4) (w : Mat 1024 4096) : Mat 1024 1024 :=
  fun i => w (ix2 (i 0) ⟨1024 * s + (i 1).val, by have := (i 1).isLt; simp at this; omega⟩)

/-- Row tile `s` of four of a matrix with 4096 rows. -/
def rowTile (s : ℕ) (hs : s < 4) (w : Mat 4096 1024) : Mat 1024 1024 :=
  fun i => w (ix2 ⟨1024 * s + (i 0).val, by have := (i 0).isLt; simp at this; omega⟩ (i 1))

/-- The network over all 4096 hidden columns is the sum of its four tiles, added first to last. -/
theorem mlp_tiles (u : Fin 1024 → EReal) (wu : Mat 1024 4096) (wd : Mat 4096 1024) (j : Fin 1024) :
    mlp u (colTile 0 (by decide) wu) (rowTile 0 (by decide) wd) j
        + mlp u (colTile 1 (by decide) wu) (rowTile 1 (by decide) wd) j
        + mlp u (colTile 2 (by decide) wu) (rowTile 2 (by decide) wd) j
        + mlp u (colTile 3 (by decide) wu) (rowTile 3 (by decide) wd) j
      = mlp u wu wd j := by
  have key : mlp u wu wd j = ∑ s : Fin 4, mlp u (colTile s.val s.isLt wu) (rowTile s.val s.isLt wd) j := by
    unfold mlp
    rw [← Equiv.sum_comp (finProdFinEquiv : Fin 4 × Fin 1024 ≃ Fin (4 * 1024)), Fintype.sum_prod_type]
    refine Finset.sum_congr rfl fun s _ => Finset.sum_congr rfl fun q _ => ?_
    have e : (finProdFinEquiv (s, q) : Fin (4 * 1024)) = ⟨1024 * s.val + q.val, by omega⟩ := Fin.ext (by
      simp [finProdFinEquiv]; omega)
    rw [e]
    rfl
  rw [key, Fin.sum_univ_four]
  rfl

/-- A contraction over 1024 entries is the sum of its two halves. -/
theorem dot_halves (x y : Fin 512 → EReal) (z : Fin 1024 → EReal) (w : Mat 1024 1024) (w0 w1 : Mat 512 1024) (j : Fin 1024)
    (hx : ∀ k : Fin 512, z ⟨k.val, by omega⟩ = x k) (hy : ∀ k : Fin 512, z ⟨512 + k.val, by omega⟩ = y k)
    (h0 : ∀ k : Fin 512, w (ix2 ⟨k.val, by omega⟩ j) = w0 (ix2 k j))
    (h1 : ∀ k : Fin 512, w (ix2 ⟨512 + k.val, by omega⟩ j) = w1 (ix2 k j)) :
    dot x w0 j + dot y w1 j = dot z w j := by
  unfold dot
  rw [show (∑ k : Fin 1024, z k * w (ix2 k j)) = ∑ k : Fin (512 + 512), z k * w (ix2 k j) from rfl, Fin.sum_univ_add]
  congr 1
  · refine Finset.sum_congr rfl fun k _ => ?_
    rw [← hx k, ← h0 k]; rfl
  · refine Finset.sum_congr rfl fun k _ => ?_
    rw [← hy k, ← h1 k]; rfl

/-- The residual stream after the output projection's normalized row is added: `h + rms(o·W)·g`, at an index. -/
def mixRes {a : ℕ} (o : Mat a 1024) (w : Mat 1024 1024) (h : Mat a 1024) (g : Mat 1 1024) : Mat a 1024 :=
  fun i => h i + rms (dot (row o (i 0)) w) (g (ix2 0 (i 1))) (i 1)

/-- Every row normalized and scaled. -/
def rmsAll {a : ℕ} (x : Mat a 1024) (g : Mat 1 1024) : Mat a 1024 :=
  fun i => rms (row x (i 0)) (g (ix2 0 (i 1))) (i 1)

/-- The squared-ReLU network on every row. -/
def mlpAll {a n : ℕ} (u : Mat a 1024) (wu : Mat 1024 n) (wd : Mat n 1024) : Mat a 1024 :=
  fun i => mlp (row u (i 0)) wu wd (i 1)

/-- Row block `q` of a matrix, `n` rows a block. -/
def rowBlock {a p : ℕ} (n q : ℕ) (h : n * q + n ≤ a) (x : Mat a p) : Mat n p :=
  fun i => x (ix2 ⟨n * q + (i 0).val, by have := (i 0).isLt; simp at this; omega⟩ (i 1))

/-- A vector as a matrix of one row. -/
def asRow {a : ℕ} (g : (⟨1, ![a]⟩ : Shape).Idx → EReal) : Mat 1 a := fun i => g (ix1 (i 1))

/-- An index of a square tile from its row, counted from `o`, and its column. -/
theorem tile_index {a b n : ℕ} (o : ℕ) (y : (⟨2, ![a, b]⟩ : Shape).Idx) (x : (⟨2, ![n, b]⟩ : Shape).Idx)
    (h : o + (x 0).val < a) (h0 : (y 0).val = o + (x 0).val) (h1 : (y 1).val = (x 1).val) :
    y = ix2 (⟨o + (x 0).val, h⟩ : Fin a) (x 1) := by
  funext d
  match d with
  | ⟨0, _⟩ => exact Fin.ext h0
  | ⟨1, _⟩ => exact Fin.ext h1

/-- `tile_index` for the first rows. -/
theorem tile_index_first {a b n : ℕ} (y : (⟨2, ![a, b]⟩ : Shape).Idx) (x : (⟨2, ![n, b]⟩ : Shape).Idx)
    (h : (x 0).val < a) (h0 : (y 0).val = (x 0).val) (h1 : (y 1).val = (x 1).val) :
    y = ix2 (⟨(x 0).val, h⟩ : Fin a) (x 1) := by
  funext d
  match d with
  | ⟨0, _⟩ => exact Fin.ext h0
  | ⟨1, _⟩ => exact Fin.ext h1

/-- The end of a layer: the mixed rows normalized onto the residual stream, the squared-ReLU network on their normalized
    rows, its output normalized onto the stream. `x` the mixer's projected rows, `h` the stream, three norm scales. -/
def layerEnd {a : ℕ} (h1 : Mat a 1024) (g1 : Mat 1 1024) (wu : Mat 1024 4096) (wd : Mat 4096 1024) (g2 : Mat 1 1024) : Mat a 1024 :=
  fun i => h1 i + rms (row (mlpAll (rmsAll h1 g1) wu wd) (i 0)) (g2 (ix2 0 (i 1))) (i 1)

/-- `layerEnd` of a block of rows, the network's hidden columns in four tiles. -/
theorem layerEnd_tiles {a : ℕ} (h1 : Mat a 1024) (g1 : Mat 1 1024) (wu : Mat 1024 4096) (wd : Mat 4096 1024) (g2 : Mat 1 1024)
    (y : (⟨2, ![a, 1024]⟩ : Shape).Idx) :
    h1 y + rms (fun k =>
        mlpAll (rmsAll h1 g1) (colTile 0 (by decide) wu) (rowTile 0 (by decide) wd) (ix2 (y 0) k)
        + mlpAll (rmsAll h1 g1) (colTile 1 (by decide) wu) (rowTile 1 (by decide) wd) (ix2 (y 0) k)
        + mlpAll (rmsAll h1 g1) (colTile 2 (by decide) wu) (rowTile 2 (by decide) wd) (ix2 (y 0) k)
        + mlpAll (rmsAll h1 g1) (colTile 3 (by decide) wu) (rowTile 3 (by decide) wd) (ix2 (y 0) k))
      (g2 (ix2 0 (y 1))) (y 1) = layerEnd h1 g1 wu wd g2 y := by
  have e : ∀ k : Fin 1024, _ = mlpAll (rmsAll h1 g1) wu wd (ix2 (y 0) k) := fun k =>
    mlp_tiles (row (rmsAll h1 g1) (y 0)) wu wd k
  unfold layerEnd
  congr 2
  funext k
  exact e k

/-- `mixRes` of rows given in two halves, the projection's matrix cut the same way. -/
def mixRes2 {a : ℕ} (oa ob : Mat a 512) (wa wb : Mat 512 1024) (h : Mat a 1024) (g : Mat 1 1024) : Mat a 1024 :=
  fun i => h i + rms (fun j => dot (row oa (i 0)) wa j + dot (row ob (i 0)) wb j) (g (ix2 0 (i 1))) (i 1)

/-- Two arrays of 512 columns side by side. -/
def catCols {a : ℕ} (oa ob : Mat a 512) : Mat a 1024 := fun i =>
  if h : (i 1).val < 512 then oa (ix2 (i 0) ⟨(i 1).val, h⟩)
  else ob (ix2 (i 0) ⟨(i 1).val - 512, by have : (i 1).val < 1024 := (i 1).isLt; omega⟩)

/-- The first 512 rows of the projection's matrix. -/
def rowsLo (w : Mat 1024 1024) : Mat 512 1024 :=
  fun i => w (ix2 ⟨(i 0).val, by have : (i 0).val < 512 := (i 0).isLt; omega⟩ (i 1))

/-- The last 512 rows of the projection's matrix. -/
def rowsHi (w : Mat 1024 1024) : Mat 512 1024 :=
  fun i => w (ix2 ⟨512 + (i 0).val, by have : (i 0).val < 512 := (i 0).isLt; omega⟩ (i 1))

/-- The two half contractions are the whole one. -/
theorem mixRes2_eq {a : ℕ} (oa ob : Mat a 512) (w : Mat 1024 1024) (h : Mat a 1024) (g : Mat 1 1024) :
    mixRes2 oa ob (rowsLo w) (rowsHi w) h g = mixRes (catCols oa ob) w h g := by
  funext i
  unfold mixRes2 mixRes
  congr 2
  funext j
  refine dot_halves _ _ (row (catCols oa ob) (i 0)) w _ _ j (fun k => ?_) (fun k => ?_) (fun _ => rfl) (fun _ => rfl)
  · show catCols oa ob (ix2 (i 0) ⟨k.val, _⟩) = oa (ix2 (i 0) k)
    exact dif_pos k.isLt
  · show catCols oa ob (ix2 (i 0) ⟨512 + k.val, _⟩) = ob (ix2 (i 0) k)
    refine (dif_neg (by simp)).trans ?_
    exact congrArg (fun k => ob (ix2 (i 0) k)) (Fin.ext (by simp))

end Cert.Rows
-- ==== Proof.FfnValue.lean ====
/- What one run of the last layer's output-and-network kernel leaves in its result, read as the layer's row functions. -/
module

public import proofs.«01_k».proof.Proof.Rows
public import proofs.«01_k».proof.Proof.Gen.FfnIdeal.Value
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section
open Idealize.ShloMosaic Idealize.SL.Sem Idealize.ShloMosaic.TcCoe
open Cert.FfnIdeal Cert.FfnIdeal.Gen
open Cert.Rows
namespace Cert.FfnProof
variable (m : (ℓ : Loc nD τ sig) → Buf (Elt Ideal) ℓ)

theorem h1_A (c : Dev nD) (t : Fin cfg0.N) (h : t.val % 4 = 0) :
    (outsAt0 m c t.val t.isLt).2.1 = mixRes (iblk m c 0 t) (iblk m c 1 t) (iblk m c 2 t) (iblk m c 3 t) := by
  rw [outsAt0_A m c t h (by omega) (by omega)]
  dsimp only
  funext y
  frame_open
  frame_out
  canon_tiles x h
  all_goals open_payloads
  all_goals pointwise
  all_goals first
    | (rw [tile_index 768 y x (by omega) h0 h1]; rfl)
    | (rw [tile_index 512 y x (by omega) h0 h1]; rfl)
    | (rw [tile_index 256 y x (by omega) h0 h1]; rfl)
    | (rw [tile_index_first y x (by omega) h0 h1]; rfl)

theorem u_A (c : Dev nD) (t : Fin cfg0.N) (h : t.val % 4 = 0) :
    (outsAt0 m c t.val t.isLt).2.2.1
      = rmsAll (mixRes (iblk m c 0 t) (iblk m c 1 t) (iblk m c 2 t) (iblk m c 3 t)) (iblk m c 4 t) := by
  rw [outsAt0_A m c t h (by omega) (by omega)]
  dsimp only
  funext y
  frame_open
  frame_out
  canon_tiles x h
  all_goals open_payloads
  all_goals pointwise
  all_goals first
    | (rw [tile_index 768 y x (by omega) h0 h1]; rfl)
    | (rw [tile_index 512 y x (by omega) h0 h1]; rfl)
    | (rw [tile_index 256 y x (by omega) h0 h1]; rfl)
    | (rw [tile_index_first y x (by omega) h0 h1]; rfl)

theorem acc_A (c : Dev nD) (t : Fin cfg0.N) (h : t.val % 4 = 0) :
    (outsAt0 m c t.val t.isLt).2.2.2
      = mlpAll (rmsAll (mixRes (iblk m c 0 t) (iblk m c 1 t) (iblk m c 2 t) (iblk m c 3 t)) (iblk m c 4 t))
          (iblk m c 5 t) (iblk m c 6 t) := by
  rw [outsAt0_A m c t h (by omega) (by omega)]
  dsimp only
  funext y
  frame_open
  simp (disch := decide) only [↓ View.readCov_skip, ↓ View.readCov_cons_toLoadRect, ↓ View.readCov_fill]
  frame_out
  canon_tiles x h
  all_goals open_payloads
  all_goals pointwise
  all_goals first
    | (rw [tile_index 768 y x (by omega) h0 h1]; rfl)
    | (rw [tile_index 512 y x (by omega) h0 h1]; rfl)
    | (rw [tile_index 256 y x (by omega) h0 h1]; rfl)
    | (rw [tile_index_first y x (by omega) h0 h1]; rfl)

theorem prev_lt (t : Fin cfg0.N) : t.val - 1 < cfg0.N := lt_of_le_of_lt (Nat.sub_le _ _) t.isLt

/-- The residual rows and the network's input rows are carried through the later points of a row block. -/
theorem h1_BC (c : Dev nD) (t : Fin cfg0.N) (h : t.val % 4 ≠ 0) :
    (outsAt0 m c t.val t.isLt).2.1 = (outsAt0 m c (t.val - 1) (prev_lt t)).2.1 := by
  by_cases h3 : t.val % 4 = 3
  · rw [outsAt0_C m c t h (by omega) h3]; rfl
  · rw [outsAt0_B m c t h (by omega) h3]; rfl

theorem u_BC (c : Dev nD) (t : Fin cfg0.N) (h : t.val % 4 ≠ 0) :
    (outsAt0 m c t.val t.isLt).2.2.1 = (outsAt0 m c (t.val - 1) (prev_lt t)).2.2.1 := by
  by_cases h3 : t.val % 4 = 3
  · rw [outsAt0_C m c t h (by omega) h3]; rfl
  · rw [outsAt0_B m c t h (by omega) h3]; rfl

theorem acc_B (c : Dev nD) (t : Fin cfg0.N) (h : 1 ≤ t.val % 4 ∧ t.val % 4 ≤ 2) :
    (outsAt0 m c t.val t.isLt).2.2.2
      = fun y => (outsAt0 m c (t.val - 1) (prev_lt t)).2.2.2 y
          + mlpAll (outsAt0 m c (t.val - 1) (prev_lt t)).2.2.1 (iblk m c 5 t) (iblk m c 6 t) y := by
  rw [outsAt0_B m c t (by omega) h (by omega)]
  generalize outsAt0 m c (t.val - 1) (prev_lt t) = p
  dsimp only
  funext y
  frame_open
  frame_out
  canon_tiles x h
  all_goals open_payloads
  all_goals pointwise
  all_goals simp only [read_unread_whole]
  all_goals first
    | (rw [tile_index 768 y x (by omega) h0 h1]; rfl)
    | (rw [tile_index 512 y x (by omega) h0 h1]; rfl)
    | (rw [tile_index 256 y x (by omega) h0 h1]; rfl)
    | (rw [tile_index_first y x (by omega) h0 h1]; rfl)

theorem out_C (c : Dev nD) (t : Fin cfg0.N) (h : t.val % 4 = 3) :
    (outsAt0 m c t.val t.isLt).1
      = fun y => (outsAt0 m c (t.val - 1) (prev_lt t)).2.1 y
          + rms (fun k => (outsAt0 m c (t.val - 1) (prev_lt t)).2.2.2 (ix2 (y 0) k)
              + mlpAll (outsAt0 m c (t.val - 1) (prev_lt t)).2.2.1 (iblk m c 5 t) (iblk m c 6 t) (ix2 (y 0) k))
            ((iblk m c 7 t : Mat 1 1024) (ix2 0 (y 1))) (y 1) := by
  rw [outsAt0_C m c t (by omega) (by omega) h]
  generalize outsAt0 m c (t.val - 1) (prev_lt t) = p
  dsimp only
  funext y
  frame_open
  frame_out
  canon_tiles x h
  all_goals open_payloads
  all_goals pointwise
  all_goals simp only [read_unread_whole]
  all_goals first
    | (rw [tile_index 768 y x (by omega) h0 h1]; rfl)
    | (rw [tile_index 512 y x (by omega) h0 h1]; rfl)
    | (rw [tile_index 256 y x (by omega) h0 h1]; rfl)
    | (rw [tile_index_first y x (by omega) h0 h1]; rfl)

/-! ## The blocks as parts of the arguments -/

theorem idx (t : Fin cfg0.N) :
    (win0_0.index t = ![t.val / 4, 0] ∧ win0_1.index t = ![0, 0] ∧ win0_2.index t = ![t.val / 4, 0] ∧ win0_3.index t = ![0, 0]
      ∧ win0_4.index t = ![0, 0]) ∧ win0_5.index t = ![0, t.val % 4] ∧ win0_6.index t = ![t.val % 4, 0]
      ∧ win0_7.index t = ![0, 0] ∧ win0_8.index t = ![t.val / 4, 0] := by
  revert t; decide +kernel

theorem lt_N (t : Fin cfg0.N) : t.val < 128 := lt_of_lt_of_eq t.isLt N_0

theorem blk0 (c : Dev nD) (t : Fin cfg0.N) (q : ℕ) (hq : 1024 * q + 1024 ≤ 32768) (h : t.val / 4 = q) :
    iblk m c 0 t = rowBlock 1024 q hq (m ((c : Thread nD τ).loc main_arg0)) := by
  funext y
  unfold rowBlock
  obtain ⟨⟨e0, e1, e2, e3, e4⟩, e5, e6, e7, e8⟩ := idx t
  blk_point [iblk, V, e0]

theorem blk1 (c : Dev nD) (t : Fin cfg0.N) : iblk m c 1 t = m ((c : Thread nD τ).loc main_arg4) := by
  obtain ⟨⟨e0, e1, e2, e3, e4⟩, e5, e6, e7, e8⟩ := idx t
  funext y
  blk_point [iblk, V, e1]

theorem blk2 (c : Dev nD) (t : Fin cfg0.N) (q : ℕ) (hq : 1024 * q + 1024 ≤ 32768) (h : t.val / 4 = q) :
    iblk m c 2 t = rowBlock 1024 q hq (m ((c : Thread nD τ).loc main_arg1)) := by
  funext y
  unfold rowBlock
  obtain ⟨⟨e0, e1, e2, e3, e4⟩, e5, e6, e7, e8⟩ := idx t
  blk_point [iblk, V, e2]

theorem blk3 (c : Dev nD) (t : Fin cfg0.N) : iblk m c 3 t = asRow (m ((c : Thread nD τ).loc main_arg2)) := by
  obtain ⟨⟨e0, e1, e2, e3, e4⟩, e5, e6, e7, e8⟩ := idx t
  funext y
  unfold asRow
  blk_point [iblk, V, e3]

theorem blk4 (c : Dev nD) (t : Fin cfg0.N) : iblk m c 4 t = asRow (m ((c : Thread nD τ).loc main_arg3)) := by
  obtain ⟨⟨e0, e1, e2, e3, e4⟩, e5, e6, e7, e8⟩ := idx t
  funext y
  unfold asRow
  blk_point [iblk, V, e4]

theorem blk5 (c : Dev nD) (t : Fin cfg0.N) (s : ℕ) (hs : s < 4) (h : t.val % 4 = s) :
    iblk m c 5 t = colTile s hs (m ((c : Thread nD τ).loc main_arg5)) := by
  obtain ⟨⟨e0, e1, e2, e3, e4⟩, e5, e6, e7, e8⟩ := idx t
  funext y
  unfold colTile
  blk_point [iblk, V, e5]

theorem blk6 (c : Dev nD) (t : Fin cfg0.N) (s : ℕ) (hs : s < 4) (h : t.val % 4 = s) :
    iblk m c 6 t = rowTile s hs (m ((c : Thread nD τ).loc main_arg6)) := by
  obtain ⟨⟨e0, e1, e2, e3, e4⟩, e5, e6, e7, e8⟩ := idx t
  funext y
  unfold rowTile
  blk_point [iblk, V, e6]

theorem blk7 (c : Dev nD) (t : Fin cfg0.N) : iblk m c 7 t = asRow (m ((c : Thread nD τ).loc main_arg7)) := by
  obtain ⟨⟨e0, e1, e2, e3, e4⟩, e5, e6, e7, e8⟩ := idx t
  funext y
  unfold asRow
  blk_point [iblk, V, e7]

/-- The residual rows of the whole array after the mixer. -/
abbrev mixed (c : Dev nD) : Mat 32768 1024 :=
  mixRes (m ((c : Thread nD τ).loc main_arg0)) (m ((c : Thread nD τ).loc main_arg4)) (m ((c : Thread nD τ).loc main_arg1))
    (asRow (m ((c : Thread nD τ).loc main_arg2)))

/-- The result array: `layerEnd` of the mixed rows. -/
abbrev result (c : Dev nD) : Mat 32768 1024 :=
  layerEnd (mixed m c) (asRow (m ((c : Thread nD τ).loc main_arg3))) (m ((c : Thread nD τ).loc main_arg5))
    (m ((c : Thread nD τ).loc main_arg6)) (asRow (m ((c : Thread nD τ).loc main_arg7)))

/-- The output block at the last point of row block `q`: those rows of the result. -/
theorem out_block (c : Dev nD) (t : Fin cfg0.N) (h : t.val % 4 = 3) (q : ℕ) (hq : 1024 * q + 1024 ≤ 32768) (ht : t.val / 4 = q) :
    (outsAt0 m c t.val t.isLt).1 = rowBlock 1024 q hq (result m c) := by
  let t2 : Fin cfg0.N := ⟨t.val - 1, prev_lt t⟩
  let t1 : Fin cfg0.N := ⟨t2.val - 1, prev_lt t2⟩
  let t0 : Fin cfg0.N := ⟨t1.val - 1, prev_lt t1⟩
  have v2 : t2.val = t.val - 1 := rfl
  have v1 : t1.val = t2.val - 1 := rfl
  have v0 : t0.val = t1.val - 1 := rfl
  have hh : (outsAt0 m c t2.val t2.isLt).2.1 = rowBlock 1024 q hq (mixed m c) := by
    rw [h1_BC m c t2 (by omega)]
    change (outsAt0 m c t1.val t1.isLt).2.1 = _
    rw [h1_BC m c t1 (by omega)]
    change (outsAt0 m c t0.val t0.isLt).2.1 = _
    rw [h1_A m c t0 (by omega), blk0 m c t0 q hq (by omega), blk1, blk2 m c t0 q hq (by omega), blk3]
    rfl
  have u0 : (outsAt0 m c t0.val t0.isLt).2.2.1
      = rmsAll (rowBlock 1024 q hq (mixed m c)) (asRow (m ((c : Thread nD τ).loc main_arg3))) := by
    rw [u_A m c t0 (by omega), blk0 m c t0 q hq (by omega), blk1, blk2 m c t0 q hq (by omega), blk3, blk4]
    rfl
  have u1 : (outsAt0 m c t1.val t1.isLt).2.2.1 = (outsAt0 m c t0.val t0.isLt).2.2.1 := u_BC m c t1 (by omega)
  have u2 : (outsAt0 m c t2.val t2.isLt).2.2.1 = (outsAt0 m c t1.val t1.isLt).2.2.1 := u_BC m c t2 (by omega)
  have a0 : (outsAt0 m c t0.val t0.isLt).2.2.2 = mlpAll (outsAt0 m c t0.val t0.isLt).2.2.1 (iblk m c 5 t0) (iblk m c 6 t0) := by
    rw [acc_A m c t0 (by omega), u_A m c t0 (by omega)]
  have a1 := acc_B m c t1 (by omega)
  have a2 := acc_B m c t2 (by omega)
  have o := out_C m c t h
  change _ = fun y => (outsAt0 m c t0.val t0.isLt).2.2.2 y + mlpAll (outsAt0 m c t0.val t0.isLt).2.2.1 _ _ y at a1
  change _ = fun y => (outsAt0 m c t1.val t1.isLt).2.2.2 y + mlpAll (outsAt0 m c t1.val t1.isLt).2.2.1 _ _ y at a2
  change _ = fun y => (outsAt0 m c t2.val t2.isLt).2.1 y + rms (fun k => (outsAt0 m c t2.val t2.isLt).2.2.2 (ix2 (y 0) k)
    + mlpAll (outsAt0 m c t2.val t2.isLt).2.2.1 _ _ (ix2 (y 0) k)) _ _ at o
  rw [o, a2, a1, a0, hh, u2, u1, u0, blk5 m c t0 0 (by decide) (by omega), blk6 m c t0 0 (by decide) (by omega),
    blk5 m c t1 1 (by decide) (by omega), blk6 m c t1 1 (by decide) (by omega), blk5 m c t2 2 (by decide) (by omega),
    blk6 m c t2 2 (by decide) (by omega), blk5 m c t 3 (by decide) h, blk6 m c t 3 (by decide) h, blk7]
  funext y
  exact layerEnd_tiles (rowBlock 1024 q hq (mixed m c)) _ _ _ _ y

/-- The result array after the run. -/
theorem result_eq (c : Dev nD) : (dats m 0 c).arrAt 8 cfg0.N = result m c := by
  refine (dats m 0 c).arrAt_eq_of_covers 8 _ (by decide +kernel) fun t hf y => ?_
  obtain ⟨⟨e0, e1, e2, e3, e4⟩, e5, e6, e7, e8⟩ := idx t
  have hm : t.val % 4 = 3 := (flush0_8 t).mp hf
  blk_simp [e8]
  rw [after0_8]
  rw [out_block m c t hm (t.val / 4) (by have := lt_N t; omega) rfl]
  unfold rowBlock
  refine congrArg (result m c) ?_
  blk_ext [e8]

end Cert.FfnProof
-- ==== Proof.FfnClaim.lean ====
/- The last layer's output-and-network kernel against its reference: equal results over the extended reals. -/
module

public import proofs.«01_k».proof.Defs
public import proofs.«01_k».proof.Proof.FfnValue
public import proofs.«01_k».proof.Proof.Gen.FfnRefIdeal.Read
public import Idealize.ShloMosaic.Lib.Claim

@[expose] public section

set_option maxRecDepth 16384

noncomputable section
open Idealize.ShloMosaic Idealize.SL.Sem Idealize.ShloMosaic.TcCoe
open Cert.Rows
namespace Cert.FfnProof

/-- The reference's result, read: `layerEnd` of its arguments. -/
theorem ref_eq (m : (ℓ : Loc Cert.FfnRefIdeal.nD Cert.FfnRefIdeal.τ Cert.FfnRefIdeal.sig) → Buf (Elt Ideal) ℓ)
    (c : Dev Cert.FfnRefIdeal.nD) :
    Cert.FfnRefIdeal.Value.res_out0 m c
      = layerEnd (mixRes (m ((c.tc : Thread Cert.FfnRefIdeal.nD Cert.FfnRefIdeal.τ).loc Cert.FfnRefIdeal.main_arg0))
            (m ((c.tc : Thread Cert.FfnRefIdeal.nD Cert.FfnRefIdeal.τ).loc Cert.FfnRefIdeal.main_arg4))
            (m ((c.tc : Thread Cert.FfnRefIdeal.nD Cert.FfnRefIdeal.τ).loc Cert.FfnRefIdeal.main_arg1))
            (asRow (m ((c.tc : Thread Cert.FfnRefIdeal.nD Cert.FfnRefIdeal.τ).loc Cert.FfnRefIdeal.main_arg2))))
          (asRow (m ((c.tc : Thread Cert.FfnRefIdeal.nD Cert.FfnRefIdeal.τ).loc Cert.FfnRefIdeal.main_arg3)))
          (m ((c.tc : Thread Cert.FfnRefIdeal.nD Cert.FfnRefIdeal.τ).loc Cert.FfnRefIdeal.main_arg5))
          (m ((c.tc : Thread Cert.FfnRefIdeal.nD Cert.FfnRefIdeal.τ).loc Cert.FfnRefIdeal.main_arg6))
          (asRow (m ((c.tc : Thread Cert.FfnRefIdeal.nD Cert.FfnRefIdeal.τ).loc Cert.FfnRefIdeal.main_arg7))) := by
  funext i
  unfold Cert.FfnRefIdeal.Value.res_out0 Cert.FfnRefIdeal.Value.res_main_v46
  pointwise
  rfl

/-- Both programs run, keep their arguments and end with the same array. -/
theorem alg : Cert.algebraic_FfnIdeal_FfnRefIdeal (hFfnIdeal := Cert.FfnIdeal.Gen.facts) (hFfnRefIdeal := Cert.FfnRefIdeal.Gen.facts) := by
  pair_intro
  · run_from Cert.FfnIdeal.Value.run_blocks (F := Ideal) m g
  · run_from Cert.FfnRefIdeal.Value.run (F := Ideal) m' g'
    rw [result_eq]
    refine (ref_eq m' c).trans ?_
    simp only [hagree c]

end Cert.FfnProof
-- ==== Proof.FfnTwoValue.lean ====
/- What one run of the first layer's output-and-network kernel leaves in its result, read as the layer's row functions. -/
module

public import proofs.«01_k».proof.Proof.Rows
public import proofs.«01_k».proof.Proof.Gen.FfnTwoIdeal.Value
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section
open Idealize.ShloMosaic Idealize.SL.Sem Idealize.ShloMosaic.TcCoe
open Cert.FfnTwoIdeal Cert.FfnTwoIdeal.Gen
open Cert.Rows
namespace Cert.FfnTwoProof
variable (m : (ℓ : Loc nD τ sig) → Buf (Elt Ideal) ℓ)

theorem h1_A (c : Dev nD) (t : Fin cfg0.N) (h : t.val % 4 = 0) :
    (outsAt0 m c t.val t.isLt).2.1 = mixRes2 (iblk m c 0 t) (iblk m c 1 t) (iblk m c 2 t) (iblk m c 3 t) (iblk m c 4 t) (iblk m c 5 t) := by
  rw [outsAt0_A m c t h (by omega) (by omega)]
  dsimp only
  funext y
  frame_open
  frame_out
  canon_tiles x h
  all_goals open_payloads
  all_goals pointwise
  all_goals first
    | (rw [tile_index 768 y x (by omega) h0 h1]; rfl)
    | (rw [tile_index 512 y x (by omega) h0 h1]; rfl)
    | (rw [tile_index 256 y x (by omega) h0 h1]; rfl)
    | (rw [tile_index_first y x (by omega) h0 h1]; rfl)

theorem u_A (c : Dev nD) (t : Fin cfg0.N) (h : t.val % 4 = 0) :
    (outsAt0 m c t.val t.isLt).2.2.1
      = rmsAll (mixRes2 (iblk m c 0 t) (iblk m c 1 t) (iblk m c 2 t) (iblk m c 3 t) (iblk m c 4 t) (iblk m c 5 t)) (iblk m c 6 t) := by
  rw [outsAt0_A m c t h (by omega) (by omega)]
  dsimp only
  funext y
  frame_open
  frame_out
  canon_tiles x h
  all_goals open_payloads
  all_goals pointwise
  all_goals first
    | (rw [tile_index 768 y x (by omega) h0 h1]; rfl)
    | (rw [tile_index 512 y x (by omega) h0 h1]; rfl)
    | (rw [tile_index 256 y x (by omega) h0 h1]; rfl)
    | (rw [tile_index_first y x (by omega) h0 h1]; rfl)

theorem acc_A (c : Dev nD) (t : Fin cfg0.N) (h : t.val % 4 = 0) :
    (outsAt0 m c t.val t.isLt).2.2.2
      = mlpAll (rmsAll (mixRes2 (iblk m c 0 t) (iblk m c 1 t) (iblk m c 2 t) (iblk m c 3 t) (iblk m c 4 t) (iblk m c 5 t)) (iblk m c 6 t))
          (iblk m c 7 t) (iblk m c 8 t) := by
  rw [outsAt0_A m c t h (by omega) (by omega)]
  dsimp only
  funext y
  frame_open
  simp (disch := decide) only [↓ View.readCov_skip, ↓ View.readCov_cons_toLoadRect, ↓ View.readCov_fill]
  frame_out
  canon_tiles x h
  all_goals open_payloads
  all_goals pointwise
  all_goals first
    | (rw [tile_index 768 y x (by omega) h0 h1]; rfl)
    | (rw [tile_index 512 y x (by omega) h0 h1]; rfl)
    | (rw [tile_index 256 y x (by omega) h0 h1]; rfl)
    | (rw [tile_index_first y x (by omega) h0 h1]; rfl)

theorem prev_lt (t : Fin cfg0.N) : t.val - 1 < cfg0.N := lt_of_le_of_lt (Nat.sub_le _ _) t.isLt

/-- The residual rows and the network's input rows are carried through the later points of a row block. -/
theorem h1_BC (c : Dev nD) (t : Fin cfg0.N) (h : t.val % 4 ≠ 0) :
    (outsAt0 m c t.val t.isLt).2.1 = (outsAt0 m c (t.val - 1) (prev_lt t)).2.1 := by
  by_cases h3 : t.val % 4 = 3
  · rw [outsAt0_C m c t h (by omega) h3]; rfl
  · rw [outsAt0_B m c t h (by omega) h3]; rfl

theorem u_BC (c : Dev nD) (t : Fin cfg0.N) (h : t.val % 4 ≠ 0) :
    (outsAt0 m c t.val t.isLt).2.2.1 = (outsAt0 m c (t.val - 1) (prev_lt t)).2.2.1 := by
  by_cases h3 : t.val % 4 = 3
  · rw [outsAt0_C m c t h (by omega) h3]; rfl
  · rw [outsAt0_B m c t h (by omega) h3]; rfl

theorem acc_B (c : Dev nD) (t : Fin cfg0.N) (h : 1 ≤ t.val % 4 ∧ t.val % 4 ≤ 2) :
    (outsAt0 m c t.val t.isLt).2.2.2
      = fun y => (outsAt0 m c (t.val - 1) (prev_lt t)).2.2.2 y
          + mlpAll (outsAt0 m c (t.val - 1) (prev_lt t)).2.2.1 (iblk m c 7 t) (iblk m c 8 t) y := by
  rw [outsAt0_B m c t (by omega) h (by omega)]
  generalize outsAt0 m c (t.val - 1) (prev_lt t) = p
  dsimp only
  funext y
  frame_open
  frame_out
  canon_tiles x h
  all_goals open_payloads
  all_goals pointwise
  all_goals simp only [read_unread_whole]
  all_goals first
    | (rw [tile_index 768 y x (by omega) h0 h1]; rfl)
    | (rw [tile_index 512 y x (by omega) h0 h1]; rfl)
    | (rw [tile_index 256 y x (by omega) h0 h1]; rfl)
    | (rw [tile_index_first y x (by omega) h0 h1]; rfl)

theorem out_C (c : Dev nD) (t : Fin cfg0.N) (h : t.val % 4 = 3) :
    (outsAt0 m c t.val t.isLt).1
      = fun y => (outsAt0 m c (t.val - 1) (prev_lt t)).2.1 y
          + rms (fun k => (outsAt0 m c (t.val - 1) (prev_lt t)).2.2.2 (ix2 (y 0) k)
              + mlpAll (outsAt0 m c (t.val - 1) (prev_lt t)).2.2.1 (iblk m c 7 t) (iblk m c 8 t) (ix2 (y 0) k))
            ((iblk m c 9 t : Mat 1 1024) (ix2 0 (y 1))) (y 1) := by
  rw [outsAt0_C m c t (by omega) (by omega) h]
  generalize outsAt0 m c (t.val - 1) (prev_lt t) = p
  dsimp only
  funext y
  frame_open
  frame_out
  canon_tiles x h
  all_goals open_payloads
  all_goals pointwise
  all_goals simp only [read_unread_whole]
  all_goals first
    | (rw [tile_index 768 y x (by omega) h0 h1]; rfl)
    | (rw [tile_index 512 y x (by omega) h0 h1]; rfl)
    | (rw [tile_index 256 y x (by omega) h0 h1]; rfl)
    | (rw [tile_index_first y x (by omega) h0 h1]; rfl)

/-! ## The blocks as parts of the arguments -/

theorem idx (t : Fin cfg0.N) :
    (win0_0.index t = ![t.val / 4, 0] ∧ win0_1.index t = ![t.val / 4, 0] ∧ win0_2.index t = ![0, 0] ∧ win0_3.index t = ![0, 0]
      ∧ win0_4.index t = ![t.val / 4, 0]) ∧ win0_5.index t = ![0, 0] ∧ win0_6.index t = ![0, 0] ∧ win0_7.index t = ![0, t.val % 4]
      ∧ win0_8.index t = ![t.val % 4, 0] ∧ win0_9.index t = ![0, 0] ∧ win0_10.index t = ![t.val / 4, 0] := by
  revert t; decide +kernel

theorem lt_N (t : Fin cfg0.N) : t.val < 128 := lt_of_lt_of_eq t.isLt N_0

theorem blk0 (c : Dev nD) (t : Fin cfg0.N) (q : ℕ) (hq : 1024 * q + 1024 ≤ 32768) (h : t.val / 4 = q) :
    iblk m c 0 t = rowBlock 1024 q hq (m ((c : Thread nD τ).loc main_arg0)) := by
  obtain ⟨⟨e0, e1, e2, e3, e4⟩, e5, e6, e7, e8, e9, e10⟩ := idx t
  funext y
  unfold rowBlock
  blk_point [iblk, V, e0]

theorem blk1 (c : Dev nD) (t : Fin cfg0.N) (q : ℕ) (hq : 1024 * q + 1024 ≤ 32768) (h : t.val / 4 = q) :
    iblk m c 1 t = rowBlock 1024 q hq (m ((c : Thread nD τ).loc main_arg1)) := by
  obtain ⟨⟨e0, e1, e2, e3, e4⟩, e5, e6, e7, e8, e9, e10⟩ := idx t
  funext y
  unfold rowBlock
  blk_point [iblk, V, e1]

theorem blk2 (c : Dev nD) (t : Fin cfg0.N) : iblk m c 2 t = rowsLo (m ((c : Thread nD τ).loc main_arg5)) := by
  obtain ⟨⟨e0, e1, e2, e3, e4⟩, e5, e6, e7, e8, e9, e10⟩ := idx t
  funext y
  unfold rowsLo
  blk_point [iblk, V, e2]

theorem blk3 (c : Dev nD) (t : Fin cfg0.N) : iblk m c 3 t = rowsHi (m ((c : Thread nD τ).loc main_arg5)) := by
  obtain ⟨⟨e0, e1, e2, e3, e4⟩, e5, e6, e7, e8, e9, e10⟩ := idx t
  funext y
  unfold rowsHi
  blk_point [iblk, V, e3]

theorem blk4 (c : Dev nD) (t : Fin cfg0.N) (q : ℕ) (hq : 1024 * q + 1024 ≤ 32768) (h : t.val / 4 = q) :
    iblk m c 4 t = rowBlock 1024 q hq (m ((c : Thread nD τ).loc main_arg2)) := by
  obtain ⟨⟨e0, e1, e2, e3, e4⟩, e5, e6, e7, e8, e9, e10⟩ := idx t
  funext y
  unfold rowBlock
  blk_point [iblk, V, e4]

theorem blk5 (c : Dev nD) (t : Fin cfg0.N) : iblk m c 5 t = asRow (m ((c : Thread nD τ).loc main_arg3)) := by
  obtain ⟨⟨e0, e1, e2, e3, e4⟩, e5, e6, e7, e8, e9, e10⟩ := idx t
  funext y
  unfold asRow
  blk_point [iblk, V, e5]

theorem blk6 (c : Dev nD) (t : Fin cfg0.N) : iblk m c 6 t = asRow (m ((c : Thread nD τ).loc main_arg4)) := by
  obtain ⟨⟨e0, e1, e2, e3, e4⟩, e5, e6, e7, e8, e9, e10⟩ := idx t
  funext y
  unfold asRow
  blk_point [iblk, V, e6]

theorem blk7 (c : Dev nD) (t : Fin cfg0.N) (s : ℕ) (hs : s < 4) (h : t.val % 4 = s) :
    iblk m c 7 t = colTile s hs (m ((c : Thread nD τ).loc main_arg6)) := by
  obtain ⟨⟨e0, e1, e2, e3, e4⟩, e5, e6, e7, e8, e9, e10⟩ := idx t
  funext y
  unfold colTile
  blk_point [iblk, V, e7]

theorem blk8 (c : Dev nD) (t : Fin cfg0.N) (s : ℕ) (hs : s < 4) (h : t.val % 4 = s) :
    iblk m c 8 t = rowTile s hs (m ((c : Thread nD τ).loc main_arg7)) := by
  obtain ⟨⟨e0, e1, e2, e3, e4⟩, e5, e6, e7, e8, e9, e10⟩ := idx t
  funext y
  unfold rowTile
  blk_point [iblk, V, e8]

theorem blk9 (c : Dev nD) (t : Fin cfg0.N) : iblk m c 9 t = asRow (m ((c : Thread nD τ).loc main_arg8)) := by
  obtain ⟨⟨e0, e1, e2, e3, e4⟩, e5, e6, e7, e8, e9, e10⟩ := idx t
  funext y
  unfold asRow
  blk_point [iblk, V, e9]

/-- The residual rows of the whole array after the mixer. -/
abbrev mixed (c : Dev nD) : Mat 32768 1024 :=
  mixRes2 (m ((c : Thread nD τ).loc main_arg0)) (m ((c : Thread nD τ).loc main_arg1)) (rowsLo (m ((c : Thread nD τ).loc main_arg5)))
    (rowsHi (m ((c : Thread nD τ).loc main_arg5))) (m ((c : Thread nD τ).loc main_arg2)) (asRow (m ((c : Thread nD τ).loc main_arg3)))

/-- The result array: `layerEnd` of the mixed rows. -/
abbrev result (c : Dev nD) : Mat 32768 1024 :=
  layerEnd (mixed m c) (asRow (m ((c : Thread nD τ).loc main_arg4))) (m ((c : Thread nD τ).loc main_arg6))
    (m ((c : Thread nD τ).loc main_arg7)) (asRow (m ((c : Thread nD τ).loc main_arg8)))

/-- The output block at the last point of row block `q`: those rows of the result. -/
theorem out_block (c : Dev nD) (t : Fin cfg0.N) (h : t.val % 4 = 3) (q : ℕ) (hq : 1024 * q + 1024 ≤ 32768) (ht : t.val / 4 = q) :
    (outsAt0 m c t.val t.isLt).1 = rowBlock 1024 q hq (result m c) := by
  let t2 : Fin cfg0.N := ⟨t.val - 1, prev_lt t⟩
  let t1 : Fin cfg0.N := ⟨t2.val - 1, prev_lt t2⟩
  let t0 : Fin cfg0.N := ⟨t1.val - 1, prev_lt t1⟩
  have v2 : t2.val = t.val - 1 := rfl
  have v1 : t1.val = t2.val - 1 := rfl
  have v0 : t0.val = t1.val - 1 := rfl
  have hh : (outsAt0 m c t2.val t2.isLt).2.1 = rowBlock 1024 q hq (mixed m c) := by
    rw [h1_BC m c t2 (by omega)]
    change (outsAt0 m c t1.val t1.isLt).2.1 = _
    rw [h1_BC m c t1 (by omega)]
    change (outsAt0 m c t0.val t0.isLt).2.1 = _
    rw [h1_A m c t0 (by omega), blk0 m c t0 q hq (by omega), blk1 m c t0 q hq (by omega), blk2, blk3, blk4 m c t0 q hq (by omega), blk5]
    rfl
  have u0 : (outsAt0 m c t0.val t0.isLt).2.2.1
      = rmsAll (rowBlock 1024 q hq (mixed m c)) (asRow (m ((c : Thread nD τ).loc main_arg4))) := by
    rw [u_A m c t0 (by omega), blk0 m c t0 q hq (by omega), blk1 m c t0 q hq (by omega), blk2, blk3, blk4 m c t0 q hq (by omega), blk5, blk6]
    rfl
  have u1 : (outsAt0 m c t1.val t1.isLt).2.2.1 = (outsAt0 m c t0.val t0.isLt).2.2.1 := u_BC m c t1 (by omega)
  have u2 : (outsAt0 m c t2.val t2.isLt).2.2.1 = (outsAt0 m c t1.val t1.isLt).2.2.1 := u_BC m c t2 (by omega)
  have a0 : (outsAt0 m c t0.val t0.isLt).2.2.2 = mlpAll (outsAt0 m c t0.val t0.isLt).2.2.1 (iblk m c 7 t0) (iblk m c 8 t0) := by
    rw [acc_A m c t0 (by omega), u_A m c t0 (by omega)]
  have a1 := acc_B m c t1 (by omega)
  have a2 := acc_B m c t2 (by omega)
  have o := out_C m c t h
  change _ = fun y => (outsAt0 m c t0.val t0.isLt).2.2.2 y + mlpAll (outsAt0 m c t0.val t0.isLt).2.2.1 _ _ y at a1
  change _ = fun y => (outsAt0 m c t1.val t1.isLt).2.2.2 y + mlpAll (outsAt0 m c t1.val t1.isLt).2.2.1 _ _ y at a2
  change _ = fun y => (outsAt0 m c t2.val t2.isLt).2.1 y + rms (fun k => (outsAt0 m c t2.val t2.isLt).2.2.2 (ix2 (y 0) k)
    + mlpAll (outsAt0 m c t2.val t2.isLt).2.2.1 _ _ (ix2 (y 0) k)) _ _ at o
  rw [o, a2, a1, a0, hh, u2, u1, u0, blk7 m c t0 0 (by decide) (by omega), blk8 m c t0 0 (by decide) (by omega),
    blk7 m c t1 1 (by decide) (by omega), blk8 m c t1 1 (by decide) (by omega), blk7 m c t2 2 (by decide) (by omega),
    blk8 m c t2 2 (by decide) (by omega), blk7 m c t 3 (by decide) h, blk8 m c t 3 (by decide) h, blk9]
  funext y
  exact layerEnd_tiles (rowBlock 1024 q hq (mixed m c)) _ _ _ _ y

/-- The result array after the run. -/
theorem result_eq (c : Dev nD) : (dats m 0 c).arrAt 10 cfg0.N = result m c := by
  refine (dats m 0 c).arrAt_eq_of_covers 10 _ (by decide +kernel) fun t hf y => ?_
  obtain ⟨⟨e0, e1, e2, e3, e4⟩, e5, e6, e7, e8, e9, e10⟩ := idx t
  have hm : t.val % 4 = 3 := (flush0_10 t).mp hf
  blk_simp [e10]
  rw [after0_10]
  rw [out_block m c t hm (t.val / 4) (by have := lt_N t; omega) rfl]
  unfold rowBlock
  refine congrArg (result m c) ?_
  blk_ext [e10]

end Cert.FfnTwoProof
-- ==== Proof.FfnTwoClaim.lean ====
/- The first layer's output-and-network kernel against its reference: equal results over the extended reals. -/
module

public import proofs.«01_k».proof.Defs
public import proofs.«01_k».proof.Proof.FfnTwoValue
public import proofs.«01_k».proof.Proof.Gen.FfnTwoRefIdeal.Read
public import Idealize.ShloMosaic.Lib.Claim

@[expose] public section

set_option maxRecDepth 16384

noncomputable section
open Idealize.ShloMosaic Idealize.SL.Sem Idealize.ShloMosaic.TcCoe
open Cert.Rows
namespace Cert.FfnTwoProof

/-- The reference's result, read: `layerEnd` of its arguments. -/
theorem ref_eq (m : (ℓ : Loc Cert.FfnTwoRefIdeal.nD Cert.FfnTwoRefIdeal.τ Cert.FfnTwoRefIdeal.sig) → Buf (Elt Ideal) ℓ)
    (c : Dev Cert.FfnTwoRefIdeal.nD) :
    Cert.FfnTwoRefIdeal.Value.res_out0 m c
      = layerEnd (mixRes2 (m ((c.tc : Thread Cert.FfnTwoRefIdeal.nD Cert.FfnTwoRefIdeal.τ).loc Cert.FfnTwoRefIdeal.main_arg0)) (m ((c.tc : Thread Cert.FfnTwoRefIdeal.nD Cert.FfnTwoRefIdeal.τ).loc Cert.FfnTwoRefIdeal.main_arg1))
            (rowsLo (m ((c.tc : Thread Cert.FfnTwoRefIdeal.nD Cert.FfnTwoRefIdeal.τ).loc Cert.FfnTwoRefIdeal.main_arg5)))
            (rowsHi (m ((c.tc : Thread Cert.FfnTwoRefIdeal.nD Cert.FfnTwoRefIdeal.τ).loc Cert.FfnTwoRefIdeal.main_arg5)))
            (m ((c.tc : Thread Cert.FfnTwoRefIdeal.nD Cert.FfnTwoRefIdeal.τ).loc Cert.FfnTwoRefIdeal.main_arg2)) (asRow (m ((c.tc : Thread Cert.FfnTwoRefIdeal.nD Cert.FfnTwoRefIdeal.τ).loc Cert.FfnTwoRefIdeal.main_arg3))))
          (asRow (m ((c.tc : Thread Cert.FfnTwoRefIdeal.nD Cert.FfnTwoRefIdeal.τ).loc Cert.FfnTwoRefIdeal.main_arg4))) (m ((c.tc : Thread Cert.FfnTwoRefIdeal.nD Cert.FfnTwoRefIdeal.τ).loc Cert.FfnTwoRefIdeal.main_arg6))
          (m ((c.tc : Thread Cert.FfnTwoRefIdeal.nD Cert.FfnTwoRefIdeal.τ).loc Cert.FfnTwoRefIdeal.main_arg7)) (asRow (m ((c.tc : Thread Cert.FfnTwoRefIdeal.nD Cert.FfnTwoRefIdeal.τ).loc Cert.FfnTwoRefIdeal.main_arg8))) := by
  funext i
  unfold Cert.FfnTwoRefIdeal.Value.res_out0 Cert.FfnTwoRefIdeal.Value.res_main_v46
  pointwise
  rfl

/-- Both programs run, keep their arguments and end with the same array. -/
theorem alg : Cert.algebraic_FfnTwoIdeal_FfnTwoRefIdeal (hFfnTwoIdeal := Cert.FfnTwoIdeal.Gen.facts) (hFfnTwoRefIdeal := Cert.FfnTwoRefIdeal.Gen.facts) := by
  pair_intro
  · run_from Cert.FfnTwoIdeal.Value.run_blocks (F := Ideal) m g
  · run_from Cert.FfnTwoRefIdeal.Value.run (F := Ideal) m' g'
    rw [result_eq]
    refine (ref_eq m' c).trans ?_
    simp only [hagree c]

end Cert.FfnTwoProof
-- ==== Proof.NormMmRun.lean ====
/- The last layer's projection kernel: its body at each kind of grid point, and what its buffers hold between the points.

   The kernel walks row blocks of 2048 rows, four points each. At the first the block is normalised into the scratch and
   multiplied by the first 1024 columns; at the next two the scratch meets the following column tiles; at the last it
   meets the columns kept in the wide format, and the narrow result's buffer, which the pipeline writes back there once
   more, keeps what the point before left. -/
module

public import Idealize.ShloMosaic.Lib.Claim
public import proofs.«01_k».proof.Proof.Gen.NormMmIdeal.Frame
public import proofs.«01_k».proof.Proof.Gen.NormMmIdeal.Skeleton

@[expose] public section

set_option maxRecDepth 16384

noncomputable section

namespace Cert.NormMmProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormMmIdeal Cert.NormMmIdeal.Gen

variable {F : FTy → Type} [FloatOps F]

local notation "𝕄" => MT nD τ sig Unit (Elt F) ℕ (UR sig nD τ) ℕ

/-! ## Which branch a point takes, and what the schedule does with the results there -/

theorem branch (t : Fin cfg0.N) :
    (k0_cond1 (grid0.coords t) = 1#1 ↔ t.val % 4 = 0)
      ∧ (k0_cond2 (grid0.coords t) = 1#1 ↔ 1 ≤ t.val % 4 ∧ t.val % 4 ≤ 2)
      ∧ (k0_cond3 (grid0.coords t) = 1#1 ↔ t.val % 4 = 3) := by
  revert t; decide +kernel

theorem narrow_live (t : Fin cfg0.N) (h : t.val % 4 ≠ 3) : cfg0.idle 3 (grid0.coords t) = false := by
  revert t; decide +kernel

theorem narrow_idle (t : Fin cfg0.N) (h : t.val % 4 = 3) :
    cfg0.idle 3 (grid0.coords t) = true ∧ (cfg0.win 3).flush t = true := by
  revert t; decide +kernel

/-- At the last point of a row block the narrow result's buffer has not been sent away by the point before. -/
theorem narrow_stays (t : Fin cfg0.N) (h : t.val % 4 = 2) : (cfg0.win 3).flush t = false := by
  revert t; decide +kernel

theorem wide_live (t : Fin cfg0.N) (h : t.val % 4 = 3) : cfg0.idle 4 (grid0.coords t) = false := by
  revert t; decide +kernel

theorem wide_idle (t : Fin cfg0.N) (h : t.val % 4 ≠ 3) :
    cfg0.idle 4 (grid0.coords t) = true ∧ (cfg0.win 4).flush t = false := by
  revert t; decide +kernel

/-! ## The body, one kind of point at a time -/

section Body

variable (c : Dev nD) (i : grid0.Coords)
  (arg2 : Memref sig .tc .vmem S2048x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S2048x1024 .bf16) (harg5 : arg5.IsWhole)
  (arg6 : Memref sig .tc .vmem S2048x1024 .f32) (harg6 : arg6.IsWhole)
  (arg7 : Memref sig .tc .vmem S2048x1024 .bf16) (harg7 : arg7.IsWhole)

set_option maxHeartbeats 1200000 in
/-- The first point of a row block: the scratch and the narrow result are filled, the wide result is left alone. -/
def runFirst (h1 : k0_cond1 i = 1#1) (h2 : ¬k0_cond2 i = 1#1) (h3 : ¬k0_cond3 i = 1#1)
    (x : Vec F S2048x1024 .f32) (g : Vec F S1x1024 .f32) (w : Vec F S1024x1024 .bf16) :
    Σ' (L5 : List (View.Piece (Elt F) S2048x1024 .bf16)), { L7 : List (View.Piece (Elt F) S2048x1024 .bf16) //
      ∀ (d6 : Vec F S2048x1024 .f32) (K : PUnit → sProp 𝕄),
        iprop(owns (c : Thread nD τ) arg2 fullShare x ∗ owns (c : Thread nD τ) arg3 fullShare g ∗ owns (c : Thread nD τ) arg4 fullShare w
            ∗ (∃ d, owns (c : Thread nD τ) arg5 fullShare d) ∗ owns (c : Thread nD τ) arg6 fullShare d6 ∗ (∃ d, owns (c : Thread nD τ) arg7 fullShare d)
            ∗ (iprop(owns (c : Thread nD τ) arg2 fullShare x ∗ owns (c : Thread nD τ) arg3 fullShare g ∗ owns (c : Thread nD τ) arg4 fullShare w
              ∗ (∃ f, arg5.view.loc (c : Thread nD τ) ↦[arg5.view.set]{fullShare} arg5.view.writes (Elt F) f L5) ∗ owns (c : Thread nD τ) arg6 fullShare d6
              ∗ (∃ f, arg7.view.loc (c : Thread nD τ) ↦[arg7.view.set]{fullShare} arg7.view.writes (Elt F) f L7)) -∗ K ⟨⟩))
          ⊢ wp frame (wpE (defs₀ (F := F)) Variants.none c none) Set.univ (cc0_norm_matmul i arg2 harg2 arg3 harg3 arg4 harg4 arg5 harg5 arg6 harg6 arg7 harg7) K } := by
  refine ⟨?_, ?_, fun d6 K => ?run⟩
  case run =>
    simp only [cc0_norm_matmul_eq_skeleton]; unfold cc0_norm_matmul_skel
    simp only [k0_part1_eq_skeleton, k0_part2_eq_skeleton, k0_part3_eq_skeleton, k0_part4_eq_skeleton, k0_part5_eq_skeleton]
    unfold owns
    iintro ⟨⟨%f2, %e2, H2⟩, ⟨%f3, %e3, H3⟩, ⟨%f4, %e4, H4⟩, ⟨%d5, %f5, -, H5⟩, ⟨%f6, %e6, H6⟩, ⟨%d7, %f7, -, H7⟩, Hk⟩
    obtain rfl := harg2.eq_unread e2; obtain rfl := harg3.eq_unread e3; obtain rfl := harg4.eq_unread e4; obtain rfl := harg6.eq_unread e6
    sl_exec (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    iexists _; iexact H7

set_option maxHeartbeats 1200000 in
/-- A middle point: the narrow result is filled from the scratch. -/
def runMiddle (h1 : ¬k0_cond1 i = 1#1) (h2 : k0_cond2 i = 1#1) (h3 : ¬k0_cond3 i = 1#1)
    (x : Vec F S2048x1024 .f32) (g : Vec F S1x1024 .f32) (w : Vec F S1024x1024 .bf16) (u : Vec F S2048x1024 .bf16) :
    { L5 : List (View.Piece (Elt F) S2048x1024 .bf16) //
      ∀ (d6 : Vec F S2048x1024 .f32) (K : PUnit → sProp 𝕄),
        iprop(owns (c : Thread nD τ) arg2 fullShare x ∗ owns (c : Thread nD τ) arg3 fullShare g ∗ owns (c : Thread nD τ) arg4 fullShare w
            ∗ (∃ d, owns (c : Thread nD τ) arg5 fullShare d) ∗ owns (c : Thread nD τ) arg6 fullShare d6 ∗ owns (c : Thread nD τ) arg7 fullShare u
            ∗ (iprop(owns (c : Thread nD τ) arg2 fullShare x ∗ owns (c : Thread nD τ) arg3 fullShare g ∗ owns (c : Thread nD τ) arg4 fullShare w
              ∗ (∃ f, arg5.view.loc (c : Thread nD τ) ↦[arg5.view.set]{fullShare} arg5.view.writes (Elt F) f L5) ∗ owns (c : Thread nD τ) arg6 fullShare d6
              ∗ owns (c : Thread nD τ) arg7 fullShare u) -∗ K ⟨⟩))
          ⊢ wp frame (wpE (defs₀ (F := F)) Variants.none c none) Set.univ (cc0_norm_matmul i arg2 harg2 arg3 harg3 arg4 harg4 arg5 harg5 arg6 harg6 arg7 harg7) K } := by
  refine ⟨?_, fun d6 K => ?run⟩
  case run =>
    simp only [cc0_norm_matmul_eq_skeleton]; unfold cc0_norm_matmul_skel
    unfold owns
    iintro ⟨⟨%f2, %e2, H2⟩, ⟨%f3, %e3, H3⟩, ⟨%f4, %e4, H4⟩, ⟨%d5, %f5, -, H5⟩, ⟨%f6, %e6, H6⟩, ⟨%f7, %e7, H7⟩, Hk⟩
    obtain rfl := harg2.eq_unread e2; obtain rfl := harg3.eq_unread e3; obtain rfl := harg4.eq_unread e4; obtain rfl := harg6.eq_unread e6; obtain rfl := harg7.eq_unread e7
    sl_exec (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    iexists _; isplitr; · ipureintro; exact harg7.read_unread _
    iexact H7

set_option maxHeartbeats 1200000 in
/-- The last point: the wide result is filled from the scratch, the narrow one is left alone. -/
def runLast (h1 : ¬k0_cond1 i = 1#1) (h2 : ¬k0_cond2 i = 1#1) (h3 : k0_cond3 i = 1#1)
    (x : Vec F S2048x1024 .f32) (g : Vec F S1x1024 .f32) (w : Vec F S1024x1024 .bf16) (u : Vec F S2048x1024 .bf16) :
    { L6 : List (View.Piece (Elt F) S2048x1024 .f32) //
      ∀ (d5 : Vec F S2048x1024 .bf16) (K : PUnit → sProp 𝕄),
        iprop(owns (c : Thread nD τ) arg2 fullShare x ∗ owns (c : Thread nD τ) arg3 fullShare g ∗ owns (c : Thread nD τ) arg4 fullShare w
            ∗ owns (c : Thread nD τ) arg5 fullShare d5 ∗ (∃ d, owns (c : Thread nD τ) arg6 fullShare d) ∗ owns (c : Thread nD τ) arg7 fullShare u
            ∗ (iprop(owns (c : Thread nD τ) arg2 fullShare x ∗ owns (c : Thread nD τ) arg3 fullShare g ∗ owns (c : Thread nD τ) arg4 fullShare w
              ∗ owns (c : Thread nD τ) arg5 fullShare d5 ∗ (∃ f, arg6.view.loc (c : Thread nD τ) ↦[arg6.view.set]{fullShare} arg6.view.writes (Elt F) f L6)
              ∗ owns (c : Thread nD τ) arg7 fullShare u) -∗ K ⟨⟩))
          ⊢ wp frame (wpE (defs₀ (F := F)) Variants.none c none) Set.univ (cc0_norm_matmul i arg2 harg2 arg3 harg3 arg4 harg4 arg5 harg5 arg6 harg6 arg7 harg7) K } := by
  refine ⟨?_, fun d5 K => ?run⟩
  case run =>
    simp only [cc0_norm_matmul_eq_skeleton]; unfold cc0_norm_matmul_skel
    unfold owns
    iintro ⟨⟨%f2, %e2, H2⟩, ⟨%f3, %e3, H3⟩, ⟨%f4, %e4, H4⟩, ⟨%f5, %e5, H5⟩, ⟨%d6, %f6, -, H6⟩, ⟨%f7, %e7, H7⟩, Hk⟩
    obtain rfl := harg2.eq_unread e2; obtain rfl := harg3.eq_unread e3; obtain rfl := harg4.eq_unread e4; obtain rfl := harg5.eq_unread e5; obtain rfl := harg7.eq_unread e7
    sl_exec (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; isplitr; · ipureintro; exact harg7.read_unread _
    iexact H7

end Body

/-! ## The buffers between the points -/

/-- The staging memrefs at a point, and the scratch. -/
abbrev a2 (t : Fin cfg0.N) : Memref sig .tc .vmem S2048x1024 .f32 := win0_0.stage (cfg0.slots t 0)
abbrev w2 (t : Fin cfg0.N) : (a2 t).IsWhole := hstage0_0 ((cfg0.slots t 0).cast nbuf0_0)
abbrev a3 (t : Fin cfg0.N) : Memref sig .tc .vmem S1x1024 .f32 := win0_1.stage (cfg0.slots t 1)
abbrev w3 (t : Fin cfg0.N) : (a3 t).IsWhole := hstage0_1 ((cfg0.slots t 1).cast nbuf0_1)
abbrev a4 (t : Fin cfg0.N) : Memref sig .tc .vmem S1024x1024 .bf16 := win0_2.stage (cfg0.slots t 2)
abbrev w4 (t : Fin cfg0.N) : (a4 t).IsWhole := hstage0_2 ((cfg0.slots t 2).cast nbuf0_2)
abbrev a5 (t : Fin cfg0.N) : Memref sig .tc .vmem S2048x1024 .bf16 := win0_3.stage (cfg0.slots t 3)
abbrev w5 (t : Fin cfg0.N) : (a5 t).IsWhole := hstage0_3 ((cfg0.slots t 3).cast nbuf0_3)
abbrev a6 (t : Fin cfg0.N) : Memref sig .tc .vmem S2048x1024 .f32 := win0_4.stage (cfg0.slots t 4)
abbrev w6 (t : Fin cfg0.N) : (a6 t).IsWhole := hstage0_4 ((cfg0.slots t 4).cast nbuf0_4)
abbrev a7 : Memref sig .tc .vmem S2048x1024 .bf16 := Memref.whole cc0_scratch0
abbrev w7 : (a7).IsWhole := Memref.isWhole_whole _

abbrev V5 : View sig .tc .vmem S2048x1024 .bf16 := (Memref.whole cc0_stg3_0 : Memref sig .tc .vmem S2048x1024 .bf16).view
abbrev V6 : View sig .tc .vmem S2048x1024 .f32 := (Memref.whole cc0_stg4_0 : Memref sig .tc .vmem S2048x1024 .f32).view
abbrev V7 : View sig .tc .vmem S2048x1024 .bf16 := (a7).view

variable (m : (ℓ : Loc nD τ sig) → Buf (Elt F) ℓ) (ρ : Dev nD → PrngReg)

/-- The three kinds of point, run at the point's own buffers and blocks. -/
abbrev first (c : Dev nD) (t : Fin cfg0.N) (h : t.val % 4 = 0) :=
  runFirst (F := F) c (grid0.coords t) (a2 t) (w2 t) (a3 t) (w3 t) (a4 t) (w4 t) (a5 t) (w5 t) (a6 t) (w6 t) a7 w7
    ((branch t).1.mpr h) (fun e => by have := (branch t).2.1.mp e; omega) (fun e => by have := (branch t).2.2.mp e; omega)
    (iblk m c 0 t) (iblk m c 1 t) (iblk m c 2 t)

abbrev middle (c : Dev nD) (t : Fin cfg0.N) (h : 1 ≤ t.val % 4 ∧ t.val % 4 ≤ 2) (u : Vec F S2048x1024 .bf16) :=
  runMiddle (F := F) c (grid0.coords t) (a2 t) (w2 t) (a3 t) (w3 t) (a4 t) (w4 t) (a5 t) (w5 t) (a6 t) (w6 t) a7 w7
    (fun e => by have := (branch t).1.mp e; omega) ((branch t).2.1.mpr h) (fun e => by have := (branch t).2.2.mp e; omega)
    (iblk m c 0 t) (iblk m c 1 t) (iblk m c 2 t) u

abbrev last (c : Dev nD) (t : Fin cfg0.N) (h : t.val % 4 = 3) (u : Vec F S2048x1024 .bf16) :=
  runLast (F := F) c (grid0.coords t) (a2 t) (w2 t) (a3 t) (w3 t) (a4 t) (w4 t) (a5 t) (w5 t) (a6 t) (w6 t) a7 w7
    (fun e => by have := (branch t).1.mp e; omega) (fun e => by have := (branch t).2.1.mp e; omega) ((branch t).2.2.mpr h)
    (iblk m c 0 t) (iblk m c 1 t) (iblk m c 2 t) u

/-- What each kind of point leaves in the buffers it fills. -/
def firstNarrow (c : Dev nD) (t : Fin cfg0.N) (h : t.val % 4 = 0) : Vec F S2048x1024 .bf16 :=
  V5.read (Elt F) (V5.writes (Elt F) V5.junk
    (runFirst (F := F) c (grid0.coords t) (a2 t) (w2 t) (a3 t) (w3 t) (a4 t) (w4 t) (a5 t) (w5 t) (a6 t) (w6 t) a7 w7
      ((branch t).1.mpr h) (fun e => by have := (branch t).2.1.mp e; omega) (fun e => by have := (branch t).2.2.mp e; omega)
      (iblk m c 0 t) (iblk m c 1 t) (iblk m c 2 t)).1)
def firstScratch (c : Dev nD) (t : Fin cfg0.N) (h : t.val % 4 = 0) : Vec F S2048x1024 .bf16 :=
  V7.read (Elt F) (V7.writes (Elt F) V7.junk
    (runFirst (F := F) c (grid0.coords t) (a2 t) (w2 t) (a3 t) (w3 t) (a4 t) (w4 t) (a5 t) (w5 t) (a6 t) (w6 t) a7 w7
      ((branch t).1.mpr h) (fun e => by have := (branch t).2.1.mp e; omega) (fun e => by have := (branch t).2.2.mp e; omega)
      (iblk m c 0 t) (iblk m c 1 t) (iblk m c 2 t)).2.1)
def middleNarrow (c : Dev nD) (t : Fin cfg0.N) (h : 1 ≤ t.val % 4 ∧ t.val % 4 ≤ 2) (u : Vec F S2048x1024 .bf16) : Vec F S2048x1024 .bf16 :=
  V5.read (Elt F) (V5.writes (Elt F) V5.junk
    (runMiddle (F := F) c (grid0.coords t) (a2 t) (w2 t) (a3 t) (w3 t) (a4 t) (w4 t) (a5 t) (w5 t) (a6 t) (w6 t) a7 w7
      (fun e => by have := (branch t).1.mp e; omega) ((branch t).2.1.mpr h) (fun e => by have := (branch t).2.2.mp e; omega)
      (iblk m c 0 t) (iblk m c 1 t) (iblk m c 2 t) u).1)
def lastWide (c : Dev nD) (t : Fin cfg0.N) (h : t.val % 4 = 3) (u : Vec F S2048x1024 .bf16) : Vec F S2048x1024 .f32 :=
  V6.read (Elt F) (V6.writes (Elt F) V6.junk
    (runLast (F := F) c (grid0.coords t) (a2 t) (w2 t) (a3 t) (w3 t) (a4 t) (w4 t) (a5 t) (w5 t) (a6 t) (w6 t) a7 w7
      (fun e => by have := (branch t).1.mp e; omega) (fun e => by have := (branch t).2.1.mp e; omega) ((branch t).2.2.mpr h)
      (iblk m c 0 t) (iblk m c 1 t) (iblk m c 2 t) u).1)

theorem firstNarrow_cover (c : Dev nD) (t : Fin cfg0.N) (h : t.val % 4 = 0) (y : S2048x1024.Idx) :
    ∃ p ∈ (first m c t h).1, y ∈ p.1.set :=
  View.cover_of_tiledL (first m c t h).1 S256x1024.size (by sl_kernel_rfl) y
theorem firstScratch_cover (c : Dev nD) (t : Fin cfg0.N) (h : t.val % 4 = 0) (y : S2048x1024.Idx) :
    ∃ p ∈ (first m c t h).2.1, y ∈ p.1.set :=
  View.cover_of_tiledL (first m c t h).2.1 S256x1024.size (by sl_kernel_rfl) y
theorem middleNarrow_cover (c : Dev nD) (t : Fin cfg0.N) (h : 1 ≤ t.val % 4 ∧ t.val % 4 ≤ 2) (u) (y : S2048x1024.Idx) :
    ∃ p ∈ (middle m c t h u).1, y ∈ p.1.set :=
  View.cover_of_tiledL (middle m c t h u).1 S2048x1024.size (by sl_kernel_rfl) y
theorem lastWide_cover (c : Dev nD) (t : Fin cfg0.N) (h : t.val % 4 = 3) (u) (y : S2048x1024.Idx) :
    ∃ p ∈ (last m c t h u).1, y ∈ p.1.set :=
  View.cover_of_tiledL (last m c t h u).1 S2048x1024.size (by sl_kernel_rfl) y

/-- The narrow result's buffer, the wide one's and the scratch after point `n`. -/
def held (c : Dev nD) : (n : ℕ) → n < cfg0.N → Vec F S2048x1024 .bf16 × Vec F S2048x1024 .f32 × Vec F S2048x1024 .bf16
  | 0, hn => (firstNarrow m c ⟨0, hn⟩ rfl, V6.read (Elt F) V6.junk, firstScratch m c ⟨0, hn⟩ rfl)
  | n + 1, hn =>
    if h : (n + 1) % 4 = 0 then (firstNarrow m c ⟨n + 1, hn⟩ h, V6.read (Elt F) V6.junk, firstScratch m c ⟨n + 1, hn⟩ h)
    else if h3 : (n + 1) % 4 = 3 then
      ((held c n (Nat.lt_of_succ_lt hn)).1, lastWide m c ⟨n + 1, hn⟩ h3 (held c n (Nat.lt_of_succ_lt hn)).2.2, (held c n (Nat.lt_of_succ_lt hn)).2.2)
    else
      (middleNarrow m c ⟨n + 1, hn⟩ ⟨by show 1 ≤ (n + 1) % 4; omega, by show (n + 1) % 4 ≤ 2; omega⟩ (held c n (Nat.lt_of_succ_lt hn)).2.2,
        V6.read (Elt F) V6.junk, (held c n (Nat.lt_of_succ_lt hn)).2.2)

theorem before_lt (t : Fin cfg0.N) : t.val - 1 < cfg0.N := lt_of_le_of_lt (Nat.sub_le _ _) t.isLt

theorem held_first (c : Dev nD) (t : Fin cfg0.N) (h : t.val % 4 = 0) :
    held m c t.val t.isLt = (firstNarrow m c t h, V6.read (Elt F) V6.junk, firstScratch m c t h) := by
  obtain ⟨n, hn⟩ := t
  cases n with
  | zero => rfl
  | succ n => exact (dif_pos h).trans rfl

theorem held_middle (c : Dev nD) (t : Fin cfg0.N) (h : 1 ≤ t.val % 4 ∧ t.val % 4 ≤ 2) :
    held m c t.val t.isLt = (middleNarrow m c t h (held m c (t.val - 1) (before_lt t)).2.2, V6.read (Elt F) V6.junk,
      (held m c (t.val - 1) (before_lt t)).2.2) := by
  obtain ⟨n, hn⟩ := t
  dsimp only at h
  cases n with
  | zero => omega
  | succ n => exact (dif_neg (by omega)).trans ((dif_neg (by omega)).trans rfl)

theorem held_last (c : Dev nD) (t : Fin cfg0.N) (h : t.val % 4 = 3) :
    held m c t.val t.isLt = ((held m c (t.val - 1) (before_lt t)).1, lastWide m c t h (held m c (t.val - 1) (before_lt t)).2.2,
      (held m c (t.val - 1) (before_lt t)).2.2) := by
  obtain ⟨n, hn⟩ := t
  dsimp only at h
  cases n with
  | zero => omega
  | succ n => exact (dif_neg (by omega)).trans ((dif_pos h).trans rfl)

/-- The scratch and the generator register before point `n`: anything before the first, afterwards what was left. -/
def inv (c : Dev nD) : (n : ℕ) → n ≤ cfg0.N → sProp 𝕄
  | 0, _ => Pipeline.ΦA spec0 c
  | n + 1, hn => iprop(owns (c : Thread nD τ) a7 fullShare ((held m c n hn).2.2) ∗ (∃ r, prngReg c r))

theorem inv_pos (c : Dev nD) (n : ℕ) (h : n ≤ cfg0.N) (hz : n ≠ 0) :
    inv m c n h = iprop(owns (c : Thread nD τ) a7 fullShare ((held m c (n - 1) (by omega)).2.2) ∗ (∃ r, prngReg c r)) := by
  cases n with
  | zero => exact absurd rfl hz
  | succ n => rfl

theorem any_eq (c : Dev nD) :
    (Pipeline.ΦA spec0 c : sProp 𝕄) = iprop((∃ d, owns (c : Thread nD τ) a7 fullShare d) ∗ (∃ r, prngReg c r)) := by
  unfold Pipeline.ΦA; rw [scopedRest0_eq]; simp only [a7, owns_whole]; rfl

/-- Before any point the scratch is owned at something. -/
theorem inv_any (c : Dev nD) (n : ℕ) (h : n ≤ cfg0.N) :
    inv m c n h ⊢ iprop((∃ d, owns (c : Thread nD τ) a7 fullShare d) ∗ (∃ r, prngReg c r)) := by
  cases n with
  | zero => rw [show inv m c 0 h = Pipeline.ΦA spec0 c from rfl, any_eq]
  | succ n =>
    rw [show inv m c (n + 1) h = iprop(owns (c : Thread nD τ) a7 fullShare ((held m c n h).2.2) ∗ (∃ r, prngReg c r)) from rfl]
    iintro ⟨HS, Hg⟩
    isplitl [HS]; · iexists _; iexact HS
    iexact Hg

/-! ## The pipeline's data and the body's obligation -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (held m c t.val t.isLt).1
    | ⟨4, _⟩ => (held m c t.val t.isLt).2.1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (held m c t.val t.isLt).1 := by dsimp only [dats]
theorem after_4 (c : Dev nD) (t : Fin cfg0.N) : (dats m 0 c).after 4 t = (held m c t.val t.isLt).2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- At the last point of a row block the narrow result's buffer still holds the tile of the point before. -/
theorem before_3 (c : Dev nD) (t : Fin cfg0.N) (h : t.val % 4 = 3) (d) :
    (dats m 0 c).before 3 t d = (held m c (t.val - 1) (before_lt t)).1 := by
  rw [Dat.before_of_pos _ _ _ (by omega) rfl, narrow_stays ⟨t.val - 1, _⟩ (by show (t.val - 1) % 4 = 2; omega),
    if_neg Bool.false_ne_true]
  unfold Dat.left
  rw [narrow_live ⟨t.val - 1, _⟩ (by show (t.val - 1) % 4 ≠ 3; omega)]
  show (dats m 0 c).kept 3 _ d = _
  exact after_3 m c ⟨t.val - 1, before_lt t⟩

def bodyPre (c : Dev nD) (t : Fin cfg0.N) : sProp 𝕄 :=
  iprop((dats m 0 c).Φ t.castSucc ∗ (dats m 0 c).owesAt () t.castSucc
    ∗ (∃ d, owns (c : Thread nD τ) (a2 t) fullShare ((dats m 0 c).before 0 t d))
    ∗ (∃ d, owns (c : Thread nD τ) (a3 t) fullShare ((dats m 0 c).before 1 t d))
    ∗ (∃ d, owns (c : Thread nD τ) (a4 t) fullShare ((dats m 0 c).before 2 t d))
    ∗ (∃ d, owns (c : Thread nD τ) (a5 t) fullShare ((dats m 0 c).before 3 t d))
    ∗ (∃ d, owns (c : Thread nD τ) (a6 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (a2 t) fullShare (iblk m c 0 t)
    ∗ owns (c : Thread nD τ) (a3 t) fullShare (iblk m c 1 t)
    ∗ owns (c : Thread nD τ) (a4 t) fullShare (iblk m c 2 t)
    ∗ (dats m 0 c).leavesExact 3 t
    ∗ (dats m 0 c).leavesExact 4 t)

theorem leaves_3 (c : Dev nD) (t : Fin cfg0.N) :
    (dats m 0 c).leavesExact 3 t = owns (c : Thread nD τ) (a5 t) fullShare (held m c t.val t.isLt).1 := by
  by_cases h : t.val % 4 = 3
  · unfold Dat.leavesExact; rw [(narrow_idle t h).1, (narrow_idle t h).2, after_3]
  · unfold Dat.leavesExact; rw [narrow_live t h, after_3]

set_option maxHeartbeats 4000000 in
theorem sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [leaves_3, show (dats m 0 c).owesAt () t.succ = (dats m 0 c).owesAt () t.castSucc from rfl,
    show (dats m 0 c).Φ t.succ = iprop(owns (c : Thread nD τ) a7 fullShare ((held m c t.val t.isLt).2.2) ∗ (∃ r, prngReg c r)) from rfl,
    show (dats m 0 c).Φ t.castSucc = inv m c t.val (Nat.le_of_lt t.isLt) from rfl]
  by_cases h3 : t.val % 4 = 3
  · rw [show (dats m 0 c).leavesExact 4 t = owns (c : Thread nD τ) (a6 t) fullShare ((dats m 0 c).after 4 t) from by
      unfold Dat.leavesExact; rw [wide_live t h3], after_4, inv_pos m c _ _ (by omega)]
    simp only [before_3 m c t h3]
    rw [held_last m c t h3]
    unfold lastWide
    dsimp only
    iintro ⟨⟨HS, Hg⟩, Ho, ⟨%_, H2⟩, ⟨%_, H3⟩, ⟨%_, H4⟩, ⟨%_, H5⟩, ⟨%_, H6⟩⟩
    iapply ((last m c t h3 _).2 _ _)
    isplitl [H2]; · iexact H2
    isplitl [H3]; · iexact H3
    isplitl [H4]; · iexact H4
    isplitl [H5]; · iexact H5
    isplitl [H6]; · iexists _; iexact H6
    isplitl [HS]; · iexact HS
    iintro ⟨H2, H3, H4, H5, ⟨%e, H6⟩, HS⟩
    isplitl [HS Hg]
    · isplitl [HS]; · iexact HS
      iexact Hg
    isplitl [Ho]; · iexact Ho
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (lastWide_cover m c t h3 _)
  · rw [Dat.leavesExact_idle (dats m 0 c) 4 t (wide_idle t h3).1 (wide_idle t h3).2]
    by_cases h : t.val % 4 = 0
    · rw [held_first m c t h]
      unfold firstNarrow firstScratch
      dsimp only
      refine .trans (sep_mono (inv_any m c _ _) .rfl) ?_
      iintro ⟨⟨HS, Hg⟩, Ho, ⟨%_, H2⟩, ⟨%_, H3⟩, ⟨%_, H4⟩, ⟨%_, H5⟩, ⟨%_, H6⟩⟩
      iapply ((first m c t h).2.2 _ _)
      isplitl [H2]; · iexact H2
      isplitl [H3]; · iexact H3
      isplitl [H4]; · iexact H4
      isplitl [H5]; · iexists _; iexact H5
      isplitl [H6]; · iexact H6
      isplitl [HS]; · iexact HS
      iintro ⟨H2, H3, H4, ⟨%e5, H5⟩, H6, ⟨%e7, HS⟩⟩
      isplitl [HS Hg]
      · isplitl [HS]
        · unfold owns; iexists _; isplitr
          swap; · iexact HS
          ipureintro; exact View.read_writes_of_cover _ _ _ _ _ (firstScratch_cover m c t h)
        iexact Hg
      isplitl [Ho]; · iexact Ho
      isplitl [H2]; · iexact H2
      isplitl [H3]; · iexact H3
      isplitl [H4]; · iexact H4
      isplitl [H5]
      · unfold owns; iexists _; isplitr
        swap; · iexact H5
        ipureintro; exact View.read_writes_of_cover _ _ _ _ _ (firstNarrow_cover m c t h)
      iexists _; iexact H6
    · have hm : 1 ≤ t.val % 4 ∧ t.val % 4 ≤ 2 := by omega
      rw [held_middle m c t hm, inv_pos m c _ _ (by omega)]
      unfold middleNarrow
      dsimp only
      iintro ⟨⟨HS, Hg⟩, Ho, ⟨%_, H2⟩, ⟨%_, H3⟩, ⟨%_, H4⟩, ⟨%_, H5⟩, ⟨%_, H6⟩⟩
      iapply ((middle m c t hm _).2 _ _)
      isplitl [H2]; · iexact H2
      isplitl [H3]; · iexact H3
      isplitl [H4]; · iexact H4
      isplitl [H5]; · iexists _; iexact H5
      isplitl [H6]; · iexact H6
      isplitl [HS]; · iexact HS
      iintro ⟨H2, H3, H4, ⟨%e5, H5⟩, H6, HS⟩
      isplitl [HS Hg]
      · isplitl [HS]; · iexact HS
        iexact Hg
      isplitl [Ho]; · iexact Ho
      isplitl [H2]; · iexact H2
      isplitl [H3]; · iexact H3
      isplitl [H4]; · iexact H4
      isplitl [H5]
      · unfold owns; iexists _; isplitr
        swap; · iexact H5
        ipureintro; exact View.read_writes_of_cover _ _ _ _ _ (middleNarrow_cover m c t hm _)
      iexists _; iexact H6

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

theorem inv_in (c : Dev nD) : Pipeline.ΦA spec0 c ⊢ (dats m 0 c).Φ 0 := .rfl

theorem inv_out (c : Dev nD) : (dats m 0 c).Φ (Fin.last cfg0.N) ⊢ Pipeline.ΦA spec0 c := by
  rw [any_eq]; exact inv_any m c cfg0.N le_rfl

/-! ## The launch -/

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_quiescent m ρ)

/-- The program ends, its arguments as launched and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.NormMmProof

end
-- ==== Proof.Projection.lean ====
/- Rows times a matrix of several column tiles: the functions the projection kernels and their references are read as. -/
module

public import proofs.«01_k».proof.Proof.Rows

@[expose] public section

noncomputable section

open Idealize.ShloMosaic

namespace Cert.Rows

/-- Every row times a matrix. -/
def rowsTimes {a n p : ℕ} (u : Mat a n) (w : Mat n p) : Mat a p := fun i => dot (row u (i 0)) w (i 1)

/-- The `q` columns of a matrix from column `o`. -/
def colsFrom {a p : ℕ} (o q : ℕ) (h : o + q ≤ p) (x : Mat a p) : Mat a q :=
  fun i => x (ix2 (i 0) ⟨o + (i 1).val, by have : (i 1).val < q := (i 1).isLt; omega⟩)

/-- The first `q` columns of a matrix. -/
def colsTo {a p : ℕ} (q : ℕ) (h : q ≤ p) (x : Mat a p) : Mat a q :=
  fun i => x (ix2 (i 0) ⟨(i 1).val, by have : (i 1).val < q := (i 1).isLt; omega⟩)

/-- A tile of rows times a tile of columns is the tile of the product. -/
theorem rowsTimes_tile {a n p : ℕ} (k q : ℕ) (h : k * q + k ≤ a) (o s : ℕ) (h' : o + s ≤ p) (u : Mat a n) (w : Mat n p) :
    rowsTimes (rowBlock k q h u) (colsFrom o s h' w) = rowBlock k q h (colsFrom o s h' (rowsTimes u w)) := rfl

end Cert.Rows
-- ==== Proof.NormMmValue.lean ====
/- What one run of the last layer's projection kernel leaves in its two results, read as rows times a matrix. -/
module

public import proofs.«01_k».proof.Proof.NormMmRun
public import proofs.«01_k».proof.Proof.Projection
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section
open Idealize.ShloMosaic Idealize.SL.Sem Idealize.ShloMosaic.TcCoe
open Cert.NormMmIdeal Cert.NormMmIdeal.Gen
open Cert.Rows
namespace Cert.NormMmProof
variable (m : (ℓ : Loc nD τ sig) → Buf (Elt Ideal) ℓ)

/-! ## The buffers, read -/

theorem firstScratch_eq (c : Dev nD) (t : Fin cfg0.N) (h : t.val % 4 = 0) :
    firstScratch m c t h = rmsAll (iblk m c 0 t) (iblk m c 1 t) := by
  funext y
  frame_open
  frame_out
  canon_tiles x h
  all_goals open_payloads
  all_goals pointwise
  all_goals first
    | (rw [tile_index_first y x (by omega) h0 h1]; rfl)
    | (rw [tile_index _ y x (by omega) h0 h1]; rfl)

theorem firstNarrow_eq (c : Dev nD) (t : Fin cfg0.N) (h : t.val % 4 = 0) :
    firstNarrow m c t h = rowsTimes (rmsAll (iblk m c 0 t) (iblk m c 1 t)) (iblk m c 2 t) := by
  funext y
  frame_open
  simp (disch := decide) only [↓ View.readCov_skip, ↓ View.readCov_cons_toLoadRect, ↓ View.readCov_fill]
  frame_out
  canon_tiles x h
  all_goals open_payloads
  all_goals pointwise
  all_goals first
    | (rw [tile_index_first y x (by omega) h0 h1]; rfl)
    | (rw [tile_index _ y x (by omega) h0 h1]; rfl)

theorem middleNarrow_eq (c : Dev nD) (t : Fin cfg0.N) (h : 1 ≤ t.val % 4 ∧ t.val % 4 ≤ 2) (u : Vec Ideal S2048x1024 .bf16) :
    middleNarrow m c t h u = rowsTimes u (iblk m c 2 t) := by
  funext y
  frame_open
  frame_out
  open_payloads
  pointwise
  simp only [read_unread_whole]
  rfl

theorem lastWide_eq (c : Dev nD) (t : Fin cfg0.N) (h : t.val % 4 = 3) (u : Vec Ideal S2048x1024 .bf16) :
    lastWide m c t h u = rowsTimes u (iblk m c 2 t) := by
  funext y
  frame_open
  frame_out
  open_payloads
  pointwise
  simp only [read_unread_whole]
  rfl

/-! ## The blocks as parts of the arguments -/

theorem idx (t : Fin cfg0.N) :
    win0_0.index t = ![t.val / 4, 0] ∧ win0_1.index t = ![0, 0] ∧ win0_2.index t = ![0, t.val % 4]
      ∧ win0_3.index t = ![t.val / 4, min (t.val % 4) 2] ∧ win0_4.index t = ![t.val / 4, 0] := by
  revert t; decide +kernel

theorem lt_N (t : Fin cfg0.N) : t.val < 64 := lt_of_lt_of_eq t.isLt N_0

theorem blk0 (c : Dev nD) (t : Fin cfg0.N) (q : ℕ) (hq : 2048 * q + 2048 ≤ 32768) (h : t.val / 4 = q) :
    iblk m c 0 t = rowBlock 2048 q hq (m ((c : Thread nD τ).loc main_arg0)) := by
  funext y
  unfold rowBlock
  obtain ⟨e0, e1, e2, e3, e4⟩ := idx t
  blk_point [iblk, V, e0]

theorem blk1 (c : Dev nD) (t : Fin cfg0.N) : iblk m c 1 t = asRow (m ((c : Thread nD τ).loc main_arg1)) := by
  obtain ⟨e0, e1, e2, e3, e4⟩ := idx t
  funext y
  unfold asRow
  blk_point [iblk, V, e1]

theorem blk2 (c : Dev nD) (t : Fin cfg0.N) (s : ℕ) (hs : 1024 * s + 1024 ≤ 4096) (h : t.val % 4 = s) :
    iblk m c 2 t = colsFrom (1024 * s) 1024 hs (m ((c : Thread nD τ).loc main_arg2)) := by
  obtain ⟨e0, e1, e2, e3, e4⟩ := idx t
  funext y
  unfold colsFrom
  blk_point [iblk, V, e2]

/-- The normalised rows of the whole array. -/
abbrev normed (c : Dev nD) : Mat 32768 1024 :=
  rmsAll (m ((c : Thread nD τ).loc main_arg0)) (asRow (m ((c : Thread nD τ).loc main_arg1)))

/-- The product of the whole array. -/
abbrev product (c : Dev nD) : Mat 32768 4096 := rowsTimes (normed m c) (m ((c : Thread nD τ).loc main_arg2))

/-- The two results: the first 3072 columns of the product and the last 1024. -/
abbrev narrow (c : Dev nD) : Mat 32768 3072 := colsTo 3072 (by decide) (product m c)
abbrev wide (c : Dev nD) : Mat 32768 1024 := colsFrom 3072 1024 (by decide) (product m c)

/-- At every point the scratch holds the normalised rows of the point's row block. -/
theorem scratch_eq (c : Dev nD) (q : ℕ) (hq : 2048 * q + 2048 ≤ 32768) : (s : ℕ) → (t : Fin cfg0.N) → t.val / 4 = q → t.val % 4 = s →
    (held m c t.val t.isLt).2.2 = rowBlock 2048 q hq (normed m c)
  | 0, t, ht, hs => by
    rw [held_first m c t hs]
    dsimp only
    rw [firstScratch_eq, blk0 m c t q hq ht, blk1]
    rfl
  | s + 1, t, ht, hs => by
    have ih := scratch_eq c q hq s ⟨t.val - 1, before_lt t⟩ (by show (t.val - 1) / 4 = q; omega) (by show (t.val - 1) % 4 = s; omega)
    by_cases h : t.val % 4 = 3
    · rw [held_last m c t h]; exact ih
    · rw [held_middle m c t (by omega)]; exact ih

/-- Before the last point of a row block the narrow result's buffer holds the point's tile of the product. -/
theorem narrow_tile (c : Dev nD) (t : Fin cfg0.N) (q : ℕ) (hq : 2048 * q + 2048 ≤ 32768) (ht : t.val / 4 = q) (s : ℕ) (h : t.val % 4 = s)
    (hs : 1024 * s + 1024 ≤ 3072) :
    (held m c t.val t.isLt).1 = rowBlock 2048 q hq (colsFrom (1024 * s) 1024 (by omega) (product m c)) := by
  rw [← rowsTimes_tile]
  by_cases h0 : t.val % 4 = 0
  · rw [held_first m c t h0]
    dsimp only
    rw [firstNarrow_eq, blk0 m c t q hq ht, blk1, blk2 m c t s (by omega) h]
    rfl
  · rw [held_middle m c t (by omega)]
    dsimp only
    rw [middleNarrow_eq, blk2 m c t s (by omega) h]
    exact congrArg (fun u => rowsTimes u _) (scratch_eq m c q hq (s - 1) ⟨t.val - 1, before_lt t⟩ (by show (t.val - 1) / 4 = q; omega)
      (by show (t.val - 1) % 4 = s - 1; omega))

/-- At the last point it still holds the tile of the point before. -/
theorem narrow_tile_last (c : Dev nD) (t : Fin cfg0.N) (q : ℕ) (hq : 2048 * q + 2048 ≤ 32768) (ht : t.val / 4 = q) (h : t.val % 4 = 3) :
    (held m c t.val t.isLt).1 = rowBlock 2048 q hq (colsFrom (1024 * 2) 1024 (by decide) (product m c)) := by
  rw [held_last m c t h]
  exact narrow_tile m c ⟨t.val - 1, before_lt t⟩ q hq (by show (t.val - 1) / 4 = q; omega) 2 (by show (t.val - 1) % 4 = 2; omega) (by decide)

theorem wide_tile (c : Dev nD) (t : Fin cfg0.N) (q : ℕ) (hq : 2048 * q + 2048 ≤ 32768) (ht : t.val / 4 = q) (h : t.val % 4 = 3) :
    (held m c t.val t.isLt).2.1 = rowBlock 2048 q hq (wide m c) := by
  rw [held_last m c t h]
  dsimp only
  rw [lastWide_eq, blk2 m c t 3 (by decide) h]
  refine Eq.trans ?_ (rowsTimes_tile 2048 q hq (1024 * 3) 1024 (by decide) (normed m c) _)
  exact congrArg (fun u => rowsTimes u _) (scratch_eq m c q hq 2 ⟨t.val - 1, before_lt t⟩ (by show (t.val - 1) / 4 = q; omega)
      (by show (t.val - 1) % 4 = 2; omega))

/-! ## The result arrays after the run -/

theorem narrow_eq (c : Dev nD) : (dats m 0 c).arrAt 3 cfg0.N = narrow m c := by
  refine (dats m 0 c).arrAt_eq_of_covers 3 _ (by decide +kernel) fun t hf y => ?_
  obtain ⟨e0, e1, e2, e3, e4⟩ := idx t
  have hq : 2048 * (t.val / 4) + 2048 ≤ 32768 := by have := lt_N t; omega
  by_cases h : t.val % 4 = 3
  · rw [h, show min 3 2 = 2 from rfl] at e3
    blk_simp [e3]
    rw [after_3, narrow_tile_last m c t _ hq rfl h]
    unfold rowBlock narrow colsTo colsFrom
    refine congrArg (product m c) ?_
    blk_ext [e3]
  · obtain ⟨s, hs⟩ : ∃ s, t.val % 4 = s := ⟨_, rfl⟩
    rw [hs, show min s 2 = s by omega] at e3
    blk_simp [e3]
    rw [after_3, narrow_tile m c t _ hq rfl s hs (by omega)]
    unfold rowBlock narrow colsTo colsFrom
    refine congrArg (product m c) ?_
    blk_ext [e3]

theorem wide_eq (c : Dev nD) : (dats m 0 c).arrAt 4 cfg0.N = wide m c := by
  refine (dats m 0 c).arrAt_eq_of_covers 4 _ (by decide +kernel) fun t hf y => ?_
  obtain ⟨e0, e1, e2, e3, e4⟩ := idx t
  have hm : t.val % 4 = 3 := by
    by_contra h
    exact absurd hf (by rw [(wide_idle t h).2]; decide)
  blk_simp [e4]
  rw [after_4, wide_tile m c t (t.val / 4) (by have := lt_N t; omega) rfl hm]
  unfold rowBlock wide colsFrom
  refine congrArg (product m c) ?_
  blk_ext [e4]

/-- The run, with the two results and the arguments. -/
theorem run_blocks (ρ : Dev nD → PrngReg) : θ_run defs (onTc (τ := τ) (main (F := Ideal))) ⟨m, fun _ => 0, ρ⟩ (fun r => ∀ c : Dev nD,
      r.2.mem ((c.tc : Thread nD τ).loc main_v2_0) = narrow m c
      ∧ r.2.mem ((c.tc : Thread nD τ).loc main_v2_1) = wide m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (narrow_eq m c), ((h.1 c).1 4).trans (wide_eq m c), h.2.1 c⟩)
    (θ_run_and (run_main m ρ) (frame m ρ))

end Cert.NormMmProof
-- ==== Proof.NormMmClaim.lean ====
/- The last layer's projection kernel: its frames, and its two results against its reference's over the extended reals. -/
module

public import proofs.«01_k».proof.Defs
public import proofs.«01_k».proof.Proof.NormMmValue
public import proofs.«01_k».proof.Proof.Gen.NormMm.Frame
public import proofs.«01_k».proof.Proof.Gen.NormMm.Skeleton
public import proofs.«01_k».proof.Proof.Gen.NormMmRefIdeal.Run
public import Idealize.ShloMosaic.Lib.Claim

@[expose] public section

set_option maxRecDepth 16384

noncomputable section
open Idealize.ShloMosaic Idealize.SL.Sem Idealize.ShloMosaic.TcCoe
open Cert.Rows
namespace Cert.NormMmProof

/-! The kernel as it is read at the bits' floats is the same text as the one read over the extended reals, so `frame`, which
holds for any float values, is its frame as well. -/

section Same

variable {F : FTy → Type} [FloatOps F]

theorem bodies_same : @Cert.NormMm.defs₀ F _ _ = @Cert.NormMmIdeal.defs₀ F _ _ := by
  unfold Cert.NormMm.defs₀ Cert.NormMmIdeal.defs₀
  refine congrArg Defs.onTc ?_
  funext l a
  match l, a with
  | 0, (t, s) => rfl
  | ⟨_ + 1, h⟩, _ => exact absurd h (Nat.not_lt.2 (Nat.le_add_left _ _))

theorem defs_same : @Cert.NormMm.defs F _ _ = @Cert.NormMmIdeal.defs F _ _ :=
  congrArg (Pipeline.defs Cert.NormMm.pcfgs) bodies_same

end Same

theorem frame_bits : Cert.quiescent_NormMm (hNormMm := Cert.NormMm.Gen.facts) := by
  intro m ρ _
  rw [defs_same]
  exact frame (F := Bits) m ρ

theorem frame_ideal : Cert.quiescent_NormMmIdeal (hNormMmIdeal := Cert.NormMmIdeal.Gen.facts) := fun m ρ _ => frame (F := Ideal) m ρ

theorem frame_ref : Cert.quiescent_NormMmRefIdeal (hNormMmRefIdeal := Cert.NormMmRefIdeal.Gen.facts) := fun m ρ _ =>
  (θ_run _ _ _).mono (fun r h => ⟨fun c => (h c).2.2, sem_eq_zero_of_no_sems (by decide) r.2⟩) (Cert.NormMmRefIdeal.Value.run m ρ)

/-- Both programs run, keep their arguments and end with the same two arrays. -/
theorem alg : Cert.algebraic_NormMmIdeal_NormMmRefIdeal (hNormMmIdeal := Cert.NormMmIdeal.Gen.facts) (hNormMmRefIdeal := Cert.NormMmRefIdeal.Gen.facts) := by
  pair_intro
  · run_from run_blocks m g
  · run_from Cert.NormMmRefIdeal.Value.run (F := Ideal) m' g'
    all_goals funext i
    all_goals pointwise
    all_goals rfl

end Cert.NormMmProof
-- ==== Proof.NormMmTwoRun.lean ====
/- The first layer's projection kernel: its body at each kind of grid point, and what its buffers hold between the points.

   The kernel walks row blocks of 2048 rows, two points each. At the first the block is normalised into the scratch and
   multiplied by the first 1024 columns; at the second the scratch meets the columns kept in the wide format, and the
   narrow result's buffer, which the pipeline writes back there, keeps what the point before left. -/
module

public import Idealize.ShloMosaic.Lib.Claim
public import proofs.«01_k».proof.Proof.Gen.NormMmTwoIdeal.Frame
public import proofs.«01_k».proof.Proof.Gen.NormMmTwoIdeal.Skeleton

@[expose] public section

set_option maxRecDepth 16384

noncomputable section

namespace Cert.NormMmTwoProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormMmTwoIdeal Cert.NormMmTwoIdeal.Gen

variable {F : FTy → Type} [FloatOps F]

local notation "𝕄" => MT nD τ sig Unit (Elt F) ℕ (UR sig nD τ) ℕ

/-! ## Which branch a point takes, and what the schedule does with the results there -/

theorem branch (t : Fin cfg0.N) :
    (k0_cond1 (grid0.coords t) = 1#1 ↔ t.val % 2 = 0)
      ∧ (k0_cond2 (grid0.coords t) = 1#1 ↔ False)
      ∧ (k0_cond3 (grid0.coords t) = 1#1 ↔ t.val % 2 = 1) := by
  revert t; decide +kernel

theorem narrow_live (t : Fin cfg0.N) (h : t.val % 2 ≠ 1) : cfg0.idle 3 (grid0.coords t) = false := by
  revert t; decide +kernel

theorem narrow_idle (t : Fin cfg0.N) (h : t.val % 2 = 1) :
    cfg0.idle 3 (grid0.coords t) = true ∧ (cfg0.win 3).flush t = true := by
  revert t; decide +kernel

/-- At the last point of a row block the narrow result's buffer has not been sent away by the point before. -/
theorem narrow_stays (t : Fin cfg0.N) (h : t.val % 2 = 0) : (cfg0.win 3).flush t = false := by
  revert t; decide +kernel

theorem wide_live (t : Fin cfg0.N) (h : t.val % 2 = 1) : cfg0.idle 4 (grid0.coords t) = false := by
  revert t; decide +kernel

theorem wide_idle (t : Fin cfg0.N) (h : t.val % 2 ≠ 1) :
    cfg0.idle 4 (grid0.coords t) = true ∧ (cfg0.win 4).flush t = false := by
  revert t; decide +kernel

/-! ## The body, one kind of point at a time -/

section Body

variable (c : Dev nD) (i : grid0.Coords)
  (arg2 : Memref sig .tc .vmem S2048x1024 .f32) (harg2 : arg2.IsWhole)
  (arg3 : Memref sig .tc .vmem S1x1024 .f32) (harg3 : arg3.IsWhole)
  (arg4 : Memref sig .tc .vmem S1024x1024 .bf16) (harg4 : arg4.IsWhole)
  (arg5 : Memref sig .tc .vmem S2048x1024 .bf16) (harg5 : arg5.IsWhole)
  (arg6 : Memref sig .tc .vmem S2048x1024 .f32) (harg6 : arg6.IsWhole)
  (arg7 : Memref sig .tc .vmem S2048x1024 .bf16) (harg7 : arg7.IsWhole)

set_option maxHeartbeats 1200000 in
/-- The first point of a row block: the scratch and the narrow result are filled, the wide result is left alone. -/
def runFirst (h1 : k0_cond1 i = 1#1) (h2 : ¬k0_cond2 i = 1#1) (h3 : ¬k0_cond3 i = 1#1)
    (x : Vec F S2048x1024 .f32) (g : Vec F S1x1024 .f32) (w : Vec F S1024x1024 .bf16) :
    Σ' (L5 : List (View.Piece (Elt F) S2048x1024 .bf16)), { L7 : List (View.Piece (Elt F) S2048x1024 .bf16) //
      ∀ (d6 : Vec F S2048x1024 .f32) (K : PUnit → sProp 𝕄),
        iprop(owns (c : Thread nD τ) arg2 fullShare x ∗ owns (c : Thread nD τ) arg3 fullShare g ∗ owns (c : Thread nD τ) arg4 fullShare w
            ∗ (∃ d, owns (c : Thread nD τ) arg5 fullShare d) ∗ owns (c : Thread nD τ) arg6 fullShare d6 ∗ (∃ d, owns (c : Thread nD τ) arg7 fullShare d)
            ∗ (iprop(owns (c : Thread nD τ) arg2 fullShare x ∗ owns (c : Thread nD τ) arg3 fullShare g ∗ owns (c : Thread nD τ) arg4 fullShare w
              ∗ (∃ f, arg5.view.loc (c : Thread nD τ) ↦[arg5.view.set]{fullShare} arg5.view.writes (Elt F) f L5) ∗ owns (c : Thread nD τ) arg6 fullShare d6
              ∗ (∃ f, arg7.view.loc (c : Thread nD τ) ↦[arg7.view.set]{fullShare} arg7.view.writes (Elt F) f L7)) -∗ K ⟨⟩))
          ⊢ wp frame (wpE (defs₀ (F := F)) Variants.none c none) Set.univ (cc0_norm_matmul i arg2 harg2 arg3 harg3 arg4 harg4 arg5 harg5 arg6 harg6 arg7 harg7) K } := by
  refine ⟨?_, ?_, fun d6 K => ?run⟩
  case run =>
    simp only [cc0_norm_matmul_eq_skeleton]; unfold cc0_norm_matmul_skel
    simp only [k0_part1_eq_skeleton, k0_part2_eq_skeleton, k0_part3_eq_skeleton, k0_part4_eq_skeleton, k0_part5_eq_skeleton]
    unfold owns
    iintro ⟨⟨%f2, %e2, H2⟩, ⟨%f3, %e3, H3⟩, ⟨%f4, %e4, H4⟩, ⟨%d5, %f5, -, H5⟩, ⟨%f6, %e6, H6⟩, ⟨%d7, %f7, -, H7⟩, Hk⟩
    obtain rfl := harg2.eq_unread e2; obtain rfl := harg3.eq_unread e3; obtain rfl := harg4.eq_unread e4; obtain rfl := harg6.eq_unread e6
    sl_exec (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]
    · iexists _; isplitr; · ipureintro; exact harg6.read_unread _
      iexact H6
    iexists _; iexact H7

set_option maxHeartbeats 1200000 in
/-- The last point: the wide result is filled from the scratch, the narrow one is left alone. -/
def runLast (h1 : ¬k0_cond1 i = 1#1) (h2 : ¬k0_cond2 i = 1#1) (h3 : k0_cond3 i = 1#1)
    (x : Vec F S2048x1024 .f32) (g : Vec F S1x1024 .f32) (w : Vec F S1024x1024 .bf16) (u : Vec F S2048x1024 .bf16) :
    { L6 : List (View.Piece (Elt F) S2048x1024 .f32) //
      ∀ (d5 : Vec F S2048x1024 .bf16) (K : PUnit → sProp 𝕄),
        iprop(owns (c : Thread nD τ) arg2 fullShare x ∗ owns (c : Thread nD τ) arg3 fullShare g ∗ owns (c : Thread nD τ) arg4 fullShare w
            ∗ owns (c : Thread nD τ) arg5 fullShare d5 ∗ (∃ d, owns (c : Thread nD τ) arg6 fullShare d) ∗ owns (c : Thread nD τ) arg7 fullShare u
            ∗ (iprop(owns (c : Thread nD τ) arg2 fullShare x ∗ owns (c : Thread nD τ) arg3 fullShare g ∗ owns (c : Thread nD τ) arg4 fullShare w
              ∗ owns (c : Thread nD τ) arg5 fullShare d5 ∗ (∃ f, arg6.view.loc (c : Thread nD τ) ↦[arg6.view.set]{fullShare} arg6.view.writes (Elt F) f L6)
              ∗ owns (c : Thread nD τ) arg7 fullShare u) -∗ K ⟨⟩))
          ⊢ wp frame (wpE (defs₀ (F := F)) Variants.none c none) Set.univ (cc0_norm_matmul i arg2 harg2 arg3 harg3 arg4 harg4 arg5 harg5 arg6 harg6 arg7 harg7) K } := by
  refine ⟨?_, fun d5 K => ?run⟩
  case run =>
    simp only [cc0_norm_matmul_eq_skeleton]; unfold cc0_norm_matmul_skel
    unfold owns
    iintro ⟨⟨%f2, %e2, H2⟩, ⟨%f3, %e3, H3⟩, ⟨%f4, %e4, H4⟩, ⟨%f5, %e5, H5⟩, ⟨%d6, %f6, -, H6⟩, ⟨%f7, %e7, H7⟩, Hk⟩
    obtain rfl := harg2.eq_unread e2; obtain rfl := harg3.eq_unread e3; obtain rfl := harg4.eq_unread e4; obtain rfl := harg5.eq_unread e5; obtain rfl := harg7.eq_unread e7
    sl_exec (disch := first | sl_exact h1 | sl_exact h2 | sl_exact h3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    iexists _; isplitr; · ipureintro; exact harg7.read_unread _
    iexact H7

end Body

/-! ## The buffers between the points -/

/-- The staging memrefs at a point, and the scratch. -/
abbrev a2 (t : Fin cfg0.N) : Memref sig .tc .vmem S2048x1024 .f32 := win0_0.stage (cfg0.slots t 0)
abbrev w2 (t : Fin cfg0.N) : (a2 t).IsWhole := hstage0_0 ((cfg0.slots t 0).cast nbuf0_0)
abbrev a3 (t : Fin cfg0.N) : Memref sig .tc .vmem S1x1024 .f32 := win0_1.stage (cfg0.slots t 1)
abbrev w3 (t : Fin cfg0.N) : (a3 t).IsWhole := hstage0_1 ((cfg0.slots t 1).cast nbuf0_1)
abbrev a4 (t : Fin cfg0.N) : Memref sig .tc .vmem S1024x1024 .bf16 := win0_2.stage (cfg0.slots t 2)
abbrev w4 (t : Fin cfg0.N) : (a4 t).IsWhole := hstage0_2 ((cfg0.slots t 2).cast nbuf0_2)
abbrev a5 (t : Fin cfg0.N) : Memref sig .tc .vmem S2048x1024 .bf16 := win0_3.stage (cfg0.slots t 3)
abbrev w5 (t : Fin cfg0.N) : (a5 t).IsWhole := hstage0_3 ((cfg0.slots t 3).cast nbuf0_3)
abbrev a6 (t : Fin cfg0.N) : Memref sig .tc .vmem S2048x1024 .f32 := win0_4.stage (cfg0.slots t 4)
abbrev w6 (t : Fin cfg0.N) : (a6 t).IsWhole := hstage0_4 ((cfg0.slots t 4).cast nbuf0_4)
abbrev a7 : Memref sig .tc .vmem S2048x1024 .bf16 := Memref.whole cc0_scratch0
abbrev w7 : (a7).IsWhole := Memref.isWhole_whole _

abbrev V5 : View sig .tc .vmem S2048x1024 .bf16 := (Memref.whole cc0_stg3_0 : Memref sig .tc .vmem S2048x1024 .bf16).view
abbrev V6 : View sig .tc .vmem S2048x1024 .f32 := (Memref.whole cc0_stg4_0 : Memref sig .tc .vmem S2048x1024 .f32).view
abbrev V7 : View sig .tc .vmem S2048x1024 .bf16 := (a7).view

variable (m : (ℓ : Loc nD τ sig) → Buf (Elt F) ℓ) (ρ : Dev nD → PrngReg)

/-- The two kinds of point, run at the point's own buffers and blocks. -/
abbrev first (c : Dev nD) (t : Fin cfg0.N) (h : t.val % 2 = 0) :=
  runFirst (F := F) c (grid0.coords t) (a2 t) (w2 t) (a3 t) (w3 t) (a4 t) (w4 t) (a5 t) (w5 t) (a6 t) (w6 t) a7 w7
    ((branch t).1.mpr h) (fun e => by exact (branch t).2.1.mp e) (fun e => by have := (branch t).2.2.mp e; omega)
    (iblk m c 0 t) (iblk m c 1 t) (iblk m c 2 t)

abbrev last (c : Dev nD) (t : Fin cfg0.N) (h : t.val % 2 = 1) (u : Vec F S2048x1024 .bf16) :=
  runLast (F := F) c (grid0.coords t) (a2 t) (w2 t) (a3 t) (w3 t) (a4 t) (w4 t) (a5 t) (w5 t) (a6 t) (w6 t) a7 w7
    (fun e => by have := (branch t).1.mp e; omega) (fun e => by exact (branch t).2.1.mp e) ((branch t).2.2.mpr h)
    (iblk m c 0 t) (iblk m c 1 t) (iblk m c 2 t) u

/-- What each kind of point leaves in the buffers it fills. -/
def firstNarrow (c : Dev nD) (t : Fin cfg0.N) (h : t.val % 2 = 0) : Vec F S2048x1024 .bf16 :=
  V5.read (Elt F) (V5.writes (Elt F) V5.junk
    (runFirst (F := F) c (grid0.coords t) (a2 t) (w2 t) (a3 t) (w3 t) (a4 t) (w4 t) (a5 t) (w5 t) (a6 t) (w6 t) a7 w7
      ((branch t).1.mpr h) (fun e => by exact (branch t).2.1.mp e) (fun e => by have := (branch t).2.2.mp e; omega)
      (iblk m c 0 t) (iblk m c 1 t) (iblk m c 2 t)).1)
def firstScratch (c : Dev nD) (t : Fin cfg0.N) (h : t.val % 2 = 0) : Vec F S2048x1024 .bf16 :=
  V7.read (Elt F) (V7.writes (Elt F) V7.junk
    (runFirst (F := F) c (grid0.coords t) (a2 t) (w2 t) (a3 t) (w3 t) (a4 t) (w4 t) (a5 t) (w5 t) (a6 t) (w6 t) a7 w7
      ((branch t).1.mpr h) (fun e => by exact (branch t).2.1.mp e) (fun e => by have := (branch t).2.2.mp e; omega)
      (iblk m c 0 t) (iblk m c 1 t) (iblk m c 2 t)).2.1)
def lastWide (c : Dev nD) (t : Fin cfg0.N) (h : t.val % 2 = 1) (u : Vec F S2048x1024 .bf16) : Vec F S2048x1024 .f32 :=
  V6.read (Elt F) (V6.writes (Elt F) V6.junk
    (runLast (F := F) c (grid0.coords t) (a2 t) (w2 t) (a3 t) (w3 t) (a4 t) (w4 t) (a5 t) (w5 t) (a6 t) (w6 t) a7 w7
      (fun e => by have := (branch t).1.mp e; omega) (fun e => by exact (branch t).2.1.mp e) ((branch t).2.2.mpr h)
      (iblk m c 0 t) (iblk m c 1 t) (iblk m c 2 t) u).1)

theorem firstNarrow_cover (c : Dev nD) (t : Fin cfg0.N) (h : t.val % 2 = 0) (y : S2048x1024.Idx) :
    ∃ p ∈ (first m c t h).1, y ∈ p.1.set :=
  View.cover_of_tiledL (first m c t h).1 S256x1024.size (by sl_kernel_rfl) y
theorem firstScratch_cover (c : Dev nD) (t : Fin cfg0.N) (h : t.val % 2 = 0) (y : S2048x1024.Idx) :
    ∃ p ∈ (first m c t h).2.1, y ∈ p.1.set :=
  View.cover_of_tiledL (first m c t h).2.1 S256x1024.size (by sl_kernel_rfl) y
theorem lastWide_cover (c : Dev nD) (t : Fin cfg0.N) (h : t.val % 2 = 1) (u) (y : S2048x1024.Idx) :
    ∃ p ∈ (last m c t h u).1, y ∈ p.1.set :=
  View.cover_of_tiledL (last m c t h u).1 S2048x1024.size (by sl_kernel_rfl) y

/-- The narrow result's buffer, the wide one's and the scratch after point `n`. -/
def held (c : Dev nD) : (n : ℕ) → n < cfg0.N → Vec F S2048x1024 .bf16 × Vec F S2048x1024 .f32 × Vec F S2048x1024 .bf16
  | 0, hn => (firstNarrow m c ⟨0, hn⟩ rfl, V6.read (Elt F) V6.junk, firstScratch m c ⟨0, hn⟩ rfl)
  | n + 1, hn =>
    if h : (n + 1) % 2 = 0 then (firstNarrow m c ⟨n + 1, hn⟩ h, V6.read (Elt F) V6.junk, firstScratch m c ⟨n + 1, hn⟩ h)
    else
      ((held c n (Nat.lt_of_succ_lt hn)).1,
        lastWide m c ⟨n + 1, hn⟩ (by show (n + 1) % 2 = 1; omega) (held c n (Nat.lt_of_succ_lt hn)).2.2,
        (held c n (Nat.lt_of_succ_lt hn)).2.2)

theorem before_lt (t : Fin cfg0.N) : t.val - 1 < cfg0.N := lt_of_le_of_lt (Nat.sub_le _ _) t.isLt

theorem held_first (c : Dev nD) (t : Fin cfg0.N) (h : t.val % 2 = 0) :
    held m c t.val t.isLt = (firstNarrow m c t h, V6.read (Elt F) V6.junk, firstScratch m c t h) := by
  obtain ⟨n, hn⟩ := t
  cases n with
  | zero => rfl
  | succ n => exact (dif_pos h).trans rfl

theorem held_last (c : Dev nD) (t : Fin cfg0.N) (h : t.val % 2 = 1) :
    held m c t.val t.isLt = ((held m c (t.val - 1) (before_lt t)).1, lastWide m c t h (held m c (t.val - 1) (before_lt t)).2.2,
      (held m c (t.val - 1) (before_lt t)).2.2) := by
  obtain ⟨n, hn⟩ := t
  dsimp only at h
  cases n with
  | zero => omega
  | succ n => exact (dif_neg (by omega)).trans rfl

/-- The scratch and the generator register before point `n`: anything before the first, afterwards what was left. -/
def inv (c : Dev nD) : (n : ℕ) → n ≤ cfg0.N → sProp 𝕄
  | 0, _ => Pipeline.ΦA spec0 c
  | n + 1, hn => iprop(owns (c : Thread nD τ) a7 fullShare ((held m c n hn).2.2) ∗ (∃ r, prngReg c r))

theorem inv_pos (c : Dev nD) (n : ℕ) (h : n ≤ cfg0.N) (hz : n ≠ 0) :
    inv m c n h = iprop(owns (c : Thread nD τ) a7 fullShare ((held m c (n - 1) (by omega)).2.2) ∗ (∃ r, prngReg c r)) := by
  cases n with
  | zero => exact absurd rfl hz
  | succ n => rfl

theorem any_eq (c : Dev nD) :
    (Pipeline.ΦA spec0 c : sProp 𝕄) = iprop((∃ d, owns (c : Thread nD τ) a7 fullShare d) ∗ (∃ r, prngReg c r)) := by
  unfold Pipeline.ΦA; rw [scopedRest0_eq]; simp only [a7, owns_whole]; rfl

/-- Before any point the scratch is owned at something. -/
theorem inv_any (c : Dev nD) (n : ℕ) (h : n ≤ cfg0.N) :
    inv m c n h ⊢ iprop((∃ d, owns (c : Thread nD τ) a7 fullShare d) ∗ (∃ r, prngReg c r)) := by
  cases n with
  | zero => rw [show inv m c 0 h = Pipeline.ΦA spec0 c from rfl, any_eq]
  | succ n =>
    rw [show inv m c (n + 1) h = iprop(owns (c : Thread nD τ) a7 fullShare ((held m c n h).2.2) ∗ (∃ r, prngReg c r)) from rfl]
    iintro ⟨HS, Hg⟩
    isplitl [HS]; · iexists _; iexact HS
    iexact Hg

/-! ## The pipeline's data and the body's obligation -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (held m c t.val t.isLt).1
    | ⟨4, _⟩ => (held m c t.val t.isLt).2.1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (held m c t.val t.isLt).1 := by dsimp only [dats]
theorem after_4 (c : Dev nD) (t : Fin cfg0.N) : (dats m 0 c).after 4 t = (held m c t.val t.isLt).2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- At the last point of a row block the narrow result's buffer still holds the tile of the point before. -/
theorem before_3 (c : Dev nD) (t : Fin cfg0.N) (h : t.val % 2 = 1) (d) :
    (dats m 0 c).before 3 t d = (held m c (t.val - 1) (before_lt t)).1 := by
  rw [Dat.before_of_pos _ _ _ (by omega) rfl, narrow_stays ⟨t.val - 1, _⟩ (by show (t.val - 1) % 2 = 0; omega),
    if_neg Bool.false_ne_true]
  unfold Dat.left
  rw [narrow_live ⟨t.val - 1, _⟩ (by show (t.val - 1) % 2 ≠ 1; omega)]
  show (dats m 0 c).kept 3 _ d = _
  exact after_3 m c ⟨t.val - 1, before_lt t⟩

def bodyPre (c : Dev nD) (t : Fin cfg0.N) : sProp 𝕄 :=
  iprop((dats m 0 c).Φ t.castSucc ∗ (dats m 0 c).owesAt () t.castSucc
    ∗ (∃ d, owns (c : Thread nD τ) (a2 t) fullShare ((dats m 0 c).before 0 t d))
    ∗ (∃ d, owns (c : Thread nD τ) (a3 t) fullShare ((dats m 0 c).before 1 t d))
    ∗ (∃ d, owns (c : Thread nD τ) (a4 t) fullShare ((dats m 0 c).before 2 t d))
    ∗ (∃ d, owns (c : Thread nD τ) (a5 t) fullShare ((dats m 0 c).before 3 t d))
    ∗ (∃ d, owns (c : Thread nD τ) (a6 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (a2 t) fullShare (iblk m c 0 t)
    ∗ owns (c : Thread nD τ) (a3 t) fullShare (iblk m c 1 t)
    ∗ owns (c : Thread nD τ) (a4 t) fullShare (iblk m c 2 t)
    ∗ (dats m 0 c).leavesExact 3 t
    ∗ (dats m 0 c).leavesExact 4 t)

theorem leaves_3 (c : Dev nD) (t : Fin cfg0.N) :
    (dats m 0 c).leavesExact 3 t = owns (c : Thread nD τ) (a5 t) fullShare (held m c t.val t.isLt).1 := by
  by_cases h : t.val % 2 = 1
  · unfold Dat.leavesExact; rw [(narrow_idle t h).1, (narrow_idle t h).2, after_3]
  · unfold Dat.leavesExact; rw [narrow_live t h, after_3]

set_option maxHeartbeats 4000000 in
theorem sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [leaves_3, show (dats m 0 c).owesAt () t.succ = (dats m 0 c).owesAt () t.castSucc from rfl,
    show (dats m 0 c).Φ t.succ = iprop(owns (c : Thread nD τ) a7 fullShare ((held m c t.val t.isLt).2.2) ∗ (∃ r, prngReg c r)) from rfl,
    show (dats m 0 c).Φ t.castSucc = inv m c t.val (Nat.le_of_lt t.isLt) from rfl]
  by_cases h3 : t.val % 2 = 1
  · rw [show (dats m 0 c).leavesExact 4 t = owns (c : Thread nD τ) (a6 t) fullShare ((dats m 0 c).after 4 t) from by
      unfold Dat.leavesExact; rw [wide_live t h3], after_4, inv_pos m c _ _ (by omega)]
    simp only [before_3 m c t h3]
    rw [held_last m c t h3]
    unfold lastWide
    dsimp only
    iintro ⟨⟨HS, Hg⟩, Ho, ⟨%_, H2⟩, ⟨%_, H3⟩, ⟨%_, H4⟩, ⟨%_, H5⟩, ⟨%_, H6⟩⟩
    iapply ((last m c t h3 _).2 _ _)
    isplitl [H2]; · iexact H2
    isplitl [H3]; · iexact H3
    isplitl [H4]; · iexact H4
    isplitl [H5]; · iexact H5
    isplitl [H6]; · iexists _; iexact H6
    isplitl [HS]; · iexact HS
    iintro ⟨H2, H3, H4, H5, ⟨%e, H6⟩, HS⟩
    isplitl [HS Hg]
    · isplitl [HS]; · iexact HS
      iexact Hg
    isplitl [Ho]; · iexact Ho
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (lastWide_cover m c t h3 _)
  · rw [Dat.leavesExact_idle (dats m 0 c) 4 t (wide_idle t h3).1 (wide_idle t h3).2]
    have h : t.val % 2 = 0 := by omega
    · rw [held_first m c t h]
      unfold firstNarrow firstScratch
      dsimp only
      refine .trans (sep_mono (inv_any m c _ _) .rfl) ?_
      iintro ⟨⟨HS, Hg⟩, Ho, ⟨%_, H2⟩, ⟨%_, H3⟩, ⟨%_, H4⟩, ⟨%_, H5⟩, ⟨%_, H6⟩⟩
      iapply ((first m c t h).2.2 _ _)
      isplitl [H2]; · iexact H2
      isplitl [H3]; · iexact H3
      isplitl [H4]; · iexact H4
      isplitl [H5]; · iexists _; iexact H5
      isplitl [H6]; · iexact H6
      isplitl [HS]; · iexact HS
      iintro ⟨H2, H3, H4, ⟨%e5, H5⟩, H6, ⟨%e7, HS⟩⟩
      isplitl [HS Hg]
      · isplitl [HS]
        · unfold owns; iexists _; isplitr
          swap; · iexact HS
          ipureintro; exact View.read_writes_of_cover _ _ _ _ _ (firstScratch_cover m c t h)
        iexact Hg
      isplitl [Ho]; · iexact Ho
      isplitl [H2]; · iexact H2
      isplitl [H3]; · iexact H3
      isplitl [H4]; · iexact H4
      isplitl [H5]
      · unfold owns; iexists _; isplitr
        swap; · iexact H5
        ipureintro; exact View.read_writes_of_cover _ _ _ _ _ (firstNarrow_cover m c t h)
      iexists _; iexact H6

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

theorem inv_in (c : Dev nD) : Pipeline.ΦA spec0 c ⊢ (dats m 0 c).Φ 0 := .rfl

theorem inv_out (c : Dev nD) : (dats m 0 c).Φ (Fin.last cfg0.N) ⊢ Pipeline.ΦA spec0 c := by
  rw [any_eq]; exact inv_any m c cfg0.N le_rfl

/-! ## The launch -/

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_quiescent m ρ)

/-- The program ends, its arguments as launched and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.NormMmTwoProof

end
-- ==== Proof.NormMmTwoValue.lean ====
/- What one run of the first layer's projection kernel leaves in its two results, read as rows times a matrix. -/
module

public import proofs.«01_k».proof.Proof.NormMmTwoRun
public import proofs.«01_k».proof.Proof.Projection
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section
open Idealize.ShloMosaic Idealize.SL.Sem Idealize.ShloMosaic.TcCoe
open Cert.NormMmTwoIdeal Cert.NormMmTwoIdeal.Gen
open Cert.Rows
namespace Cert.NormMmTwoProof
variable (m : (ℓ : Loc nD τ sig) → Buf (Elt Ideal) ℓ)

/-! ## The buffers, read -/

theorem firstScratch_eq (c : Dev nD) (t : Fin cfg0.N) (h : t.val % 2 = 0) :
    firstScratch m c t h = rmsAll (iblk m c 0 t) (iblk m c 1 t) := by
  funext y
  frame_open
  frame_out
  canon_tiles x h
  all_goals open_payloads
  all_goals pointwise
  all_goals first
    | (rw [tile_index_first y x (by omega) h0 h1]; rfl)
    | (rw [tile_index _ y x (by omega) h0 h1]; rfl)

theorem firstNarrow_eq (c : Dev nD) (t : Fin cfg0.N) (h : t.val % 2 = 0) :
    firstNarrow m c t h = rowsTimes (rmsAll (iblk m c 0 t) (iblk m c 1 t)) (iblk m c 2 t) := by
  funext y
  frame_open
  simp (disch := decide) only [↓ View.readCov_skip, ↓ View.readCov_cons_toLoadRect, ↓ View.readCov_fill]
  frame_out
  canon_tiles x h
  all_goals open_payloads
  all_goals pointwise
  all_goals first
    | (rw [tile_index_first y x (by omega) h0 h1]; rfl)
    | (rw [tile_index _ y x (by omega) h0 h1]; rfl)

theorem lastWide_eq (c : Dev nD) (t : Fin cfg0.N) (h : t.val % 2 = 1) (u : Vec Ideal S2048x1024 .bf16) :
    lastWide m c t h u = rowsTimes u (iblk m c 2 t) := by
  funext y
  frame_open
  frame_out
  open_payloads
  pointwise
  simp only [read_unread_whole]
  rfl

/-! ## The blocks as parts of the arguments -/

theorem idx (t : Fin cfg0.N) :
    win0_0.index t = ![t.val / 2, 0] ∧ win0_1.index t = ![0, 0] ∧ win0_2.index t = ![0, t.val % 2]
      ∧ win0_3.index t = ![t.val / 2, 0] ∧ win0_4.index t = ![t.val / 2, 0] := by
  revert t; decide +kernel

theorem lt_N (t : Fin cfg0.N) : t.val < 32 := lt_of_lt_of_eq t.isLt N_0

theorem blk0 (c : Dev nD) (t : Fin cfg0.N) (q : ℕ) (hq : 2048 * q + 2048 ≤ 32768) (h : t.val / 2 = q) :
    iblk m c 0 t = rowBlock 2048 q hq (m ((c : Thread nD τ).loc main_arg0)) := by
  funext y
  unfold rowBlock
  obtain ⟨e0, e1, e2, e3, e4⟩ := idx t
  blk_point [iblk, V, e0]

theorem blk1 (c : Dev nD) (t : Fin cfg0.N) : iblk m c 1 t = asRow (m ((c : Thread nD τ).loc main_arg1)) := by
  obtain ⟨e0, e1, e2, e3, e4⟩ := idx t
  funext y
  unfold asRow
  blk_point [iblk, V, e1]

theorem blk2 (c : Dev nD) (t : Fin cfg0.N) (s : ℕ) (hs : 1024 * s + 1024 ≤ 2048) (h : t.val % 2 = s) :
    iblk m c 2 t = colsFrom (1024 * s) 1024 hs (m ((c : Thread nD τ).loc main_arg2)) := by
  obtain ⟨e0, e1, e2, e3, e4⟩ := idx t
  funext y
  unfold colsFrom
  blk_point [iblk, V, e2]

/-- The normalised rows of the whole array. -/
abbrev normed (c : Dev nD) : Mat 32768 1024 :=
  rmsAll (m ((c : Thread nD τ).loc main_arg0)) (asRow (m ((c : Thread nD τ).loc main_arg1)))

/-- The product of the whole array. -/
abbrev product (c : Dev nD) : Mat 32768 2048 := rowsTimes (normed m c) (m ((c : Thread nD τ).loc main_arg2))

/-- The two results: the first 1024 columns of the product and the last 1024. -/
abbrev narrow (c : Dev nD) : Mat 32768 1024 := colsTo 1024 (by decide) (product m c)
abbrev wide (c : Dev nD) : Mat 32768 1024 := colsFrom 1024 1024 (by decide) (product m c)

/-- At the first point of a row block the scratch holds its normalised rows and the narrow result's buffer its tile. -/
theorem first_tile (c : Dev nD) (t : Fin cfg0.N) (q : ℕ) (hq : 2048 * q + 2048 ≤ 32768) (ht : t.val / 2 = q) (h : t.val % 2 = 0) :
    (held m c t.val t.isLt).2.2 = rowBlock 2048 q hq (normed m c)
      ∧ (held m c t.val t.isLt).1 = rowBlock 2048 q hq (colsFrom (1024 * 0) 1024 (by decide) (product m c)) := by
  rw [held_first m c t h, ← rowsTimes_tile]
  dsimp only
  rw [firstScratch_eq, firstNarrow_eq, blk0 m c t q hq ht, blk1, blk2 m c t 0 (by decide) h]
  exact ⟨rfl, rfl⟩

/-- At the second the narrow result's buffer still holds that tile, and the wide one's holds the other. -/
theorem last_tile (c : Dev nD) (t : Fin cfg0.N) (q : ℕ) (hq : 2048 * q + 2048 ≤ 32768) (ht : t.val / 2 = q) (h : t.val % 2 = 1) :
    (held m c t.val t.isLt).1 = rowBlock 2048 q hq (colsFrom (1024 * 0) 1024 (by decide) (product m c))
      ∧ (held m c t.val t.isLt).2.1 = rowBlock 2048 q hq (wide m c) := by
  have p := first_tile m c ⟨t.val - 1, before_lt t⟩ q hq (by show (t.val - 1) / 2 = q; omega) (by show (t.val - 1) % 2 = 0; omega)
  rw [held_last m c t h]
  refine ⟨p.2, ?_⟩
  dsimp only
  rw [lastWide_eq, blk2 m c t 1 (by decide) h]
  refine Eq.trans ?_ (rowsTimes_tile 2048 q hq (1024 * 1) 1024 (by decide) (normed m c) _)
  exact congrArg (fun u => rowsTimes u _) p.1

/-! ## The result arrays after the run -/

theorem narrow_eq (c : Dev nD) : (dats m 0 c).arrAt 3 cfg0.N = narrow m c := by
  refine (dats m 0 c).arrAt_eq_of_covers 3 _ (by decide +kernel) fun t hf y => ?_
  obtain ⟨e0, e1, e2, e3, e4⟩ := idx t
  have hq : 2048 * (t.val / 2) + 2048 ≤ 32768 := by have := lt_N t; omega
  have tile : (held m c t.val t.isLt).1 = rowBlock 2048 (t.val / 2) hq (colsFrom (1024 * 0) 1024 (by decide) (product m c)) := by
    rcases Nat.mod_two_eq_zero_or_one t.val with h | h
    · exact (first_tile m c t _ hq rfl h).2
    · exact (last_tile m c t _ hq rfl h).1
  blk_simp [e3]
  rw [after_3, tile]
  unfold rowBlock narrow colsTo colsFrom
  refine congrArg (product m c) ?_
  blk_ext [e3]

theorem wide_eq (c : Dev nD) : (dats m 0 c).arrAt 4 cfg0.N = wide m c := by
  refine (dats m 0 c).arrAt_eq_of_covers 4 _ (by decide +kernel) fun t hf y => ?_
  obtain ⟨e0, e1, e2, e3, e4⟩ := idx t
  have hm : t.val % 2 = 1 := by
    by_contra h
    exact absurd hf (by rw [(wide_idle t h).2]; decide)
  blk_simp [e4]
  rw [after_4, (last_tile m c t (t.val / 2) (by have := lt_N t; omega) rfl hm).2]
  unfold rowBlock wide colsFrom
  refine congrArg (product m c) ?_
  blk_ext [e4]

/-- The run, with the two results and the arguments. -/
theorem run_blocks (ρ : Dev nD → PrngReg) : θ_run defs (onTc (τ := τ) (main (F := Ideal))) ⟨m, fun _ => 0, ρ⟩ (fun r => ∀ c : Dev nD,
      r.2.mem ((c.tc : Thread nD τ).loc main_v2_0) = narrow m c
      ∧ r.2.mem ((c.tc : Thread nD τ).loc main_v2_1) = wide m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (narrow_eq m c), ((h.1 c).1 4).trans (wide_eq m c), h.2.1 c⟩)
    (θ_run_and (run_main m ρ) (frame m ρ))

end Cert.NormMmTwoProof
-- ==== Proof.NormMmTwoClaim.lean ====
/- The first layer's projection kernel: its frames, and its two results against its reference's over the extended reals. -/
module

public import proofs.«01_k».proof.Defs
public import proofs.«01_k».proof.Proof.NormMmTwoValue
public import proofs.«01_k».proof.Proof.Gen.NormMmTwo.Frame
public import proofs.«01_k».proof.Proof.Gen.NormMmTwo.Skeleton
public import proofs.«01_k».proof.Proof.Gen.NormMmTwoRefIdeal.Run
public import Idealize.ShloMosaic.Lib.Claim

@[expose] public section

set_option maxRecDepth 16384

noncomputable section
open Idealize.ShloMosaic Idealize.SL.Sem Idealize.ShloMosaic.TcCoe
open Cert.Rows
namespace Cert.NormMmTwoProof

/-! The kernel as it is read at the bits' floats is the same text as the one read over the extended reals, so `frame`, which
holds for any float values, is its frame as well. -/

section Same

variable {F : FTy → Type} [FloatOps F]

theorem bodies_same : @Cert.NormMmTwo.defs₀ F _ _ = @Cert.NormMmTwoIdeal.defs₀ F _ _ := by
  unfold Cert.NormMmTwo.defs₀ Cert.NormMmTwoIdeal.defs₀
  refine congrArg Defs.onTc ?_
  funext l a
  match l, a with
  | 0, (t, s) => rfl
  | ⟨_ + 1, h⟩, _ => exact absurd h (Nat.not_lt.2 (Nat.le_add_left _ _))

theorem defs_same : @Cert.NormMmTwo.defs F _ _ = @Cert.NormMmTwoIdeal.defs F _ _ :=
  congrArg (Pipeline.defs Cert.NormMmTwo.pcfgs) bodies_same

end Same

theorem frame_bits : Cert.quiescent_NormMmTwo (hNormMmTwo := Cert.NormMmTwo.Gen.facts) := by
  intro m ρ _
  rw [defs_same]
  exact frame (F := Bits) m ρ

theorem frame_ideal : Cert.quiescent_NormMmTwoIdeal (hNormMmTwoIdeal := Cert.NormMmTwoIdeal.Gen.facts) := fun m ρ _ => frame (F := Ideal) m ρ

theorem frame_ref : Cert.quiescent_NormMmTwoRefIdeal (hNormMmTwoRefIdeal := Cert.NormMmTwoRefIdeal.Gen.facts) := fun m ρ _ =>
  (θ_run _ _ _).mono (fun r h => ⟨fun c => (h c).2.2, sem_eq_zero_of_no_sems (by decide) r.2⟩) (Cert.NormMmTwoRefIdeal.Value.run m ρ)

/-- Both programs run, keep their arguments and end with the same two arrays. -/
theorem alg : Cert.algebraic_NormMmTwoIdeal_NormMmTwoRefIdeal (hNormMmTwoIdeal := Cert.NormMmTwoIdeal.Gen.facts) (hNormMmTwoRefIdeal := Cert.NormMmTwoRefIdeal.Gen.facts) := by
  pair_intro
  · run_from run_blocks m g
  · run_from Cert.NormMmTwoRefIdeal.Value.run (F := Ideal) m' g'
    all_goals funext i
    all_goals pointwise
    all_goals rfl

end Cert.NormMmTwoProof
-- ==== Proof.CmpValue.lean ====
module

public import proofs.«01_k».proof.Proof.Rows
public import proofs.«01_k».proof.Proof.Gen.CmpIdeal.Value
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.PureOps.Ideal.Laws

@[expose] public section

set_option maxRecDepth 16384

noncomputable section
open Idealize.ShloMosaic Idealize.SL.Sem Idealize.ShloMosaic.TcCoe
open Cert.CmpIdeal Cert.CmpIdeal.Gen
open Cert.Rows
namespace Cert.CmpProof

/-! ## What the kernel computes -/

def act (x : EReal) : EReal := x * Ideal.logistic x

/-- A block's hidden layer before its activation: the block's first half at row `r` of `T`, its second half at row `r + 1`;
the last row has no second half. -/
def hid (T : Fin 256 → Fin 1024 → EReal) (p : Fin 2048 → EReal) (w : Fin 2048 → Fin 256 → EReal) (r j : Fin 256) : EReal :=
  (∑ k : Fin 1024, (T r k + p ⟨k.val, by omega⟩) * w ⟨k.val, by omega⟩ j)
    + if h : r.val < 255 then ∑ k : Fin 1024, (T ⟨r.val + 1, by omega⟩ k + p ⟨1024 + k.val, by omega⟩) * w ⟨1024 + k.val, by omega⟩ j
      else 0

/-- A compressed block: its hidden layer through the second product. -/
def comp (T : Fin 256 → Fin 1024 → EReal) (p : Fin 2048 → EReal) (w : Fin 2048 → Fin 256 → EReal) (v : Fin 256 → Fin 64 → EReal)
    (r : Fin 256) (e : Fin 64) : EReal :=
  ∑ j : Fin 256, act (hid T p w r j) * v j e

/-- A row's quarter turn in its first sixteen lanes. -/
def turned (x : Fin 64 → EReal) (l : Fin 64) : EReal :=
  if h : l.val < 8 then -(x ⟨l.val + 8, by omega⟩)
  else if l.val < 16 then x ⟨l.val - 8, by omega⟩ else 0

/-- A row turned lane by lane by the angles `ang`. -/
def rot (x ang : Fin 64 → EReal) (l : Fin 64) : EReal := x l * Ideal.cos (ang l) + turned x l * Ideal.sin (ang l)

/-! ## The body's reading -/

theorem last_row (r : Fin 256) :
    IntOp.cmpi .eq (BitVec.ofNat 32 r.val) 255#32 = if r.val < 255 then 0#1 else 1#1 := by
  revert r; decide +kernel

theorem later (S : Fin 256 → EReal) (r : Fin 256) (h : (r.val + 256 - 255) % 256 < 256) :
    Scalar.select (IntOp.cmpi .eq (BitVec.ofNat 32 r.val) 255#32) 0 (S ⟨(r.val + 256 - 255) % 256, h⟩)
      = if h : r.val < 255 then S ⟨r.val + 1, by omega⟩ else 0 := by
  rw [last_row]
  by_cases hr : r.val < 255
  · rw [if_pos hr, dif_pos hr]
    have e : (⟨(r.val + 256 - 255) % 256, h⟩ : Fin 256) = ⟨r.val + 1, by omega⟩ := Fin.ext (by simp only; omega)
    rw [e]; rfl
  · rw [if_neg hr, dif_neg hr]; rfl

theorem hid_read (T : Fin 256 → Fin 1024 → EReal) (p : Fin 2048 → EReal) (w : Fin 2048 → Fin 256 → EReal) (r j : Fin 256)
    (h : (r.val + 256 - 255) % 256 < 256) :
    (∑ k : Fin 1024, (T r k + p ⟨k.val, by omega⟩) * w ⟨k.val, by omega⟩ j)
      + Scalar.select (IntOp.cmpi .eq (BitVec.ofNat 32 r.val) 255#32) 0
          (∑ k : Fin 1024, (T ⟨(r.val + 256 - 255) % 256, h⟩ k + p ⟨1024 + k.val, by omega⟩) * w ⟨1024 + k.val, by omega⟩ j)
      = hid T p w r j := by
  unfold hid
  exact congrArg _ (later (fun q => ∑ k : Fin 1024, (T q k + p ⟨1024 + k.val, by omega⟩) * w ⟨1024 + k.val, by omega⟩ j) r h)

theorem comp_read (T : Fin 256 → Fin 1024 → EReal) (p : Fin 2048 → EReal) (w : Fin 2048 → Fin 256 → EReal) (v : Fin 256 → Fin 64 → EReal)
    (r : Fin 256) (e : Fin 64) (h : (r.val + 256 - 255) % 256 < 256) :
    (∑ j : Fin 256, (fun H => H * Ideal.logistic H)
      ((∑ k : Fin 1024, (T r k + p ⟨k.val, by omega⟩) * w ⟨k.val, by omega⟩ j)
      + Scalar.select (IntOp.cmpi .eq (BitVec.ofNat 32 r.val) 255#32) 0
          (∑ k : Fin 1024, (T ⟨(r.val + 256 - 255) % 256, h⟩ k + p ⟨1024 + k.val, by omega⟩) * w ⟨1024 + k.val, by omega⟩ j)) * v j e)
      = comp T p w v r e := by
  unfold comp
  refine Finset.sum_congr rfl fun j _ => ?_
  rw [hid_read]; rfl

theorem comp_read_swapped (T : Fin 256 → Fin 1024 → EReal) (p : Fin 2048 → EReal) (w : Fin 2048 → Fin 256 → EReal) (v : Fin 256 → Fin 64 → EReal)
    (r : Fin 256) (e : Fin 64) (h : (r.val + 256 - 255) % 256 < 256) :
    (∑ j : Fin 256, v j e * (fun H => H * Ideal.logistic H)
      ((∑ k : Fin 1024, (T r k + p ⟨k.val, by omega⟩) * w ⟨k.val, by omega⟩ j)
      + Scalar.select (IntOp.cmpi .eq (BitVec.ofNat 32 r.val) 255#32) 0
          (∑ k : Fin 1024, (T ⟨(r.val + 256 - 255) % 256, h⟩ k + p ⟨1024 + k.val, by omega⟩) * w ⟨1024 + k.val, by omega⟩ j)))
      = comp T p w v r e := by
  unfold comp
  refine Finset.sum_congr rfl fun j _ => ?_
  rw [hid_read, mul_comm]; rfl

/-! ### The turn of both groups' rows at once, on 128 lanes -/

theorem neg_one_f32 : Ideal.ofBits .f32 3212836864#32 = -1 := by
  have h : Ideal.ofBits .f32 0xBF800000#32 = ((-(1 : ℝ)) : EReal) := by
    simp [Ideal.ofBits, Ideal.ieee, -EReal.coe_mul, -EReal.coe_neg]; norm_num
  rw [show (3212836864#32) = 0xBF800000#32 from rfl, h]; rfl

theorem lane_first (n : Fin 128) :
    IntOp.cmpi .slt (Scalar.select (IntOp.andi (IntOp.xori (IntOp.cmpi .slt (IntOp.remsi .vector (BitVec.ofNat 32 n.val) 64#32) 0#32) (Scalar.cmpi .slt 64#32 0#32)) (IntOp.cmpi .ne (IntOp.remsi .vector (BitVec.ofNat 32 n.val) 64#32) 0#32))
      (IntOp.addi (IntOp.remsi .vector (BitVec.ofNat 32 n.val) 64#32) 64#32) (IntOp.remsi .vector (BitVec.ofNat 32 n.val) 64#32)) 8#32
      = if n.val % 64 < 8 then 1#1 else 0#1 := by
  revert n; decide +kernel

theorem lane_second (n : Fin 128) :
    IntOp.andi (IntOp.cmpi .sge (Scalar.select (IntOp.andi (IntOp.xori (IntOp.cmpi .slt (IntOp.remsi .vector (BitVec.ofNat 32 n.val) 64#32) 0#32) (Scalar.cmpi .slt 64#32 0#32)) (IntOp.cmpi .ne (IntOp.remsi .vector (BitVec.ofNat 32 n.val) 64#32) 0#32))
      (IntOp.addi (IntOp.remsi .vector (BitVec.ofNat 32 n.val) 64#32) 64#32) (IntOp.remsi .vector (BitVec.ofNat 32 n.val) 64#32)) 8#32)
      (IntOp.cmpi .slt (Scalar.select (IntOp.andi (IntOp.xori (IntOp.cmpi .slt (IntOp.remsi .vector (BitVec.ofNat 32 n.val) 64#32) 0#32) (Scalar.cmpi .slt 64#32 0#32)) (IntOp.cmpi .ne (IntOp.remsi .vector (BitVec.ofNat 32 n.val) 64#32) 0#32))
      (IntOp.addi (IntOp.remsi .vector (BitVec.ofNat 32 n.val) 64#32) 64#32) (IntOp.remsi .vector (BitVec.ofNat 32 n.val) 64#32)) 16#32)
      = if 8 ≤ n.val % 64 ∧ n.val % 64 < 16 then 1#1 else 0#1 := by
  revert n; decide +kernel

/-- 128 lanes of two rows. -/
def both (a b : Fin 64 → EReal) (n : ℕ) (h : n < 128) : EReal := if h' : n < 64 then a ⟨n, h'⟩ else b ⟨n - 64, by omega⟩

set_option maxHeartbeats 2000000 in
theorem both_turned (a b : Fin 64 → EReal) (n : Fin 128) (h1 : (n.val + 128 - 120) % 128 < 128) (h2 : (n.val + 128 - 8) % 128 < 128) :
    Scalar.select (if n.val % 64 < 8 then 1#1 else 0#1) (both a b ((n.val + 128 - 120) % 128) h1 * -1) 0
      + Scalar.select (if 8 ≤ n.val % 64 ∧ n.val % 64 < 16 then 1#1 else 0#1) (both a b ((n.val + 128 - 8) % 128) h2) 0
      = both (turned a) (turned b) n.val n.isLt := by
  have s1 : ∀ x y : EReal, Scalar.select 1#1 x y = x := fun _ _ => rfl
  have s0 : ∀ x y : EReal, Scalar.select 0#1 x y = y := fun _ _ => rfl
  obtain ⟨n, hn⟩ := n
  simp only at h1 h2 ⊢
  have cg : ∀ (x : Fin 64 → EReal) (i j : ℕ) (hi : i < 64) (hj : j < 64), i = j → x ⟨i, hi⟩ = x ⟨j, hj⟩ := by
    intro x i j hi hj e; subst e; rfl
  by_cases c1 : n % 64 < 8
  · have c2 : ¬ (8 ≤ n % 64 ∧ n % 64 < 16) := by omega
    rw [if_pos c1, if_neg c2, s1, s0, add_zero, mul_neg, mul_one]
    unfold both turned
    by_cases h : n < 64
    · rw [dif_pos (show (n + 128 - 120) % 128 < 64 by omega), dif_pos h, dif_pos (show n < 8 by omega)]
      refine congrArg Neg.neg (cg a _ _ _ _ ?_); dsimp only; omega
    · rw [dif_neg (show ¬ (n + 128 - 120) % 128 < 64 by omega), dif_neg h, dif_pos (show n - 64 < 8 by omega)]
      refine congrArg Neg.neg (cg b _ _ _ _ ?_); dsimp only; omega
  · by_cases c2 : n % 64 < 16
    · rw [if_neg c1, if_pos ⟨by omega, c2⟩, s1, s0, zero_add]
      unfold both turned
      by_cases h : n < 64
      · rw [dif_pos (show (n + 128 - 8) % 128 < 64 by omega), dif_pos h, dif_neg (show ¬ n < 8 by omega), if_pos (show n < 16 by omega)]
        refine cg a _ _ _ _ ?_; dsimp only; omega
      · rw [dif_neg (show ¬ (n + 128 - 8) % 128 < 64 by omega), dif_neg h, dif_neg (show ¬ n - 64 < 8 by omega),
          if_pos (show n - 64 < 16 by omega)]
        refine cg b _ _ _ _ ?_; dsimp only; omega
    · rw [if_neg c1, if_neg (fun h => c2 h.2), s0, s0, zero_add]
      unfold both turned
      by_cases h : n < 64
      · rw [dif_pos h, dif_neg (show ¬ n < 8 by omega), if_neg (show ¬ n < 16 by omega)]
      · rw [dif_neg h, dif_neg (show ¬ n - 64 < 8 by omega), if_neg (show ¬ n - 64 < 16 by omega)]

set_option maxHeartbeats 4000000 in
theorem turn_apply (a b : FVec Ideal S256x64 .f32) (ang : FVec Ideal S256x128 .f32) (s : BitVec 32) (hs : s = 64#32)
    (r : Fin 256) (n : Fin 128) :
    k0_pay7 a b ang (iota .tc S1x128 32 [1] iota_S1x128_d1_w32) s (ix2 r n)
      = both (fun l => a (ix2 r l)) (fun l => b (ix2 r l)) n.val n.isLt * Ideal.cos (ang (ix2 r n))
        + both (turned fun l => a (ix2 r l)) (turned fun l => b (ix2 r l)) n.val n.isLt * Ideal.sin (ang (ix2 r n)) := by
  subst hs
  unfold k0_pay7
  pointwise
  rw [lane_first n, lane_second n, neg_one_f32]
  refine congrArg₂ (· + ·) rfl (congrArg (· * Ideal.sin (ang (ix2 r n))) ?_)
  exact both_turned (fun l => a (ix2 r l)) (fun l => b (ix2 r l)) n (Nat.mod_lt _ (by decide)) (Nat.mod_lt _ (by decide))

theorem both_left (a b : Fin 64 → EReal) (e : Fin 64) (h : e.val < 128) : both a b e.val h = a e := by
  unfold both; rw [dif_pos e.isLt]

theorem both_right (a b : Fin 64 → EReal) (e : Fin 64) (h : 64 + e.val < 128) : both a b (64 + e.val) h = b e := by
  unfold both; rw [dif_neg (by omega)]
  exact congrArg b (Fin.ext (by dsimp only; omega))

/-- The first group's lanes. -/
theorem turn_left (a b : FVec Ideal S256x64 .f32) (ang : FVec Ideal S256x128 .f32) (s : BitVec 32) (hs : s = 64#32)
    (r : Fin 256) (e : Fin 64) :
    k0_pay7 a b ang (iota .tc S1x128 32 [1] iota_S1x128_d1_w32) s (ix2 r ⟨e.val, by omega⟩)
      = rot (fun l => a (ix2 r l)) (fun l => ang (ix2 r ⟨l.val, by omega⟩)) e := by
  refine (turn_apply a b ang s hs r ⟨e.val, by omega⟩).trans ?_
  show both _ _ e.val _ * _ + both _ _ e.val _ * _ = _
  rw [both_left, both_left]; rfl

/-- The second group's lanes. -/
theorem turn_right (a b : FVec Ideal S256x64 .f32) (ang : FVec Ideal S256x128 .f32) (s : BitVec 32) (hs : s = 64#32)
    (r : Fin 256) (e : Fin 64) :
    k0_pay7 a b ang (iota .tc S1x128 32 [1] iota_S1x128_d1_w32) s (ix2 r ⟨64 + e.val, by omega⟩)
      = rot (fun l => b (ix2 r l)) (fun l => ang (ix2 r ⟨64 + l.val, by omega⟩)) e := by
  refine (turn_apply a b ang s hs r ⟨64 + e.val, by omega⟩).trans ?_
  show both _ _ (64 + e.val) _ * _ + both _ _ (64 + e.val) _ * _ = _
  rw [both_right, both_right]; rfl

/-! ### The two results' tiles -/

section Tiles

variable (x0 x1 : Vec Ideal S1x2x256x1024 .f32) (x2 x5 : Vec Ideal S1x2048 .f32) (x3 x6 : Vec Ideal S2048x256 .bf16)
  (x4 : Vec Ideal S256x64 .bf16) (x7 : Vec Ideal S64x256 .bf16) (x8 : Vec Ideal S1x256x1 .f32) (x9 : Vec Ideal S1x128 .f32)

/-- A group's compressed rows out of the point's blocks. -/
def rowsOf (x : Vec Ideal S1x2x256x1024 .f32) (p : Vec Ideal S1x2048 .f32) (w : Vec Ideal S2048x256 .bf16) (v : Fin 256 → Fin 64 → EReal)
    (g : Fin 2) (r : Fin 256) (e : Fin 64) : EReal :=
  comp (fun q k => x (ix4 0 g q k)) (fun k => p (ix2 0 k)) (fun k j => w (ix2 k j)) v r e

def keyTile (g : Fin 2) (r : Fin 256) (e : Fin 64) : EReal :=
  rot (fun l => rowsOf x0 x2 x3 (fun j e => x4 (ix2 j e)) g r l)
    (fun l => x8 (ix3 0 r 0) * x9 (ix2 0 ⟨64 * g.val + l.val, by omega⟩)) e

def valueTile (g : Fin 2) (e : Fin 64) (r : Fin 256) : EReal := rowsOf x1 x5 x6 (fun j e => x7 (ix2 e j)) g r e

set_option maxHeartbeats 4000000 in
theorem keys_left (r : Fin 256) (e : Fin 64) :
    k0_pay3 (View.ld x0 r0_0) (View.ld x2 r0_1) (View.ld x3 r0_2) (View.ld x2 r0_3) (View.ld x3 r0_4) (View.ld x4 r0_5) (ix2 r e)
      = rowsOf x0 x2 x3 (fun j e => x4 (ix2 j e)) 0 r e := by
  unfold k0_pay3 k0_pay2
  pointwise
  exact comp_read (fun q k => x0 (ix4 0 0 q k)) (fun k => x2 (ix2 0 k)) (fun k j => x3 (ix2 k j)) (fun j e => x4 (ix2 j e)) r e
    (Nat.mod_lt _ (by decide))

set_option maxHeartbeats 4000000 in
theorem keys_right (r : Fin 256) (e : Fin 64) :
    k0_pay5 k0_pay2 (k0_pay4 (View.ld x0 r0_6)) (View.ld x2 r0_1) (View.ld x3 r0_2) (View.ld x2 r0_3) (View.ld x3 r0_4)
        (View.ld x4 r0_5) (ix2 r e)
      = rowsOf x0 x2 x3 (fun j e => x4 (ix2 j e)) 1 r e := by
  unfold k0_pay5 k0_pay4 k0_pay2
  pointwise
  exact comp_read (fun q k => x0 (ix4 0 1 q k)) (fun k => x2 (ix2 0 k)) (fun k j => x3 (ix2 k j)) (fun j e => x4 (ix2 j e)) r e
    (Nat.mod_lt _ (by decide))

set_option maxHeartbeats 4000000 in
theorem values_left (x : S1x1x64x256.Idx) :
    k0_pay10 k0_pay2 (View.ld x7 r0_10) (View.ld x1 r0_0) (View.ld x5 r0_1) (View.ld x6 r0_2) (View.ld x5 r0_3) (View.ld x6 r0_4) x
      = valueTile x1 x5 x6 x7 0 (x 2) (x 3) := by
  unfold k0_pay10 k0_pay2
  pointwise
  exact comp_read_swapped (fun q k => x1 (ix4 0 0 q k)) (fun k => x5 (ix2 0 k)) (fun k j => x6 (ix2 k j)) (fun j e => x7 (ix2 e j)) (x 3) (x 2)
    (Nat.mod_lt _ (by decide))

set_option maxHeartbeats 4000000 in
theorem values_right (x : S1x1x64x256.Idx) :
    k0_pay1 (k0_pay12 k0_pay2 (View.ld x7 r0_10) (View.ld x1 r0_6) (View.ld x5 r0_1) (View.ld x6 r0_2) (View.ld x5 r0_3) (View.ld x6 r0_4)) x
      = valueTile x1 x5 x6 x7 1 (x 2) (x 3) := by
  unfold k0_pay1 k0_pay12 k0_pay2
  pointwise
  exact comp_read_swapped (fun q k => x1 (ix4 0 1 q k)) (fun k => x5 (ix2 0 k)) (fun k j => x6 (ix2 k j)) (fun j e => x7 (ix2 e j)) (x 3) (x 2)
    (Nat.mod_lt _ (by decide))

theorem angle_apply (r : Fin 256) (n : Fin 128) :
    k0_pay6 (View.ld x8 r0_7) (View.ld x9 r0_8) (ix2 r n) = x8 (ix3 0 r 0) * x9 (ix2 0 n) := by
  unfold k0_pay6
  pointwise

theorem store_right (v : FVec Ideal S256x128 .f32) (x : S1x1x256x64.Idx) :
    k0_pay11 v x = v (ix2 (x 2) ⟨64 + (x 3).val, by have : (x 3).val < 64 := (x 3).isLt; omega⟩) := by
  unfold k0_pay11
  pointwise

theorem store_left (a b : FVec Ideal S256x64 .f32) (ang : FVec Ideal S256x128 .f32) (i : IVec S1x128 32) (s : BitVec 32) (x : S1x1x256x64.Idx) :
    k0_pay9 (k0_pay8 a b ang i s) x
      = k0_pay7 a b ang i s (ix2 (x 2) ⟨(x 3).val, by have : (x 3).val < 64 := (x 3).isLt; omega⟩) := by
  unfold k0_pay9 k0_pay8
  generalize k0_pay7 a b ang i s = v
  pointwise

theorem at_coords {n0 n1 n2 : ℕ} (f : Fin n0 → Fin n1 → Fin n2 → EReal) {g g' : Fin n0} {r r' : Fin n1} {e e' : Fin n2}
    (hg : g.val = g'.val) (hr : r.val = r'.val) (he : e.val = e'.val) : f g r e = f g' r' e' := by
  rw [Fin.ext hg, Fin.ext hr, Fin.ext he]

set_option maxHeartbeats 4000000 in
theorem out_keys : out0_10 x0 x1 x2 x3 x4 x5 x6 x7 x8 x9 = fun y => keyTile x0 x2 x3 x4 x8 x9 (y 1) (y 2) (y 3) := by
  unfold_out out0_10
  funext y
  canon_tiles x h
  · refine ((store_right _ x).trans (turn_right _ _ _ _ rfl (x 2) (x 3))).trans ?_
    refine Eq.trans ?_ (at_coords (keyTile x0 x2 x3 x4 x8 x9) (g := 1) (g' := y 1) (r := x 2) (r' := y 2) (e := x 3) (e' := y 3)
      (by show 1 = (y 1).val; omega) h2.symm h3.symm)
    unfold keyTile
    exact congrArg₂ (fun a b => rot a b (x 3)) (funext fun l => keys_right x0 x2 x3 x4 (x 2) l)
      (funext fun l => angle_apply x8 x9 (x 2) ⟨64 + l.val, by omega⟩)
  · refine ((store_left _ _ _ _ _ x).trans (turn_left _ _ _ _ rfl (x 2) (x 3))).trans ?_
    refine Eq.trans ?_ (at_coords (keyTile x0 x2 x3 x4 x8 x9) (g := 0) (g' := y 1) (r := x 2) (r' := y 2) (e := x 3) (e' := y 3)
      (by show 0 = (y 1).val; omega) h2.symm h3.symm)
    unfold keyTile
    refine congrArg₂ (fun a b => rot a b (x 3)) (funext fun l => keys_left x0 x2 x3 x4 (x 2) l)
      (funext fun l => (angle_apply x8 x9 (x 2) ⟨l.val, by omega⟩).trans ?_)
    exact congrArg (fun n => x8 (ix3 0 (x 2) 0) * x9 (ix2 0 n)) (Fin.ext (by simp))

set_option maxHeartbeats 4000000 in
theorem out_values : out0_11 x0 x1 x2 x3 x4 x5 x6 x7 x8 x9 = fun y => valueTile x1 x5 x6 x7 (y 1) (y 2) (y 3) := by
  unfold_out out0_11
  funext y
  canon_tiles x h
  · exact (values_right x1 x5 x6 x7 x).trans (at_coords (valueTile x1 x5 x6 x7) (g := 1) (g' := y 1) (r := x 2) (r' := y 2) (e := x 3) (e' := y 3)
      (by show 1 = (y 1).val; omega) h2.symm h3.symm)
  · exact (values_left x1 x5 x6 x7 x).trans (at_coords (valueTile x1 x5 x6 x7) (g := 0) (g' := y 1) (r := x 2) (r' := y 2) (e := x 3) (e' := y 3)
      (by show 0 = (y 1).val; omega) h2.symm h3.symm)

end Tiles

/-! ## The kernel's blocks, and its arrays -/

variable (m : (ℓ : Loc nD τ sig) → Buf (Elt Ideal) ℓ)
theorem idx (t : Fin cfg0.N) :
    (win0_0.index t = ![t.val, 0, 0, 0] ∧ win0_1.index t = ![t.val, 0, 0, 0] ∧ win0_2.index t = ![0, 0] ∧ win0_3.index t = ![0, 0]
      ∧ win0_4.index t = ![0, 0]) ∧ win0_5.index t = ![0, 0] ∧ win0_6.index t = ![0, 0]
      ∧ win0_7.index t = ![0, 0] ∧ win0_8.index t = ![t.val, 0, 0] ∧ win0_9.index t = ![0, 0]
      ∧ win0_10.index t = ![t.val, 0, 0, 0] ∧ win0_11.index t = ![t.val, 0, 0, 0] := by
  revert t; decide +kernel

/-- The sixteen rows from `16 r` on, one after another. -/
def flat (X : Vec Ideal S8x2x4096x64 .f32) (t : Fin 8) (g : Fin 2) (r : Fin 256) (k : Fin 1024) : EReal :=
  X (ix4 t g ⟨16 * r.val + k.val / 64, by omega⟩ ⟨k.val % 64, by omega⟩)
/-- The blocks' 32 offsets, one after another. -/
def offs (P : Mat 32 64) (k : Fin 2048) : EReal := P (ix2 ⟨k.val / 64, by omega⟩ ⟨k.val % 64, by omega⟩)
/-- The position a block's key is turned to: its last one's. -/
def ends (P : Vec Ideal S8x4096 .i32) (q : Fin 8) (r : Fin 256) : EReal :=
  FloatOps.sitofp (F := Ideal) FTy.f32 (P (ix2 q ⟨if r.val < 255 then 31 + 16 * r.val else 4095, by split <;> omega⟩))

set_option maxHeartbeats 4000000 in
theorem blk0 (c : Dev nD) (t : Fin cfg0.N) (q : Fin 8) (hq : t.val = q.val) (g : Fin 2) (r : Fin 256) (k : Fin 1024) :
    iblk m c 0 t (ix4 0 g r k) = flat (m ((c : Thread nD τ).loc main_arg0)) q g r k := by
  obtain ⟨⟨e0, e1, e2, e3, e4⟩, e5, e6, e7, e8, e9, e10⟩ := idx t
  unfold flat
  blk_point [iblk, V, e0]
set_option maxHeartbeats 4000000 in
theorem blk2 (c : Dev nD) (t : Fin cfg0.N) (k : Fin 2048) :
    iblk m c 2 t (ix2 0 k) = offs (m ((c : Thread nD τ).loc main_arg2)) k := by
  obtain ⟨⟨e0, e1, e2, e3, e4⟩, e5, e6, e7, e8, e9, e10⟩ := idx t
  unfold offs
  blk_point [iblk, V, e2]
set_option maxHeartbeats 4000000 in
theorem blk3 (c : Dev nD) (t : Fin cfg0.N) :
    iblk m c 3 t = m ((c : Thread nD τ).loc main_arg3) := by
  obtain ⟨⟨e0, e1, e2, e3, e4⟩, e5, e6, e7, e8, e9, e10⟩ := idx t
  funext y
  blk_point [iblk, V, e3]
set_option maxHeartbeats 4000000 in
theorem blk4 (c : Dev nD) (t : Fin cfg0.N) :
    iblk m c 4 t = m ((c : Thread nD τ).loc main_arg4) := by
  obtain ⟨⟨e0, e1, e2, e3, e4⟩, e5, e6, e7, e8, e9, e10⟩ := idx t
  funext y
  blk_point [iblk, V, e4]
set_option maxHeartbeats 4000000 in
theorem blk7 (c : Dev nD) (t : Fin cfg0.N) (e : Fin 64) (j : Fin 256) :
    iblk m c 7 t (ix2 e j) = m ((c : Thread nD τ).loc main_arg7) (ix2 j e) := by
  obtain ⟨⟨e0, e1, e2, e3, e4⟩, e5, e6, e7, e8, e9, e10⟩ := idx t
  blk_point [iblk, V, e7]
set_option maxHeartbeats 4000000 in
theorem blk9 (c : Dev nD) (t : Fin cfg0.N) :
    iblk m c 9 t = m ((c : Thread nD τ).loc main_arg9) := by
  obtain ⟨⟨e0, e1, e2, e3, e4⟩, e5, e6, e7, e8, e9, e10⟩ := idx t
  funext y
  blk_point [iblk, V, e9]
set_option maxHeartbeats 4000000 in
theorem blk1 (c : Dev nD) (t : Fin cfg0.N) (q : Fin 8) (hq : t.val = q.val) (g : Fin 2) (r : Fin 256) (k : Fin 1024) :
    iblk m c 1 t (ix4 0 g r k) = flat (m ((c : Thread nD τ).loc main_arg1)) q g r k := by
  obtain ⟨⟨e0, e1, e2, e3, e4⟩, e5, e6, e7, e8, e9, e10⟩ := idx t
  unfold flat
  blk_point [iblk, V, e1]
set_option maxHeartbeats 4000000 in
theorem blk5 (c : Dev nD) (t : Fin cfg0.N) (k : Fin 2048) :
    iblk m c 5 t (ix2 0 k) = offs (m ((c : Thread nD τ).loc main_arg5)) k := by
  obtain ⟨⟨e0, e1, e2, e3, e4⟩, e5, e6, e7, e8, e9, e10⟩ := idx t
  unfold offs
  blk_point [iblk, V, e5]
set_option maxHeartbeats 4000000 in
theorem blk6 (c : Dev nD) (t : Fin cfg0.N) :
    iblk m c 6 t = m ((c : Thread nD τ).loc main_arg6) := by
  obtain ⟨⟨e0, e1, e2, e3, e4⟩, e5, e6, e7, e8, e9, e10⟩ := idx t
  funext y
  blk_point [iblk, V, e6]

set_option maxHeartbeats 4000000 in
theorem blk8 (c : Dev nD) (t : Fin cfg0.N) (q : Fin 8) (hq : t.val = q.val) (r : Fin 256) :
    iblk m c 8 t (ix3 0 r 0) = ends (m ((c : Thread nD τ).loc main_arg8)) q r := by
  obtain ⟨⟨e0, e1, e2, e3, e4⟩, e5, e6, e7, e8, e9, e10⟩ := idx t
  unfold ends
  blk_simp [iblk, V, e8]
  entry_read
  pointwise
  have k0 : (((View.whole main_v4).slice (win0_8.rect t)).emb (ix3 0 r 0) 0).val = q.val := by
    blk_simp [e8]
    exact hq
  have k1 : (((View.whole main_v4).slice (win0_8.rect t)).emb (ix3 0 r 0) 1).val = r.val := by
    blk_simp [e8]
  by_cases hr : r.val < 255
  · rw [dif_pos (by rw [k1]; exact hr)]
    refine congrArg (fun i => FloatOps.sitofp (F := Ideal) FTy.f32 (m (c, Proc.tc.devRef main_arg8) i)) ?_
    refine congrArg₂ ix2 (Fin.ext k0) (Fin.ext ?_)
    dsimp only
    rw [k1, if_pos hr]
  · rw [dif_neg (by rw [k1]; exact hr)]
    refine congrArg (fun i => FloatOps.sitofp (F := Ideal) FTy.f32 (m (c, Proc.tc.devRef main_arg8) i)) ?_
    refine congrArg₂ ix2 (Fin.ext k0) (Fin.ext ?_)
    dsimp only
    rw [k1, if_neg hr]
    omega

/-- One image's and group's compressed rows out of the arguments. -/
def blockRows (X : Vec Ideal S8x2x4096x64 .f32) (P : Mat 32 64) (W : Mat 2048 256) (W' : Mat 256 64)
    (q : Fin 8) (g : Fin 2) (r : Fin 256) (e : Fin 64) : EReal :=
  comp (flat X q g) (offs P) (fun k j => W (ix2 k j)) (fun j e => W' (ix2 j e)) r e

/-- The compressed keys, each turned to its block's last position. -/
def keysOf (X : Vec Ideal S8x2x4096x64 .f32) (P : Mat 32 64) (W : Mat 2048 256) (W' : Mat 256 64) (pos : Vec Ideal S8x4096 .i32)
    (fr : Mat 1 128) : S8x2x256x64.Idx → EReal := fun i =>
  rot (fun l => blockRows X P W W' (i 0) (i 1) (i 2) l)
    (fun l => ends pos (i 0) (i 2) * fr (ix2 0 ⟨64 * (i 1).val + l.val, by have : (i 1).val < 2 := (i 1).isLt; omega⟩)) (i 3)

/-- The compressed values, transposed. -/
def valuesOf (X : Vec Ideal S8x2x4096x64 .f32) (P : Mat 32 64) (W : Mat 2048 256) (W' : Mat 256 64) :
    S8x2x64x256.Idx → EReal := fun i => blockRows X P W W' (i 0) (i 1) (i 3) (i 2)

theorem rows_eq (c : Dev nD) (t : Fin cfg0.N) (q : Fin 8) (hq : t.val = q.val) (g : Fin 2) (r : Fin 256) (e : Fin 64) :
    rowsOf (iblk m c 0 t) (iblk m c 2 t) (iblk m c 3 t) (fun j e => (iblk m c 4 t : Vec Ideal S256x64 .bf16) (ix2 j e)) g r e
      = blockRows (m ((c : Thread nD τ).loc main_arg0)) (m ((c : Thread nD τ).loc main_arg2)) (m ((c : Thread nD τ).loc main_arg3))
          (m ((c : Thread nD τ).loc main_arg4)) q g r e := by
  unfold rowsOf blockRows
  rw [blk3, blk4]
  exact congrArg₂ (fun T p => comp T p _ _ r e) (funext fun r => funext fun k => blk0 m c t q hq g r k) (funext fun k => blk2 m c t k)

theorem value_rows_eq (c : Dev nD) (t : Fin cfg0.N) (q : Fin 8) (hq : t.val = q.val) (g : Fin 2) (r : Fin 256) (e : Fin 64) :
    rowsOf (iblk m c 1 t) (iblk m c 5 t) (iblk m c 6 t) (fun j e => (iblk m c 7 t : Vec Ideal S64x256 .bf16) (ix2 e j)) g r e
      = blockRows (m ((c : Thread nD τ).loc main_arg1)) (m ((c : Thread nD τ).loc main_arg5)) (m ((c : Thread nD τ).loc main_arg6))
          (m ((c : Thread nD τ).loc main_arg7)) q g r e := by
  unfold rowsOf blockRows
  rw [blk6]
  have h7 : (fun (j : Fin 256) (e : Fin 64) => (iblk m c 7 t : Vec Ideal S64x256 .bf16) (ix2 e j))
      = fun j e => m ((c : Thread nD τ).loc main_arg7) (ix2 j e) := funext fun j => funext fun e => blk7 m c t e j
  rw [h7]
  exact congrArg₂ (fun T p => comp T p _ _ r e) (funext fun r => funext fun k => blk1 m c t q hq g r k) (funext fun k => blk5 m c t k)

def keyResult (c : Dev nD) : S8x2x256x64.Idx → EReal :=
  keysOf (m ((c : Thread nD τ).loc main_arg0)) (m ((c : Thread nD τ).loc main_arg2)) (m ((c : Thread nD τ).loc main_arg3))
    (m ((c : Thread nD τ).loc main_arg4)) (m ((c : Thread nD τ).loc main_arg8)) (m ((c : Thread nD τ).loc main_arg9))

def valueResult (c : Dev nD) : S8x2x64x256.Idx → EReal :=
  valuesOf (m ((c : Thread nD τ).loc main_arg1)) (m ((c : Thread nD τ).loc main_arg5)) (m ((c : Thread nD τ).loc main_arg6))
    (m ((c : Thread nD τ).loc main_arg7))

theorem key_point (c : Dev nD) (t : Fin cfg0.N) (q : Fin 8) (hq : t.val = q.val) (g : Fin 2) (r : Fin 256) (e : Fin 64) :
    keyTile (iblk m c 0 t) (iblk m c 2 t) (iblk m c 3 t) (iblk m c 4 t) (iblk m c 8 t) (iblk m c 9 t) g r e
      = keyResult m c (ix4 q g r e) := by
  unfold keyTile keyResult keysOf
  refine congrArg₂ (fun a b => rot a b e) (funext fun l => rows_eq m c t q hq g r l) (funext fun l => ?_)
  rw [blk9, blk8 m c t q hq r]
  rfl

theorem key_result (c : Dev nD) : (dats m 0 c).arrAt 10 cfg0.N = keyResult m c := by
  refine (dats m 0 c).arrAt_eq_of_covers 10 _ (by decide +kernel) fun t hf y => ?_
  obtain ⟨⟨e0, e1, e2, e3, e4⟩, e5, e6, e7, e8, e9, e10, e11⟩ := idx t
  blk_simp [e10]
  rw [after0_10, out_keys]
  refine (key_point m c t ⟨t.val, lt_of_lt_of_eq t.isLt N_0⟩ rfl (y 1) (y 2) (y 3)).trans ?_
  refine congrArg (keyResult m c) ?_
  blk_ext [e10]

theorem value_result (c : Dev nD) : (dats m 0 c).arrAt 11 cfg0.N = valueResult m c := by
  refine (dats m 0 c).arrAt_eq_of_covers 11 _ (by decide +kernel) fun t hf y => ?_
  obtain ⟨⟨e0, e1, e2, e3, e4⟩, e5, e6, e7, e8, e9, e10, e11⟩ := idx t
  blk_simp [e11]
  rw [after0_11, out_values]
  refine (value_rows_eq m c t ⟨t.val, lt_of_lt_of_eq t.isLt N_0⟩ rfl (y 1) (y 3) (y 2)).trans ?_
  refine congrArg (valueResult m c) (a₁ := ix4 ⟨t.val, lt_of_lt_of_eq t.isLt N_0⟩ (y 1) (y 2) (y 3)) ?_
  blk_ext [e11]

end Cert.CmpProof
-- ==== Proof.CmpRef.lean ====
/- The compression kernel's reference over the extended reals: its two results in the form CmpValue gives the kernel's. -/
module

public import proofs.«01_k».proof.Defs
public import proofs.«01_k».proof.Proof.CmpValue
public import proofs.«01_k».proof.Proof.Gen.CmpRefIdeal.Read

@[expose] public section

set_option maxRecDepth 16384

noncomputable section
open Idealize.ShloMosaic Idealize.SL.Sem Idealize.ShloMosaic.TcCoe
open Cert.CmpRefIdeal Cert.CmpRefIdeal.Read
open Cert.Rows
namespace Cert.CmpProof

/-! ## Stage by stage, at an index -/

section Reference

variable (x0 : Vec Ideal S8x2x4096x64 .f32) (x2 : Vec Ideal S32x64 .f32) (x3 : Vec Ideal S2048x256 .f32) (x4 : Vec Ideal S256x64 .f32)
  (x8 : Vec Ideal S8x4096 .i32) (x9 : Vec Ideal S1x128 .f32)

theorem first_half (q : Fin 8) (g : Fin 2) (r : Fin 256) (a : Fin 16) (b : Fin 64) :
    val_main_v14 x0 x2 (ix5 q g r a b) = x0 (ix4 q g ⟨r.val * 16 + a.val, by omega⟩ b) + x2 (ix2 ⟨a.val, by omega⟩ b) := by
  unfold val_main_v14 val_main_v3 val_main_v13 val_main_v12 val_main_v11
  pointwise

theorem second_half (q : Fin 8) (g : Fin 2) (r : Fin 255) (a : Fin 16) (b : Fin 64) :
    val_main_v8 x0 x2 (ix5 q g r a b)
      = x0 (ix4 q g ⟨(1 + r.val) * 16 + a.val, by omega⟩ b) + x2 (ix2 ⟨16 + a.val, by omega⟩ b) := by
  unfold val_main_v8 val_main_v4 val_main_v3 val_main_v7 val_main_v6 val_main_v5
  pointwise

theorem padded_half (q : Fin 8) (g : Fin 2) (r : Fin 256) (a : Fin 16) (b : Fin 64) :
    val_main_v10 x0 x2 (ix5 q g r a b) = if h : r.val < 255 then val_main_v8 x0 x2 (ix5 q g ⟨r.val, h⟩ a b) else 0 := by
  unfold val_main_v10 val_main_v9 val_main_cst
  generalize val_main_v8 x0 x2 = y
  pointwise

theorem block_halves (q : Fin 8) (g : Fin 2) (r : Fin 256) (a : Fin 32) (b : Fin 64) :
    val_main_v15 x0 x2 (ix5 q g r a b)
      = if h : a.val < 16 then val_main_v14 x0 x2 (ix5 q g r ⟨a.val, h⟩ b)
        else val_main_v10 x0 x2 (ix5 q g r ⟨a.val - 16, by omega⟩ b) := by
  unfold val_main_v15
  generalize val_main_v14 x0 x2 = y
  generalize val_main_v10 x0 x2 = z
  pointwise

theorem block_flat (q : Fin 8) (g : Fin 2) (r : Fin 256) (k : Fin 2048) :
    val_main_v16 x0 x2 (ix4 q g r k) = val_main_v15 x0 x2 (ix5 q g r ⟨k.val / 64, by omega⟩ ⟨k.val % 64, by omega⟩) := by
  unfold val_main_v16
  generalize val_main_v15 x0 x2 = y
  pointwise

theorem flat_first (q : Fin 8) (g : Fin 2) (r : Fin 256) (k : Fin 1024) :
    val_main_v16 x0 x2 (ix4 q g r ⟨k.val, by omega⟩) = flat x0 q g r k + offs x2 ⟨k.val, by omega⟩ := by
  rw [block_flat, block_halves, dif_pos (show k.val / 64 < 16 by omega), first_half]
  exact congrArg₂ (· + ·) (congrArg (fun a => x0 (ix4 q g a ⟨k.val % 64, by omega⟩)) (Fin.ext (by dsimp only; omega))) rfl

theorem flat_second (q : Fin 8) (g : Fin 2) (r : Fin 256) (k : Fin 1024) (hr : r.val < 255) :
    val_main_v16 x0 x2 (ix4 q g r ⟨1024 + k.val, by omega⟩) = flat x0 q g ⟨r.val + 1, by omega⟩ k + offs x2 ⟨1024 + k.val, by omega⟩ := by
  rw [block_flat, block_halves, dif_neg (show ¬ (1024 + k.val) / 64 < 16 by omega), padded_half, dif_pos hr, second_half]
  exact congrArg₂ (· + ·)
    (congrArg₂ (fun a b => x0 (ix4 q g a b)) (Fin.ext (by dsimp only; omega)) (Fin.ext (by dsimp only; omega)))
    (congrArg (fun a => x2 (ix2 a ⟨(1024 + k.val) % 64, by omega⟩)) (Fin.ext (by dsimp only; omega)))

theorem flat_last (q : Fin 8) (g : Fin 2) (r : Fin 256) (k : Fin 1024) (hr : ¬ r.val < 255) :
    val_main_v16 x0 x2 (ix4 q g r ⟨1024 + k.val, by omega⟩) = 0 := by
  rw [block_flat, block_halves, dif_neg (show ¬ (1024 + k.val) / 64 < 16 by omega), padded_half, dif_neg hr]

theorem ref_hidden (q : Fin 8) (g : Fin 2) (r j : Fin 256) :
    val_main_v17 x0 x2 x3 (ix4 q g r j) = hid (flat x0 q g) (offs x2) (fun k j => x3 (ix2 k j)) r j := by
  have h : val_main_v17 x0 x2 x3 (ix4 q g r j) = ∑ k : Fin (1024 + 1024), val_main_v16 x0 x2 (ix4 q g r k) * x3 (ix2 k j) := by
    unfold val_main_v17
    generalize val_main_v16 x0 x2 = y
    pointwise
  rw [h, Fin.sum_univ_add]
  unfold hid
  refine congrArg₂ (· + ·) (Finset.sum_congr rfl fun k _ => ?_) ?_
  · exact congrArg (· * x3 (ix2 ⟨k.val, by omega⟩ j)) (flat_first x0 x2 q g r k)
  · by_cases hr : r.val < 255
    · rw [dif_pos hr]
      refine Finset.sum_congr rfl fun k _ => ?_
      exact congrArg (· * x3 (ix2 ⟨1024 + k.val, by omega⟩ j)) (flat_second x0 x2 q g r k hr)
    · rw [dif_neg hr]
      refine Finset.sum_eq_zero fun k _ => ?_
      exact (congrArg (· * x3 (ix2 ⟨1024 + k.val, by omega⟩ j)) (flat_last x0 x2 q g r k hr)).trans (zero_mul _)

theorem ref_act (q : Fin 8) (g : Fin 2) (r j : Fin 256) :
    val_main_v18 x0 x2 x3 (ix4 q g r j) = act (hid (flat x0 q g) (offs x2) (fun k j => x3 (ix2 k j)) r j) := by
  rw [← ref_hidden]
  unfold val_main_v18 val_main_call0_v5 val_main_call0_v4 val_main_call0_v3 val_main_call0_v2 val_main_call0_v1 val_main_call0_v0
    val_main_call0_cst_0 val_main_call0_cst
  generalize val_main_v17 x0 x2 x3 = y
  pointwise
  rfl

theorem ref_rows (q : Fin 8) (g : Fin 2) (r : Fin 256) (e : Fin 64) :
    val_main_v19 x0 x2 x3 x4 (ix4 q g r e) = blockRows x0 x2 x3 x4 q g r e := by
  have h : val_main_v19 x0 x2 x3 x4 (ix4 q g r e) = ∑ j : Fin 256, val_main_v18 x0 x2 x3 (ix4 q g r j) * x4 (ix2 j e) := by
    unfold val_main_v19
    generalize val_main_v18 x0 x2 x3 = y
    pointwise
  rw [h]
  unfold blockRows comp
  exact Finset.sum_congr rfl fun j _ => congrArg (· * x4 (ix2 j e)) (ref_act x0 x2 x3 q g r j)

/-- The angle of a lane, as the reference makes it. -/
theorem ref_angle (q : Fin 8) (g : Fin 2) (r : Fin 256) (e : Fin 64) :
    val_main_v25 x8 x9 (ix4 q g r e) = ends x8 q r * x9 (ix2 0 ⟨64 * g.val + e.val, by omega⟩) := by
  have h : val_main_v25 x8 x9 (ix4 q g r e)
      = FloatOps.sitofp (F := Ideal) FTy.f32 (if h : r.val < 255 then x8 (ix2 q ⟨31 + 16 * r.val, by omega⟩)
          else x8 (ix2 q ⟨4095 + (r.val - 255), by omega⟩)) * x9 (ix2 0 ⟨g.val * 64 + e.val, by omega⟩) := by
    unfold val_main_v25 val_main_v24 val_main_v23 val_main_v22 val_main_v21 val_main_v20 val_main_v2 val_main_v1 val_main_v0
    pointwise
  rw [h]
  refine congrArg₂ (· * ·) ?_ (congrArg (fun n => x9 (ix2 0 n)) (Fin.ext (by dsimp only; omega)))
  unfold ends
  by_cases hr : r.val < 255
  · rw [dif_pos hr]
    exact congrArg (fun n => FloatOps.sitofp (F := Ideal) FTy.f32 (x8 (ix2 q n))) (Fin.ext (by dsimp only; rw [if_pos hr]))
  · rw [dif_neg hr]
    exact congrArg (fun n => FloatOps.sitofp (F := Ideal) FTy.f32 (x8 (ix2 q n))) (Fin.ext (by dsimp only; rw [if_neg hr]; omega))

/-- The quarter turn, as the reference makes it. -/
theorem ref_turned (q : Fin 8) (g : Fin 2) (r : Fin 256) (e : Fin 64) :
    val_main_v33 x0 x2 x3 x4 (ix4 q g r e) = turned (fun l => blockRows x0 x2 x3 x4 q g r l) e := by
  have h : val_main_v33 x0 x2 x3 x4 (ix4 q g r e)
      = if h : e.val < 8 then -(val_main_v19 x0 x2 x3 x4 (ix4 q g r ⟨8 + e.val, by omega⟩))
        else if h : e.val - 8 < 8 then val_main_v19 x0 x2 x3 x4 (ix4 q g r ⟨e.val - 8, by omega⟩) else 0 := by
    unfold val_main_v33 val_main_v32 val_main_v31 val_main_v27 val_main_v26 val_main_cst_0
    generalize val_main_v19 x0 x2 x3 x4 = y
    pointwise
  rw [h]
  unfold turned
  by_cases h8 : e.val < 8
  · rw [dif_pos h8, dif_pos h8, ref_rows]
    exact congrArg (fun l => -(blockRows x0 x2 x3 x4 q g r l)) (Fin.ext (by dsimp only; omega))
  · rw [dif_neg h8, dif_neg h8]
    by_cases h16 : e.val < 16
    · rw [dif_pos (show e.val - 8 < 8 by omega), if_pos h16, ref_rows]
    · rw [dif_neg (show ¬ e.val - 8 < 8 by omega), if_neg h16]

theorem ref_keys_at (q : Fin 8) (g : Fin 2) (r : Fin 256) (e : Fin 64) :
    val_main_v54 x0 x2 x3 x4 x8 x9 (ix4 q g r e) = keysOf x0 x2 x3 x4 x8 x9 (ix4 q g r e) := by
  have h : val_main_v54 x0 x2 x3 x4 x8 x9 (ix4 q g r e)
      = val_main_v19 x0 x2 x3 x4 (ix4 q g r e) * Ideal.cos (val_main_v25 x8 x9 (ix4 q g r e))
        + val_main_v33 x0 x2 x3 x4 (ix4 q g r e) * Ideal.sin (val_main_v25 x8 x9 (ix4 q g r e)) := by
    unfold val_main_v54 val_main_v36 val_main_v35 val_main_v34 val_main_v30 val_main_v29
    generalize val_main_v19 x0 x2 x3 x4 = y
    generalize val_main_v33 x0 x2 x3 x4 = z
    generalize val_main_v25 x8 x9 = w
    rfl
  rw [h, ref_rows, ref_turned, ref_angle]
  rfl

theorem ref_keys : val_main_v54 x0 x2 x3 x4 x8 x9 = keysOf x0 x2 x3 x4 x8 x9 := by
  funext i
  rw [eq_ix4 i]
  exact ref_keys_at x0 x2 x3 x4 x8 x9 (i 0) (i 1) (i 2) (i 3)

/-! The values' stages are the keys', of the values' arguments. -/

theorem values_first : val_main_v48 x0 x2 = val_main_v14 x0 x2 := by
  unfold val_main_v48 val_main_v14 val_main_v37 val_main_v3 val_main_v47 val_main_v13 val_main_v46 val_main_v12 val_main_v45 val_main_v11
  rfl

theorem values_second : val_main_v44 x0 x2 = val_main_v10 x0 x2 := by
  unfold val_main_v44 val_main_v10 val_main_v43 val_main_v9 val_main_cst_1 val_main_cst val_main_v42 val_main_v8 val_main_v38 val_main_v4
    val_main_v37 val_main_v3 val_main_v41 val_main_v7 val_main_v40 val_main_v6 val_main_v39 val_main_v5
  rfl

theorem values_flat : val_main_v50 x0 x2 = val_main_v16 x0 x2 := by
  unfold val_main_v50 val_main_v16 val_main_v49 val_main_v15
  rw [values_first, values_second]

theorem values_hidden : val_main_v51 x0 x2 x3 = val_main_v17 x0 x2 x3 := by
  unfold val_main_v51 val_main_v17
  rw [values_flat]

theorem values_act : val_main_v52 x0 x2 x3 = val_main_v18 x0 x2 x3 := by
  unfold val_main_v52 val_main_v18 val_main_call1_v5 val_main_call1_v4 val_main_call1_v3 val_main_call1_v2 val_main_call1_v1 val_main_call1_v0
    val_main_call1_cst_0 val_main_call1_cst val_main_call0_v5 val_main_call0_v4 val_main_call0_v3 val_main_call0_v2 val_main_call0_v1
    val_main_call0_v0 val_main_call0_cst_0 val_main_call0_cst
  rw [values_hidden]

theorem values_rows : val_main_v53 x0 x2 x3 x4 = val_main_v19 x0 x2 x3 x4 := by
  unfold val_main_v53 val_main_v19
  rw [values_act]

theorem ref_values : val_main_v56 x0 x2 x3 x4 = valuesOf x0 x2 x3 x4 := by
  funext i
  have h : val_main_v56 x0 x2 x3 x4 i = val_main_v53 x0 x2 x3 x4 (ix4 (i 0) (i 1) (i 3) (i 2)) := by
    unfold val_main_v56 val_main_v55
    generalize val_main_v53 x0 x2 x3 x4 = y
    pointwise
  rw [h, values_rows]
  exact ref_rows x0 x2 x3 x4 (i 0) (i 1) (i 3) (i 2)

end Reference

end Cert.CmpProof
-- ==== Proof.CmpClaim.lean ====
/- The compression kernel: its reference's frame, and its two results against the reference's over the extended reals. -/
module

public import proofs.«01_k».proof.Defs
public import proofs.«01_k».proof.Proof.CmpRef
public import Idealize.ShloMosaic.Lib.Claim

@[expose] public section

set_option maxRecDepth 16384

noncomputable section
open Idealize.ShloMosaic Idealize.SL.Sem Idealize.ShloMosaic.TcCoe
open Cert.CmpRefIdeal Cert.CmpRefIdeal.Read
namespace Cert.CmpProof

/-- The reference's first result, of the arguments it was run on. -/
theorem keys_read (m : (ℓ : Loc nD τ sig) → Buf (Elt Ideal) ℓ) (c : Dev nD) :
    Cert.CmpRefIdeal.Value.res_main_v54 m c
      = keysOf (m (c.tc.loc main_arg0)) (m (c.tc.loc main_arg2)) (m (c.tc.loc main_arg3)) (m (c.tc.loc main_arg4))
          (m (c.tc.loc main_arg8)) (m (c.tc.loc main_arg9)) := by
  rw [val_main_v54_eq]
  exact ref_keys _ _ _ _ _ _

theorem frame_ref : Cert.quiescent_CmpRefIdeal (hCmpRefIdeal := Cert.CmpRefIdeal.Gen.facts) := fun m ρ _ =>
  (θ_run _ _ _).mono (fun r h => ⟨fun c => (h c).2.2, sem_eq_zero_of_no_sems (by decide) r.2⟩) (Cert.CmpRefIdeal.Value.run m ρ)

/-- Both programs run, keep their arguments and end with the same two arrays. -/
theorem alg : Cert.algebraic_CmpIdeal_CmpRefIdeal (hCmpIdeal := Cert.CmpIdeal.Gen.facts) (hCmpRefIdeal := Cert.CmpRefIdeal.Gen.facts) := by
  pair_intro
  · run_from Cert.CmpIdeal.Value.run_blocks (F := Ideal) m g
  · run_from Cert.CmpRefIdeal.Value.run (F := Ideal) m' g'
    · rw [key_result]
      refine (keys_read m' c).trans ?_
      unfold keyResult
      simp only [hagree c]
    · rw [value_result]
      refine ((val_main_v56_eq _ _ _ _).trans (ref_values _ _ _ _)).trans ?_
      unfold valueResult
      simp only [hagree c]

end Cert.CmpProof
-- ==== Proof.AttnPoint.lean ====
/- The attention kernel: its body run at one grid point.

   At a point the kernel takes 128 query rows of one key-value head: it scores them against the compressed blocks, adds
   the scores up over the selection blocks and picks the best ones, attends over the picked keys and over the sliding
   window, and joins the three branches with their gates.  What the point needs of its scratch buffers it writes first,
   so nothing is carried between points. -/
module

public import Idealize.ShloMosaic.Lib.Claim
public import proofs.«01_k».proof.Proof.Gen.AttnIdeal.Frame
public import proofs.«01_k».proof.Proof.Gen.AttnIdeal.Skeleton
public import proofs.«01_k».proof.Proof.Gen.AttnIdeal.Loops

@[expose] public section

set_option maxRecDepth 65536

noncomputable section

namespace Cert.AttnProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat cellOf)
open Cert.AttnIdeal Cert.AttnIdeal.Gen

variable {F : FTy → Type} [FloatOps F]

local notation "𝕄" => MT nD τ sig Unit (Elt F) ℕ (UR sig nD τ) ℕ

/-- A buffer held whole at some contents. -/
def Anything {s : Shape} {e : EltTy} (c : Dev nD) (r : Memref sig .tc .vmem s e) : sProp 𝕄 :=
  iprop(∃ d, owns (c : Thread nD τ) r fullShare d)

theorem anything_intro {s : Shape} {e : EltTy} (c : Dev nD) (r : Memref sig .tc .vmem s e) (f : r.view.ty.Contents (Elt F)) :
    (r.view.loc (c : Thread nD τ) ↦[r.view.set]{fullShare} f : sProp 𝕄) ⊢ Anything c r := by
  unfold Anything owns
  iintro H
  iexists _; iexists f; isplitr; · ipureintro; rfl
  iexact H

theorem same_intro {s : Shape} {e : EltTy} (c : Dev nD) (r : Memref sig .tc .vmem s e) (h : r.IsWhole) (x : Vec F s e) :
    (r.view.loc (c : Thread nD τ) ↦[r.view.set]{fullShare} h.unread x : sProp 𝕄) ⊢ owns (c : Thread nD τ) r fullShare x := by
  unfold owns
  iintro H
  iexists _; isplitr; · ipureintro; exact h.read_unread _
  iexact H

/-! ## The body at one point -/

section Body

variable (c : Dev nD) (i : grid0.Coords)
  (arg3 : Memref sig .tc .vmem S1x1x2x64x512 .bf16) (harg3 : arg3.IsWhole)
  (arg4 : Memref sig .tc .vmem S1x1x256x64 .bf16) (harg4 : arg4.IsWhole)
  (arg5 : Memref sig .tc .vmem S1x1x64x256 .bf16) (harg5 : arg5.IsWhole)
  (arg6 : Memref sig .tc .vmem S1x1x4096x128 .bf16) (harg6 : arg6.IsWhole)
  (arg7 : Memref sig .tc .vmem S1x1x80x4096 .bf16) (harg7 : arg7.IsWhole)
  (arg8 : Memref sig .tc .vmem S1x1x4608x64 .bf16) (harg8 : arg8.IsWhole)
  (arg9 : Memref sig .tc .vmem S1x1x80x4608 .bf16) (harg9 : arg9.IsWhole)
  (arg10 : Memref sig .tc .vmem S1x128x128 .f32) (harg10 : arg10.IsWhole)
  (arg11 : Memref sig .tc .vmem S64x256 .f32) (harg11 : arg11.IsWhole)
  (arg12 : Memref sig .tc .vmem S128x1024 .f32) (harg12 : arg12.IsWhole)
  (arg13 : Memref sig .tc .vmem S640x1024 .f32) (harg13 : arg13.IsWhole)
  (arg14 : Memref sig .tc .vmem S128x1024 .bf16) (harg14 : arg14.IsWhole)
  (arg15 : Memref sig .tc .vmem S1x128x512 .bf16) (harg15 : arg15.IsWhole)
  (arg16 : Memref sig .tc .vmem S64x128 .f32) (harg16 : arg16.IsWhole)
  (arg17 : Memref sig .tc .vmem S2x256x1024 .f32) (harg17 : arg17.IsWhole)
  (arg18 : Memref sig .tc .vmem S80x1024 .f32) (harg18 : arg18.IsWhole)
  (arg19 : Memref sig .tc .vmem S640x1024 .f32) (harg19 : arg19.IsWhole)

/-- The point's rows begin before the window's length, so some of its window lies before the sequence. -/
def early : BitVec 1 :=
  Scalar.cmpi .ne (Scalar.extui (Scalar.cmpi .slt (Scalar.muli (Scalar.muli (BitVec.ofNat 32 (i 2).val) 2#32) 64#32) 512#32)) 0#32

set_option maxHeartbeats 4000000 in
/-- The body runs from its blocks and any output and scratch buffers, and gives the blocks back as they were. -/
theorem run_point
    (x3 : Vec F S1x1x2x64x512 .bf16)
    (x4 : Vec F S1x1x256x64 .bf16)
    (x5 : Vec F S1x1x64x256 .bf16)
    (x6 : Vec F S1x1x4096x128 .bf16)
    (x7 : Vec F S1x1x80x4096 .bf16)
    (x8 : Vec F S1x1x4608x64 .bf16)
    (x9 : Vec F S1x1x80x4608 .bf16)
    (x10 : Vec F S1x128x128 .f32)
    (x11 : Vec F S64x256 .f32)
    (x12 : Vec F S128x1024 .f32)
    (x13 : Vec F S640x1024 .f32)
    (x14 : Vec F S128x1024 .bf16)
    (K : PUnit → sProp 𝕄) :
    iprop(owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare x9 ∗ owns (c : Thread nD τ) arg10 fullShare x10
        ∗ owns (c : Thread nD τ) arg11 fullShare x11 ∗ owns (c : Thread nD τ) arg12 fullShare x12
        ∗ owns (c : Thread nD τ) arg13 fullShare x13 ∗ owns (c : Thread nD τ) arg14 fullShare x14
        ∗ (∃ d, owns (c : Thread nD τ) arg15 fullShare d) ∗ (∃ d, owns (c : Thread nD τ) arg16 fullShare d)
        ∗ (∃ d, owns (c : Thread nD τ) arg17 fullShare d) ∗ (∃ d, owns (c : Thread nD τ) arg18 fullShare d)
        ∗ (∃ d, owns (c : Thread nD τ) arg19 fullShare d)
        ∗ (iprop(owns (c : Thread nD τ) arg3 fullShare x3 ∗ owns (c : Thread nD τ) arg4 fullShare x4
          ∗ owns (c : Thread nD τ) arg5 fullShare x5 ∗ owns (c : Thread nD τ) arg6 fullShare x6
          ∗ owns (c : Thread nD τ) arg7 fullShare x7 ∗ owns (c : Thread nD τ) arg8 fullShare x8
          ∗ owns (c : Thread nD τ) arg9 fullShare x9 ∗ owns (c : Thread nD τ) arg10 fullShare x10
          ∗ owns (c : Thread nD τ) arg11 fullShare x11 ∗ owns (c : Thread nD τ) arg12 fullShare x12
          ∗ owns (c : Thread nD τ) arg13 fullShare x13 ∗ owns (c : Thread nD τ) arg14 fullShare x14
          ∗ Anything c arg15 ∗ Anything c arg16
          ∗ Anything c arg17 ∗ Anything c arg18
          ∗ Anything c arg19) -∗ K ⟨⟩))
      ⊢ wp frame (wpE (defs₀ (F := F)) Variants.none c none) Set.univ
          (cc0_nsa_attn i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_nsa_attn_eq_skeleton]; unfold cc0_nsa_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%d15, %f15, -, H15⟩, ⟨%d16, %f16, -, H16⟩, ⟨%d17, %f17, -, H17⟩, ⟨%d18, %f18, -, H18⟩, ⟨%d19, %f19, -, H19⟩, Hk⟩
  obtain rfl := harg3.eq_unread e3
  obtain rfl := harg4.eq_unread e4
  obtain rfl := harg5.eq_unread e5
  obtain rfl := harg6.eq_unread e6
  obtain rfl := harg7.eq_unread e7
  obtain rfl := harg8.eq_unread e8
  obtain rfl := harg9.eq_unread e9
  obtain rfl := harg10.eq_unread e10
  obtain rfl := harg11.eq_unread e11
  obtain rfl := harg12.eq_unread e12
  obtain rfl := harg13.eq_unread e13
  obtain rfl := harg14.eq_unread e14
  by_cases h1 : early i = 1#1 <;> by_cases h2 : k0_cond2 i = 1#1
  all_goals
    sl_exec (disch := first | sl_exact h1 | sl_exact h2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iapply (anything_intro (F := F) c arg15); iexact H15
    isplitl [H16]
    · iapply (anything_intro (F := F) c arg16); iexact H16
    isplitl [H17]
    · iapply (anything_intro (F := F) c arg17); iexact H17
    isplitl [H18]
    · iapply (anything_intro (F := F) c arg18); iexact H18
    iapply (anything_intro (F := F) c arg19); iexact H19

end Body

end Cert.AttnProof

end
-- ==== Proof.AttnRun.lean ====
/- The attention kernel over its whole grid: it ends with its arguments as they were launched. -/
module

public import Idealize.ShloMosaic.Lib.Claim
public import proofs.«01_k».proof.Proof.AttnPoint
public import proofs.«01_k».proof.Proof.Gen.AttnIdeal.Frame
public import proofs.«01_k».proof.Proof.Gen.AttnIdeal.Skeleton
public import proofs.«01_k».proof.Proof.Gen.AttnIdeal.Loops

@[expose] public section

set_option maxRecDepth 65536

noncomputable section

namespace Cert.AttnProof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose RDat cellOf)
open Cert.AttnIdeal Cert.AttnIdeal.Gen

variable {F : FTy → Type} [FloatOps F]

local notation "𝕄" => MT nD τ sig Unit (Elt F) ℕ (UR sig nD τ) ℕ

/-! ## The pipeline's data and the body's obligation -/

/-- The staging memrefs at a point, and the scratch buffers. -/
abbrev a3 (t : Fin cfg0.N) : Memref sig .tc .vmem S1x1x2x64x512 .bf16 := win0_0.stage (cfg0.slots t 0)
abbrev w3 (t : Fin cfg0.N) : (a3 t).IsWhole := hstage0_0 ((cfg0.slots t 0).cast nbuf0_0)
abbrev a4 (t : Fin cfg0.N) : Memref sig .tc .vmem S1x1x256x64 .bf16 := win0_1.stage (cfg0.slots t 1)
abbrev w4 (t : Fin cfg0.N) : (a4 t).IsWhole := hstage0_1 ((cfg0.slots t 1).cast nbuf0_1)
abbrev a5 (t : Fin cfg0.N) : Memref sig .tc .vmem S1x1x64x256 .bf16 := win0_2.stage (cfg0.slots t 2)
abbrev w5 (t : Fin cfg0.N) : (a5 t).IsWhole := hstage0_2 ((cfg0.slots t 2).cast nbuf0_2)
abbrev a6 (t : Fin cfg0.N) : Memref sig .tc .vmem S1x1x4096x128 .bf16 := win0_3.stage (cfg0.slots t 3)
abbrev w6 (t : Fin cfg0.N) : (a6 t).IsWhole := hstage0_3 ((cfg0.slots t 3).cast nbuf0_3)
abbrev a7 (t : Fin cfg0.N) : Memref sig .tc .vmem S1x1x80x4096 .bf16 := win0_4.stage (cfg0.slots t 4)
abbrev w7 (t : Fin cfg0.N) : (a7 t).IsWhole := hstage0_4 ((cfg0.slots t 4).cast nbuf0_4)
abbrev a8 (t : Fin cfg0.N) : Memref sig .tc .vmem S1x1x4608x64 .bf16 := win0_5.stage (cfg0.slots t 5)
abbrev w8 (t : Fin cfg0.N) : (a8 t).IsWhole := hstage0_5 ((cfg0.slots t 5).cast nbuf0_5)
abbrev a9 (t : Fin cfg0.N) : Memref sig .tc .vmem S1x1x80x4608 .bf16 := win0_6.stage (cfg0.slots t 6)
abbrev w9 (t : Fin cfg0.N) : (a9 t).IsWhole := hstage0_6 ((cfg0.slots t 6).cast nbuf0_6)
abbrev a10 (t : Fin cfg0.N) : Memref sig .tc .vmem S1x128x128 .f32 := win0_7.stage (cfg0.slots t 7)
abbrev w10 (t : Fin cfg0.N) : (a10 t).IsWhole := hstage0_7 ((cfg0.slots t 7).cast nbuf0_7)
abbrev a11 (t : Fin cfg0.N) : Memref sig .tc .vmem S64x256 .f32 := win0_8.stage (cfg0.slots t 8)
abbrev w11 (t : Fin cfg0.N) : (a11 t).IsWhole := hstage0_8 ((cfg0.slots t 8).cast nbuf0_8)
abbrev a12 (t : Fin cfg0.N) : Memref sig .tc .vmem S128x1024 .f32 := win0_9.stage (cfg0.slots t 9)
abbrev w12 (t : Fin cfg0.N) : (a12 t).IsWhole := hstage0_9 ((cfg0.slots t 9).cast nbuf0_9)
abbrev a13 (t : Fin cfg0.N) : Memref sig .tc .vmem S640x1024 .f32 := win0_10.stage (cfg0.slots t 10)
abbrev w13 (t : Fin cfg0.N) : (a13 t).IsWhole := hstage0_10 ((cfg0.slots t 10).cast nbuf0_10)
abbrev a14 (t : Fin cfg0.N) : Memref sig .tc .vmem S128x1024 .bf16 := win0_11.stage (cfg0.slots t 11)
abbrev w14 (t : Fin cfg0.N) : (a14 t).IsWhole := hstage0_11 ((cfg0.slots t 11).cast nbuf0_11)
abbrev a15 (t : Fin cfg0.N) : Memref sig .tc .vmem S1x128x512 .bf16 := win0_12.stage (cfg0.slots t 12)
abbrev w15 (t : Fin cfg0.N) : (a15 t).IsWhole := hstage0_12 ((cfg0.slots t 12).cast nbuf0_12)
abbrev a16 : Memref sig .tc .vmem S64x128 .f32 := Memref.whole cc0_scratch0
abbrev a17 : Memref sig .tc .vmem S2x256x1024 .f32 := Memref.whole cc0_scratch1
abbrev a18 : Memref sig .tc .vmem S80x1024 .f32 := Memref.whole cc0_scratch2
abbrev a19 : Memref sig .tc .vmem S640x1024 .f32 := Memref.whole cc0_scratch3

/-- A view of the output's block, for naming a value of its type. -/
abbrev V15 : View sig .tc .vmem S1x128x512 .bf16 := (Memref.whole cc0_stg12_0 : Memref sig .tc .vmem S1x128x512 .bf16).view

variable (m : (ℓ : Loc nD τ sig) → Buf (Elt F) ℓ) (ρ : Dev nD → PrngReg)

/-- The window whose contents the frame says nothing of: the output. -/
def forgotten (w : Fin cfg0.W) : Bool := match w with
  | ⟨12, _⟩ => true
  | _ => false

theorem forgotten_0 : forgotten 0 = false := rfl
theorem forgotten_1 : forgotten 1 = false := rfl
theorem forgotten_2 : forgotten 2 = false := rfl
theorem forgotten_3 : forgotten 3 = false := rfl
theorem forgotten_4 : forgotten 4 = false := rfl
theorem forgotten_5 : forgotten 5 = false := rfl
theorem forgotten_6 : forgotten 6 = false := rfl
theorem forgotten_7 : forgotten 7 = false := rfl
theorem forgotten_8 : forgotten 8 = false := rfl
theorem forgotten_9 : forgotten 9 = false := rfl
theorem forgotten_10 : forgotten 10 = false := rfl
theorem forgotten_11 : forgotten 11 = false := rfl
theorem forgotten_12 : forgotten 12 = true := rfl

theorem any_eq (c : Dev nD) :
    (Pipeline.ΦA spec0 c : sProp 𝕄) = iprop(((∃ d, owns (c : Thread nD τ) a16 fullShare d) ∗ (∃ d, owns (c : Thread nD τ) a17 fullShare d)
      ∗ (∃ d, owns (c : Thread nD τ) a18 fullShare d) ∗ (∃ d, owns (c : Thread nD τ) a19 fullShare d)) ∗ (∃ r, prngReg c r)) := by
  unfold Pipeline.ΦA; rw [scopedRest0_eq]; simp only [a16, a17, a18, a19, owns_whole]; rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => V15.read (Elt F) V15.junk
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

def bodyPre (c : Dev nD) (t : Fin cfg0.N) : sProp 𝕄 :=
  iprop((dats m 0 c).Φ t.castSucc ∗ (dats m 0 c).owesAt () t.castSucc
    ∗ (∃ d, owns (c : Thread nD τ) (a3 t) fullShare ((dats m 0 c).before 0 t d))
    ∗ (∃ d, owns (c : Thread nD τ) (a4 t) fullShare ((dats m 0 c).before 1 t d))
    ∗ (∃ d, owns (c : Thread nD τ) (a5 t) fullShare ((dats m 0 c).before 2 t d))
    ∗ (∃ d, owns (c : Thread nD τ) (a6 t) fullShare ((dats m 0 c).before 3 t d))
    ∗ (∃ d, owns (c : Thread nD τ) (a7 t) fullShare ((dats m 0 c).before 4 t d))
    ∗ (∃ d, owns (c : Thread nD τ) (a8 t) fullShare ((dats m 0 c).before 5 t d))
    ∗ (∃ d, owns (c : Thread nD τ) (a9 t) fullShare ((dats m 0 c).before 6 t d))
    ∗ (∃ d, owns (c : Thread nD τ) (a10 t) fullShare ((dats m 0 c).before 7 t d))
    ∗ (∃ d, owns (c : Thread nD τ) (a11 t) fullShare ((dats m 0 c).before 8 t d))
    ∗ (∃ d, owns (c : Thread nD τ) (a12 t) fullShare ((dats m 0 c).before 9 t d))
    ∗ (∃ d, owns (c : Thread nD τ) (a13 t) fullShare ((dats m 0 c).before 10 t d))
    ∗ (∃ d, owns (c : Thread nD τ) (a14 t) fullShare ((dats m 0 c).before 11 t d))
    ∗ (∃ d, owns (c : Thread nD τ) (a15 t) fullShare d))

def bodyPost (c : Dev nD) (t : Fin cfg0.N) : sProp 𝕄 :=
  iprop((dats m 0 c).Φ t.succ ∗ (dats m 0 c).owesAt () t.succ
    ∗ owns (c : Thread nD τ) (a3 t) fullShare (iblk m c 0 t)
    ∗ owns (c : Thread nD τ) (a4 t) fullShare (iblk m c 1 t)
    ∗ owns (c : Thread nD τ) (a5 t) fullShare (iblk m c 2 t)
    ∗ owns (c : Thread nD τ) (a6 t) fullShare (iblk m c 3 t)
    ∗ owns (c : Thread nD τ) (a7 t) fullShare (iblk m c 4 t)
    ∗ owns (c : Thread nD τ) (a8 t) fullShare (iblk m c 5 t)
    ∗ owns (c : Thread nD τ) (a9 t) fullShare (iblk m c 6 t)
    ∗ owns (c : Thread nD τ) (a10 t) fullShare (iblk m c 7 t)
    ∗ owns (c : Thread nD τ) (a11 t) fullShare (iblk m c 8 t)
    ∗ owns (c : Thread nD τ) (a12 t) fullShare (iblk m c 9 t)
    ∗ owns (c : Thread nD τ) (a13 t) fullShare (iblk m c 10 t)
    ∗ owns (c : Thread nD τ) (a14 t) fullShare (iblk m c 11 t)
    ∗ (∃ d, owns (c : Thread nD τ) (a15 t) fullShare d))

set_option maxHeartbeats 4000000 in
theorem sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, any_eq]
  iintro ⟨⟨⟨H16, H17, H18, H19⟩, Hg⟩, Ho, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩, ⟨%_, H13⟩, ⟨%_, H14⟩, H15⟩
  iapply (run_point (F := F) c (grid0.coords t) (a3 t) (w3 t) (a4 t) (w4 t) (a5 t) (w5 t) (a6 t) (w6 t) (a7 t) (w7 t) (a8 t) (w8 t)
    (a9 t) (w9 t) (a10 t) (w10 t) (a11 t) (w11 t) (a12 t) (w12 t) (a13 t) (w13 t) (a14 t) (w14 t) (a15 t) (w15 t)
    a16 (Memref.isWhole_whole _) a17 (Memref.isWhole_whole _) a18 (Memref.isWhole_whole _) a19 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  unfold Anything
  iintro ⟨H3, H4, H5, H6, H7, H8, H9, H10, H11, H12, H13, H14, H15, H16, H17, H18, H19⟩
  isplitl [H16 H17 H18 H19 Hg]
  · isplitl [H16 H17 H18 H19]
    · isplitl [H16]; · iexact H16
      isplitl [H17]; · iexact H17
      isplitl [H18]; · iexact H18
      iexact H19
    iexact Hg
  isplitl [Ho]; · iexact Ho
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_row (t : Fin cfg0.N) : defs₀ (F := F) .tc cfg0.body (cfg0.bodyArgs t (cfg0.slots t)) = bodyAt0 t := by
  unfold defs₀; rw [Defs.onTc_tc]

set_option maxHeartbeats 1000000 in
theorem obligation (c : Dev nD) : BodyObligation (dats m 0 c) (defs₀ (F := F)) Variants.none () Set.univ forgotten := fun t => by
  rw [bigSep_W0, bigSep_W0, body_row]
  simp only [forgotten_0, forgotten_1, forgotten_2, forgotten_3, forgotten_4, forgotten_5, forgotten_6, forgotten_7, forgotten_8, forgotten_9, forgotten_10, forgotten_11, forgotten_12,
    after_0, after_1, after_2, after_3, after_4, after_5, after_6, after_7, after_8, after_9, after_10, after_11]
  exact triple_restated (sound m c t) rfl .rfl fun _ => .rfl

/-! ## The launch -/

/-- What the frame keeps: the arguments, and every counter at zero. -/
abbrev Kept (m : (ℓ : Loc nD τ sig) → Buf (Elt F) ℓ) (r : PUnit × MemSt nD τ sig (Elt F)) : Prop :=
  (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
    ∧ r.2.sem = fun _ => 0

theorem input_kept (r : PUnit × MemSt nD τ sig (Elt F))
    (h : Pipeline.RDat.FramePost cfg0 (fun c => (dats m 0 c).toRForget forgotten) (V m) r) (c : Dev nD) (w : Fin cfg0.W)
    (hin : (cfg0.win w).isOut = false) :
    r.2.mem ((spec0 w).arr.view.loc (c.tc : Thread nD τ)) = V m c (Pipeline.arrRef spec0 w) :=
  (Pipeline.RDat.FramePost.arr_in h c w hin).trans (A_eq m c w)

theorem kept_of (r : PUnit × MemSt nD τ sig (Elt F))
    (h : Pipeline.RDat.FramePost cfg0 (fun c => (dats m 0 c).toRForget forgotten) (V m) r ∧ r.2.sem = fun _ => 0) : Kept m r :=
  ⟨fun c => ⟨(input_kept m r h.1 c 0 rfl).trans (V_main_arg0 m c),
      (input_kept m r h.1 c 1 rfl).trans (V_main_arg1 m c),
      (input_kept m r h.1 c 2 rfl).trans (V_main_arg2 m c),
      (input_kept m r h.1 c 3 rfl).trans (V_main_arg3 m c),
      (input_kept m r h.1 c 4 rfl).trans (V_main_arg4 m c),
      (input_kept m r h.1 c 5 rfl).trans (V_main_arg5 m c),
      (input_kept m r h.1 c 6 rfl).trans (V_main_arg6 m c),
      (input_kept m r h.1 c 7 rfl).trans (V_main_arg7 m c),
      (input_kept m r h.1 c 8 rfl).trans (V_main_arg8 m c)⟩, h.2⟩

set_option maxHeartbeats 4000000 in
set_option backward.isDefEq.respectTransparency.types false in
/-- The program ends, its arguments as launched and its counters at zero. -/
theorem frame : θ_run defs (onTc (τ := τ) (main (F := F))) ⟨m, fun _ => 0, ρ⟩ (Kept m) :=
  Pipeline.θ_run_frame_forget cfgs (dats m) (0 : Fin 1) launch0 defs₀ Variants.none forgotten m ρ main
    (hbody := fun c => (obligation m c).loose) (hshare := fun c => (dats m 0 c).share_full fun _ => rfl)
    (howed := fun _ _ => rfl) (V := V m) (hmain := hmain m Variants.none) (hA := A_eq m) (hΦ := fun _ _ => rfl)
    (Q' := Kept m) (hQ' := kept_of m)

end Cert.AttnProof

end
-- ==== Proof.AttnClaim.lean ====
/- The attention kernel's frame, at the bits' floats and over the extended reals. -/
module

public import proofs.«01_k».proof.Defs
public import proofs.«01_k».proof.Proof.AttnRun
public import proofs.«01_k».proof.Proof.Gen.Attn.Skeleton
public import Idealize.ShloMosaic.Lib.Claim

@[expose] public section

set_option maxRecDepth 16384

noncomputable section
open Idealize.ShloMosaic Idealize.SL.Sem Idealize.ShloMosaic.TcCoe
namespace Cert.AttnProof

/-! The kernel as it is read at the bits' floats is the same text as the one read over the extended reals, so `frame`, which
holds for any float values, is its frame as well. -/

section Same

variable {F : FTy → Type} [FloatOps F]

set_option maxHeartbeats 8000000 in
theorem bodies_same : @Cert.Attn.defs₀ F _ _ = @Cert.AttnIdeal.defs₀ F _ _ := by
  unfold Cert.Attn.defs₀ Cert.AttnIdeal.defs₀
  refine congrArg Defs.onTc ?_
  funext l a
  match l, a with
  | 0, (t, s) => rfl
  | ⟨_ + 1, h⟩, _ => exact absurd h (Nat.not_lt.2 (Nat.le_add_left _ _))

set_option maxHeartbeats 8000000 in
theorem defs_same : @Cert.Attn.defs F _ _ = @Cert.AttnIdeal.defs F _ _ :=
  congrArg (Pipeline.defs Cert.Attn.pcfgs) bodies_same

end Same

set_option maxHeartbeats 8000000 in
theorem frame_bits : Cert.quiescent_Attn (hAttn := Cert.Attn.Gen.facts) := by
  intro m ρ _
  rw [defs_same]
  exact frame (F := Bits) m ρ

set_option maxHeartbeats 8000000 in
theorem frame_ideal : Cert.quiescent_AttnIdeal (hAttnIdeal := Cert.AttnIdeal.Gen.facts) := fun m ρ _ => frame (F := Ideal) m ρ

end Cert.AttnProof
-- ==== Proof.lean ====
/- The certificate: the frames of the programs, the idealizations' rewrites (none), and the value claims. -/
module

public import proofs.«01_k».proof.Defs
public import proofs.«01_k».proof.Proof.FfnClaim
public import proofs.«01_k».proof.Proof.FfnTwoClaim
public import proofs.«01_k».proof.Proof.NormMmClaim
public import proofs.«01_k».proof.Proof.NormMmTwoClaim
public import proofs.«01_k».proof.Proof.CmpClaim
public import proofs.«01_k».proof.Proof.AttnClaim
public import proofs.«01_k».proof.Proof.Gen.Cmp.Frame
public import proofs.«01_k».proof.Proof.Gen.Ffn.Frame
public import proofs.«01_k».proof.Proof.Gen.FfnTwo.Frame
public import Idealize.ShloMosaic.Adequacy
public import Idealize.ShloMosaic.Init

@[expose] public section

noncomputable section

namespace Cert.Proof

open Idealize.ShloMosaic Idealize.SL.Sem

theorem claim : Cert.Claim :=
  ⟨Cert.Ffn.Gen.facts, Cert.FfnIdeal.Gen.facts, Cert.FfnRefIdeal.Gen.facts, Cert.FfnTwo.Gen.facts,
    Cert.FfnTwoIdeal.Gen.facts, Cert.FfnTwoRefIdeal.Gen.facts, Cert.NormMm.Gen.facts, Cert.NormMmIdeal.Gen.facts,
    Cert.NormMmRefIdeal.Gen.facts, Cert.NormMmTwo.Gen.facts, Cert.NormMmTwoIdeal.Gen.facts, Cert.NormMmTwoRefIdeal.Gen.facts,
    Cert.Cmp.Gen.facts, Cert.CmpIdeal.Gen.facts, Cert.CmpRefIdeal.Gen.facts, Cert.Attn.Gen.facts, Cert.AttnIdeal.Gen.facts,
    fun m ρ _ => Cert.Ffn.Gen.frame m ρ, fun m ρ _ => Cert.FfnIdeal.Gen.frame m ρ,
    fun m ρ _ => (θ_run _ _ _).mono (fun r h => ⟨fun c => (h c).2, sem_eq_zero_of_no_sems (by decide) r.2⟩)
      (Cert.FfnRefIdeal.Value.run m ρ),
    fun m ρ _ => Cert.FfnTwo.Gen.frame m ρ, fun m ρ _ => Cert.FfnTwoIdeal.Gen.frame m ρ,
    fun m ρ _ => (θ_run _ _ _).mono (fun r h => ⟨fun c => (h c).2, sem_eq_zero_of_no_sems (by decide) r.2⟩)
      (Cert.FfnTwoRefIdeal.Value.run m ρ),
    Cert.NormMmProof.frame_bits, Cert.NormMmProof.frame_ideal, Cert.NormMmProof.frame_ref,
    Cert.NormMmTwoProof.frame_bits, Cert.NormMmTwoProof.frame_ideal, Cert.NormMmTwoProof.frame_ref,
    fun m ρ _ => Cert.Cmp.Gen.frame m ρ, fun m ρ _ => Cert.CmpIdeal.Gen.frame m ρ, Cert.CmpProof.frame_ref,
    Cert.AttnProof.frame_bits, Cert.AttnProof.frame_ideal,
    trivial, Cert.FfnProof.alg, trivial, Cert.FfnTwoProof.alg, trivial, Cert.NormMmProof.alg, trivial, Cert.NormMmTwoProof.alg,
    trivial, Cert.CmpProof.alg, trivial⟩

end Cert.Proof

end
